-- ==== Defs.lean ====
def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_qk_finite [hPre_qk_finite : Cert.Pre_qk_finite.Facts] (m : (ℓ : Loc Cert.AttnIdeal.nD Cert.AttnIdeal.τ Cert.AttnIdeal.sig) → Buf (Elt Ideal) ℓ) : Prop :=
  ∀ c : Dev Cert.AttnIdeal.nD,
    (Cert.Pre_qk_finite.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4)) (m ((c.tc : Thread Cert.AttnIdeal.nD Cert.AttnIdeal.τ).loc Cert.AttnIdeal.main_arg5)) (m ((c.tc : Thread Cert.AttnIdeal.nD Cert.AttnIdeal.τ).loc Cert.AttnIdeal.main_arg6))) = (fun _ => 1#1)

def Pre_AttnRefIdeal (m : (ℓ : Loc Cert.AttnRefIdeal.nD Cert.AttnRefIdeal.τ Cert.AttnRefIdeal.sig) → Buf (Elt Ideal) ℓ) : Prop :=
  True

def Pre_AttnRefIdeal_qk_finite [hPre_qk_finite : Cert.Pre_qk_finite.Facts] (m : (ℓ : Loc Cert.AttnRefIdeal.nD Cert.AttnRefIdeal.τ Cert.AttnRefIdeal.sig) → Buf (Elt Ideal) ℓ) : Prop :=
  ∀ c : Dev Cert.AttnRefIdeal.nD,
    (Cert.Pre_qk_finite.fn (F := Ideal) (m ((c.tc : Thread Cert.AttnRefIdeal.nD Cert.AttnRefIdeal.τ).loc Cert.AttnRefIdeal.main_arg0)) (m ((c.tc : Thread Cert.AttnRefIdeal.nD Cert.AttnRefIdeal.τ).loc Cert.AttnRefIdeal.main_arg1)) (m ((c.tc : Thread Cert.AttnRefIdeal.nD Cert.AttnRefIdeal.τ).loc Cert.AttnRefIdeal.main_arg2)) (m ((c.tc : Thread Cert.AttnRefIdeal.nD Cert.AttnRefIdeal.τ).loc Cert.AttnRefIdeal.main_arg3)) (m ((c.tc : Thread Cert.AttnRefIdeal.nD Cert.AttnRefIdeal.τ).loc Cert.AttnRefIdeal.main_arg4)) (m ((c.tc : Thread Cert.AttnRefIdeal.nD Cert.AttnRefIdeal.τ).loc Cert.AttnRefIdeal.main_arg5)) (m ((c.tc : Thread Cert.AttnRefIdeal.nD Cert.AttnRefIdeal.τ).loc Cert.AttnRefIdeal.main_arg6))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Combine (m : (ℓ : Loc Cert.Combine.nD Cert.Combine.τ Cert.Combine.sig) → Buf (Elt Bits) ℓ) : Prop :=
  True

def Pre_CombineIdeal (m : (ℓ : Loc Cert.CombineIdeal.nD Cert.CombineIdeal.τ Cert.CombineIdeal.sig) → Buf (Elt Ideal) ℓ) : Prop :=
  True

def Pre_CombineRefIdeal (m : (ℓ : Loc Cert.CombineRefIdeal.nD Cert.CombineRefIdeal.τ Cert.CombineRefIdeal.sig) → Buf (Elt Ideal) ℓ) : Prop :=
  True

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4)
      ∧ r.2.mem ((c.tc : Thread Cert.Attn.nD Cert.Attn.τ).loc Cert.Attn.main_arg5) = m ((c.tc : Thread Cert.Attn.nD Cert.Attn.τ).loc Cert.Attn.main_arg5)
      ∧ r.2.mem ((c.tc : Thread Cert.Attn.nD Cert.Attn.τ).loc Cert.Attn.main_arg6) = m ((c.tc : Thread Cert.Attn.nD Cert.Attn.τ).loc Cert.Attn.main_arg6))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnIdeal_pre_qk_finite [hAttnIdeal : Cert.AttnIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_qk_finite m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
      ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
      ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ r.2.sem = fun _ => 0)

def quiescent_AttnRefIdeal [hAttnRefIdeal : Cert.AttnRefIdeal.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_AttnRefIdeal_pre_qk_finite [hAttnRefIdeal : Cert.AttnRefIdeal.Facts] [hPre_qk_finite : Cert.Pre_qk_finite.Facts] : Prop :=
  ∀ (m : (ℓ : Loc Cert.AttnRefIdeal.nD Cert.AttnRefIdeal.τ Cert.AttnRefIdeal.sig) → Buf (Elt Ideal) ℓ) (g : Dev Cert.AttnRefIdeal.nD → PrngReg), Pre_AttnRefIdeal_qk_finite m →
    θ_run (Cert.AttnRefIdeal.defs (F := Ideal)) (onTc (τ := Cert.AttnRefIdeal.τ) (Cert.AttnRefIdeal.main (F := Ideal))) ⟨m, fun _ => 0, g⟩ (fun r => (∀ c : Dev Cert.AttnRefIdeal.nD,
      r.2.mem ((c.tc : Thread Cert.AttnRefIdeal.nD Cert.AttnRefIdeal.τ).loc Cert.AttnRefIdeal.main_arg0) = m ((c.tc : Thread Cert.AttnRefIdeal.nD Cert.AttnRefIdeal.τ).loc Cert.AttnRefIdeal.main_arg0)
      ∧ r.2.mem ((c.tc : Thread Cert.AttnRefIdeal.nD Cert.AttnRefIdeal.τ).loc Cert.AttnRefIdeal.main_arg1) = m ((c.tc : Thread Cert.AttnRefIdeal.nD Cert.AttnRefIdeal.τ).loc Cert.AttnRefIdeal.main_arg1)
      ∧ r.2.mem ((c.tc : Thread Cert.AttnRefIdeal.nD Cert.AttnRefIdeal.τ).loc Cert.AttnRefIdeal.main_arg2) = m ((c.tc : Thread Cert.AttnRefIdeal.nD Cert.AttnRefIdeal.τ).loc Cert.AttnRefIdeal.main_arg2)
      ∧ r.2.mem ((c.tc : Thread Cert.AttnRefIdeal.nD Cert.AttnRefIdeal.τ).loc Cert.AttnRefIdeal.main_arg3) = m ((c.tc : Thread Cert.AttnRefIdeal.nD Cert.AttnRefIdeal.τ).loc Cert.AttnRefIdeal.main_arg3)
      ∧ r.2.mem ((c.tc : Thread Cert.AttnRefIdeal.nD Cert.AttnRefIdeal.τ).loc Cert.AttnRefIdeal.main_arg4) = m ((c.tc : Thread Cert.AttnRefIdeal.nD Cert.AttnRefIdeal.τ).loc Cert.AttnRefIdeal.main_arg4)
      ∧ r.2.mem ((c.tc : Thread Cert.AttnRefIdeal.nD Cert.AttnRefIdeal.τ).loc Cert.AttnRefIdeal.main_arg5) = m ((c.tc : Thread Cert.AttnRefIdeal.nD Cert.AttnRefIdeal.τ).loc Cert.AttnRefIdeal.main_arg5)
      ∧ r.2.mem ((c.tc : Thread Cert.AttnRefIdeal.nD Cert.AttnRefIdeal.τ).loc Cert.AttnRefIdeal.main_arg6) = m ((c.tc : Thread Cert.AttnRefIdeal.nD Cert.AttnRefIdeal.τ).loc Cert.AttnRefIdeal.main_arg6))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2)
      ∧ r.2.mem ((c.tc : Thread Cert.InProj.nD Cert.InProj.τ).loc Cert.InProj.main_arg3) = m ((c.tc : Thread Cert.InProj.nD Cert.InProj.τ).loc Cert.InProj.main_arg3)
      ∧ r.2.mem ((c.tc : Thread Cert.InProj.nD Cert.InProj.τ).loc Cert.InProj.main_arg4) = m ((c.tc : Thread Cert.InProj.nD Cert.InProj.τ).loc Cert.InProj.main_arg4)
      ∧ r.2.mem ((c.tc : Thread Cert.InProj.nD Cert.InProj.τ).loc Cert.InProj.main_arg5) = m ((c.tc : Thread Cert.InProj.nD Cert.InProj.τ).loc Cert.InProj.main_arg5)
      ∧ r.2.mem ((c.tc : Thread Cert.InProj.nD Cert.InProj.τ).loc Cert.InProj.main_arg6) = m ((c.tc : Thread Cert.InProj.nD Cert.InProj.τ).loc Cert.InProj.main_arg6))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
      ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
      ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
      ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
      ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2)
      ∧ r.2.mem ((c.tc : Thread Cert.InProjRefIdeal.nD Cert.InProjRefIdeal.τ).loc Cert.InProjRefIdeal.main_arg3) = m ((c.tc : Thread Cert.InProjRefIdeal.nD Cert.InProjRefIdeal.τ).loc Cert.InProjRefIdeal.main_arg3)
      ∧ r.2.mem ((c.tc : Thread Cert.InProjRefIdeal.nD Cert.InProjRefIdeal.τ).loc Cert.InProjRefIdeal.main_arg4) = m ((c.tc : Thread Cert.InProjRefIdeal.nD Cert.InProjRefIdeal.τ).loc Cert.InProjRefIdeal.main_arg4)
      ∧ r.2.mem ((c.tc : Thread Cert.InProjRefIdeal.nD Cert.InProjRefIdeal.τ).loc Cert.InProjRefIdeal.main_arg5) = m ((c.tc : Thread Cert.InProjRefIdeal.nD Cert.InProjRefIdeal.τ).loc Cert.InProjRefIdeal.main_arg5)
      ∧ r.2.mem ((c.tc : Thread Cert.InProjRefIdeal.nD Cert.InProjRefIdeal.τ).loc Cert.InProjRefIdeal.main_arg6) = m ((c.tc : Thread Cert.InProjRefIdeal.nD Cert.InProjRefIdeal.τ).loc Cert.InProjRefIdeal.main_arg6))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_Combine [hCombine : Cert.Combine.Facts] : Prop :=
  ∀ (m : (ℓ : Loc Cert.Combine.nD Cert.Combine.τ Cert.Combine.sig) → Buf (Elt Bits) ℓ) (g : Dev Cert.Combine.nD → PrngReg), Pre_Combine m →
    θ_run (Cert.Combine.defs (F := Bits)) (onTc (τ := Cert.Combine.τ) (Cert.Combine.main (F := Bits))) ⟨m, fun _ => 0, g⟩ (fun r => (∀ c : Dev Cert.Combine.nD,
      r.2.mem ((c.tc : Thread Cert.Combine.nD Cert.Combine.τ).loc Cert.Combine.main_arg0) = m ((c.tc : Thread Cert.Combine.nD Cert.Combine.τ).loc Cert.Combine.main_arg0)
      ∧ r.2.mem ((c.tc : Thread Cert.Combine.nD Cert.Combine.τ).loc Cert.Combine.main_arg1) = m ((c.tc : Thread Cert.Combine.nD Cert.Combine.τ).loc Cert.Combine.main_arg1)
      ∧ r.2.mem ((c.tc : Thread Cert.Combine.nD Cert.Combine.τ).loc Cert.Combine.main_arg2) = m ((c.tc : Thread Cert.Combine.nD Cert.Combine.τ).loc Cert.Combine.main_arg2)
      ∧ r.2.mem ((c.tc : Thread Cert.Combine.nD Cert.Combine.τ).loc Cert.Combine.main_arg3) = m ((c.tc : Thread Cert.Combine.nD Cert.Combine.τ).loc Cert.Combine.main_arg3)
      ∧ r.2.mem ((c.tc : Thread Cert.Combine.nD Cert.Combine.τ).loc Cert.Combine.main_arg4) = m ((c.tc : Thread Cert.Combine.nD Cert.Combine.τ).loc Cert.Combine.main_arg4)
      ∧ r.2.mem ((c.tc : Thread Cert.Combine.nD Cert.Combine.τ).loc Cert.Combine.main_arg5) = m ((c.tc : Thread Cert.Combine.nD Cert.Combine.τ).loc Cert.Combine.main_arg5)
      ∧ r.2.mem ((c.tc : Thread Cert.Combine.nD Cert.Combine.τ).loc Cert.Combine.main_arg6) = m ((c.tc : Thread Cert.Combine.nD Cert.Combine.τ).loc Cert.Combine.main_arg6)
      ∧ r.2.mem ((c.tc : Thread Cert.Combine.nD Cert.Combine.τ).loc Cert.Combine.main_arg7) = m ((c.tc : Thread Cert.Combine.nD Cert.Combine.τ).loc Cert.Combine.main_arg7))
      ∧ r.2.sem = fun _ => 0)

def quiescent_CombineIdeal [hCombineIdeal : Cert.CombineIdeal.Facts] : Prop :=
  ∀ (m : (ℓ : Loc Cert.CombineIdeal.nD Cert.CombineIdeal.τ Cert.CombineIdeal.sig) → Buf (Elt Ideal) ℓ) (g : Dev Cert.CombineIdeal.nD → PrngReg), Pre_CombineIdeal m →
    θ_run (Cert.CombineIdeal.defs (F := Ideal)) (onTc (τ := Cert.CombineIdeal.τ) (Cert.CombineIdeal.main (F := Ideal))) ⟨m, fun _ => 0, g⟩ (fun r => (∀ c : Dev Cert.CombineIdeal.nD,
      r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
      ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
      ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
      ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
      ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
      ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
      ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
      ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ r.2.sem = fun _ => 0)

def quiescent_CombineRefIdeal [hCombineRefIdeal : Cert.CombineRefIdeal.Facts] : Prop :=
  ∀ (m : (ℓ : Loc Cert.CombineRefIdeal.nD Cert.CombineRefIdeal.τ Cert.CombineRefIdeal.sig) → Buf (Elt Ideal) ℓ) (g : Dev Cert.CombineRefIdeal.nD → PrngReg), Pre_CombineRefIdeal m →
    θ_run (Cert.CombineRefIdeal.defs (F := Ideal)) (onTc (τ := Cert.CombineRefIdeal.τ) (Cert.CombineRefIdeal.main (F := Ideal))) ⟨m, fun _ => 0, g⟩ (fun r => (∀ c : Dev Cert.CombineRefIdeal.nD,
      r.2.mem ((c.tc : Thread Cert.CombineRefIdeal.nD Cert.CombineRefIdeal.τ).loc Cert.CombineRefIdeal.main_arg0) = m ((c.tc : Thread Cert.CombineRefIdeal.nD Cert.CombineRefIdeal.τ).loc Cert.CombineRefIdeal.main_arg0)
      ∧ r.2.mem ((c.tc : Thread Cert.CombineRefIdeal.nD Cert.CombineRefIdeal.τ).loc Cert.CombineRefIdeal.main_arg1) = m ((c.tc : Thread Cert.CombineRefIdeal.nD Cert.CombineRefIdeal.τ).loc Cert.CombineRefIdeal.main_arg1)
      ∧ r.2.mem ((c.tc : Thread Cert.CombineRefIdeal.nD Cert.CombineRefIdeal.τ).loc Cert.CombineRefIdeal.main_arg2) = m ((c.tc : Thread Cert.CombineRefIdeal.nD Cert.CombineRefIdeal.τ).loc Cert.CombineRefIdeal.main_arg2)
      ∧ r.2.mem ((c.tc : Thread Cert.CombineRefIdeal.nD Cert.CombineRefIdeal.τ).loc Cert.CombineRefIdeal.main_arg3) = m ((c.tc : Thread Cert.CombineRefIdeal.nD Cert.CombineRefIdeal.τ).loc Cert.CombineRefIdeal.main_arg3)
      ∧ r.2.mem ((c.tc : Thread Cert.CombineRefIdeal.nD Cert.CombineRefIdeal.τ).loc Cert.CombineRefIdeal.main_arg4) = m ((c.tc : Thread Cert.CombineRefIdeal.nD Cert.CombineRefIdeal.τ).loc Cert.CombineRefIdeal.main_arg4)
      ∧ r.2.mem ((c.tc : Thread Cert.CombineRefIdeal.nD Cert.CombineRefIdeal.τ).loc Cert.CombineRefIdeal.main_arg5) = m ((c.tc : Thread Cert.CombineRefIdeal.nD Cert.CombineRefIdeal.τ).loc Cert.CombineRefIdeal.main_arg5)
      ∧ r.2.mem ((c.tc : Thread Cert.CombineRefIdeal.nD Cert.CombineRefIdeal.τ).loc Cert.CombineRefIdeal.main_arg6) = m ((c.tc : Thread Cert.CombineRefIdeal.nD Cert.CombineRefIdeal.τ).loc Cert.CombineRefIdeal.main_arg6)
      ∧ r.2.mem ((c.tc : Thread Cert.CombineRefIdeal.nD Cert.CombineRefIdeal.τ).loc Cert.CombineRefIdeal.main_arg7) = m ((c.tc : Thread Cert.CombineRefIdeal.nD Cert.CombineRefIdeal.τ).loc Cert.CombineRefIdeal.main_arg7))
      ∧ r.2.sem = fun _ => 0)

def preserves_Attn_AttnIdeal : Prop :=
  True

def algebraic_AttnIdeal_AttnRefIdeal_pre_qk_finite [hAttnIdeal : Cert.AttnIdeal.Facts] [hAttnRefIdeal : Cert.AttnRefIdeal.Facts] [hPre_qk_finite : Cert.Pre_qk_finite.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnRefIdeal.nD Cert.AttnRefIdeal.τ Cert.AttnRefIdeal.sig) → Buf (Elt Ideal) ℓ) (g' : Dev Cert.AttnRefIdeal.nD → PrngReg), Pre_AttnIdeal_qk_finite m →
    (∀ c : Dev Cert.AttnIdeal.nD,
      m' ((c.tc : Thread Cert.AttnRefIdeal.nD Cert.AttnRefIdeal.τ).loc Cert.AttnRefIdeal.main_arg0) = m ((c.tc : Thread Cert.AttnIdeal.nD Cert.AttnIdeal.τ).loc Cert.AttnIdeal.main_arg0)
      ∧ m' ((c.tc : Thread Cert.AttnRefIdeal.nD Cert.AttnRefIdeal.τ).loc Cert.AttnRefIdeal.main_arg1) = m ((c.tc : Thread Cert.AttnIdeal.nD Cert.AttnIdeal.τ).loc Cert.AttnIdeal.main_arg1)
      ∧ m' ((c.tc : Thread Cert.AttnRefIdeal.nD Cert.AttnRefIdeal.τ).loc Cert.AttnRefIdeal.main_arg2) = m ((c.tc : Thread Cert.AttnIdeal.nD Cert.AttnIdeal.τ).loc Cert.AttnIdeal.main_arg2)
      ∧ m' ((c.tc : Thread Cert.AttnRefIdeal.nD Cert.AttnRefIdeal.τ).loc Cert.AttnRefIdeal.main_arg3) = m ((c.tc : Thread Cert.AttnIdeal.nD Cert.AttnIdeal.τ).loc Cert.AttnIdeal.main_arg3)
      ∧ m' ((c.tc : Thread Cert.AttnRefIdeal.nD Cert.AttnRefIdeal.τ).loc Cert.AttnRefIdeal.main_arg4) = m ((c.tc : Thread Cert.AttnIdeal.nD Cert.AttnIdeal.τ).loc Cert.AttnIdeal.main_arg4)
      ∧ m' ((c.tc : Thread Cert.AttnRefIdeal.nD Cert.AttnRefIdeal.τ).loc Cert.AttnRefIdeal.main_arg5) = m ((c.tc : Thread Cert.AttnIdeal.nD Cert.AttnIdeal.τ).loc Cert.AttnIdeal.main_arg5)
      ∧ m' ((c.tc : Thread Cert.AttnRefIdeal.nD Cert.AttnRefIdeal.τ).loc Cert.AttnRefIdeal.main_arg6) = m ((c.tc : Thread Cert.AttnIdeal.nD Cert.AttnIdeal.τ).loc Cert.AttnIdeal.main_arg6)) →
    ∃ (v0 : (c : Dev Cert.AttnIdeal.nD) → Buf (Elt Ideal) ((c.tc : Thread Cert.AttnIdeal.nD Cert.AttnIdeal.τ).loc Cert.AttnIdeal.main_v8)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v8) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4)
          ∧ r.2.mem ((c.tc : Thread Cert.AttnIdeal.nD Cert.AttnIdeal.τ).loc Cert.AttnIdeal.main_arg5) = m ((c.tc : Thread Cert.AttnIdeal.nD Cert.AttnIdeal.τ).loc Cert.AttnIdeal.main_arg5)
          ∧ r.2.mem ((c.tc : Thread Cert.AttnIdeal.nD Cert.AttnIdeal.τ).loc Cert.AttnIdeal.main_arg6) = m ((c.tc : Thread Cert.AttnIdeal.nD Cert.AttnIdeal.τ).loc Cert.AttnIdeal.main_arg6))
      ∧ θ_run (Cert.AttnRefIdeal.defs (F := Ideal)) (onTc (τ := Cert.AttnRefIdeal.τ) (Cert.AttnRefIdeal.main (F := Ideal))) ⟨m', fun _ => 0, g'⟩ (fun r => ∀ c : Dev Cert.AttnRefIdeal.nD,
          r.2.mem ((c.tc : Thread Cert.AttnRefIdeal.nD Cert.AttnRefIdeal.τ).loc Cert.AttnRefIdeal.main_v25) = v0 c
          ∧ r.2.mem ((c.tc : Thread Cert.AttnRefIdeal.nD Cert.AttnRefIdeal.τ).loc Cert.AttnRefIdeal.main_arg0) = m' ((c.tc : Thread Cert.AttnRefIdeal.nD Cert.AttnRefIdeal.τ).loc Cert.AttnRefIdeal.main_arg0)
          ∧ r.2.mem ((c.tc : Thread Cert.AttnRefIdeal.nD Cert.AttnRefIdeal.τ).loc Cert.AttnRefIdeal.main_arg1) = m' ((c.tc : Thread Cert.AttnRefIdeal.nD Cert.AttnRefIdeal.τ).loc Cert.AttnRefIdeal.main_arg1)
          ∧ r.2.mem ((c.tc : Thread Cert.AttnRefIdeal.nD Cert.AttnRefIdeal.τ).loc Cert.AttnRefIdeal.main_arg2) = m' ((c.tc : Thread Cert.AttnRefIdeal.nD Cert.AttnRefIdeal.τ).loc Cert.AttnRefIdeal.main_arg2)
          ∧ r.2.mem ((c.tc : Thread Cert.AttnRefIdeal.nD Cert.AttnRefIdeal.τ).loc Cert.AttnRefIdeal.main_arg3) = m' ((c.tc : Thread Cert.AttnRefIdeal.nD Cert.AttnRefIdeal.τ).loc Cert.AttnRefIdeal.main_arg3)
          ∧ r.2.mem ((c.tc : Thread Cert.AttnRefIdeal.nD Cert.AttnRefIdeal.τ).loc Cert.AttnRefIdeal.main_arg4) = m' ((c.tc : Thread Cert.AttnRefIdeal.nD Cert.AttnRefIdeal.τ).loc Cert.AttnRefIdeal.main_arg4)
          ∧ r.2.mem ((c.tc : Thread Cert.AttnRefIdeal.nD Cert.AttnRefIdeal.τ).loc Cert.AttnRefIdeal.main_arg5) = m' ((c.tc : Thread Cert.AttnRefIdeal.nD Cert.AttnRefIdeal.τ).loc Cert.AttnRefIdeal.main_arg5)
          ∧ r.2.mem ((c.tc : Thread Cert.AttnRefIdeal.nD Cert.AttnRefIdeal.τ).loc Cert.AttnRefIdeal.main_arg6) = m' ((c.tc : Thread Cert.AttnRefIdeal.nD Cert.AttnRefIdeal.τ).loc Cert.AttnRefIdeal.main_arg6))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)
      ∧ m' ((c.tc : Thread Cert.InProjRefIdeal.nD Cert.InProjRefIdeal.τ).loc Cert.InProjRefIdeal.main_arg3) = m ((c.tc : Thread Cert.InProjIdeal.nD Cert.InProjIdeal.τ).loc Cert.InProjIdeal.main_arg3)
      ∧ m' ((c.tc : Thread Cert.InProjRefIdeal.nD Cert.InProjRefIdeal.τ).loc Cert.InProjRefIdeal.main_arg4) = m ((c.tc : Thread Cert.InProjIdeal.nD Cert.InProjIdeal.τ).loc Cert.InProjIdeal.main_arg4)
      ∧ m' ((c.tc : Thread Cert.InProjRefIdeal.nD Cert.InProjRefIdeal.τ).loc Cert.InProjRefIdeal.main_arg5) = m ((c.tc : Thread Cert.InProjIdeal.nD Cert.InProjIdeal.τ).loc Cert.InProjIdeal.main_arg5)
      ∧ m' ((c.tc : Thread Cert.InProjRefIdeal.nD Cert.InProjRefIdeal.τ).loc Cert.InProjRefIdeal.main_arg6) = m ((c.tc : Thread Cert.InProjIdeal.nD Cert.InProjIdeal.τ).loc Cert.InProjIdeal.main_arg6)) →
    ∃ (v0 : (c : Dev Cert.InProjIdeal.nD) → Buf (Elt Ideal) ((c.tc : Thread Cert.InProjIdeal.nD Cert.InProjIdeal.τ).loc Cert.InProjIdeal.main_v48)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v48) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2)
          ∧ r.2.mem ((c.tc : Thread Cert.InProjIdeal.nD Cert.InProjIdeal.τ).loc Cert.InProjIdeal.main_arg3) = m ((c.tc : Thread Cert.InProjIdeal.nD Cert.InProjIdeal.τ).loc Cert.InProjIdeal.main_arg3)
          ∧ r.2.mem ((c.tc : Thread Cert.InProjIdeal.nD Cert.InProjIdeal.τ).loc Cert.InProjIdeal.main_arg4) = m ((c.tc : Thread Cert.InProjIdeal.nD Cert.InProjIdeal.τ).loc Cert.InProjIdeal.main_arg4)
          ∧ r.2.mem ((c.tc : Thread Cert.InProjIdeal.nD Cert.InProjIdeal.τ).loc Cert.InProjIdeal.main_arg5) = m ((c.tc : Thread Cert.InProjIdeal.nD Cert.InProjIdeal.τ).loc Cert.InProjIdeal.main_arg5)
          ∧ r.2.mem ((c.tc : Thread Cert.InProjIdeal.nD Cert.InProjIdeal.τ).loc Cert.InProjIdeal.main_arg6) = m ((c.tc : Thread Cert.InProjIdeal.nD Cert.InProjIdeal.τ).loc Cert.InProjIdeal.main_arg6))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v138) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2)
          ∧ r.2.mem ((c.tc : Thread Cert.InProjRefIdeal.nD Cert.InProjRefIdeal.τ).loc Cert.InProjRefIdeal.main_arg3) = m' ((c.tc : Thread Cert.InProjRefIdeal.nD Cert.InProjRefIdeal.τ).loc Cert.InProjRefIdeal.main_arg3)
          ∧ r.2.mem ((c.tc : Thread Cert.InProjRefIdeal.nD Cert.InProjRefIdeal.τ).loc Cert.InProjRefIdeal.main_arg4) = m' ((c.tc : Thread Cert.InProjRefIdeal.nD Cert.InProjRefIdeal.τ).loc Cert.InProjRefIdeal.main_arg4)
          ∧ r.2.mem ((c.tc : Thread Cert.InProjRefIdeal.nD Cert.InProjRefIdeal.τ).loc Cert.InProjRefIdeal.main_arg5) = m' ((c.tc : Thread Cert.InProjRefIdeal.nD Cert.InProjRefIdeal.τ).loc Cert.InProjRefIdeal.main_arg5)
          ∧ r.2.mem ((c.tc : Thread Cert.InProjRefIdeal.nD Cert.InProjRefIdeal.τ).loc Cert.InProjRefIdeal.main_arg6) = m' ((c.tc : Thread Cert.InProjRefIdeal.nD Cert.InProjRefIdeal.τ).loc Cert.InProjRefIdeal.main_arg6))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v19)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v19) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v17) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_Combine_CombineIdeal : Prop :=
  True

def algebraic_CombineIdeal_CombineRefIdeal [hCombineIdeal : Cert.CombineIdeal.Facts] [hCombineRefIdeal : Cert.CombineRefIdeal.Facts] : Prop :=
  ∀ (m : (ℓ : Loc Cert.CombineIdeal.nD Cert.CombineIdeal.τ Cert.CombineIdeal.sig) → Buf (Elt Ideal) ℓ) (g : Dev Cert.CombineIdeal.nD → PrngReg)
    (m' : (ℓ : Loc Cert.CombineRefIdeal.nD Cert.CombineRefIdeal.τ Cert.CombineRefIdeal.sig) → Buf (Elt Ideal) ℓ) (g' : Dev Cert.CombineRefIdeal.nD → PrngReg), Pre_CombineIdeal m →
    (∀ c : Dev Cert.CombineIdeal.nD,
      m' ((c.tc : Thread Cert.CombineRefIdeal.nD Cert.CombineRefIdeal.τ).loc Cert.CombineRefIdeal.main_arg0) = m ((c.tc : Thread Cert.CombineIdeal.nD Cert.CombineIdeal.τ).loc Cert.CombineIdeal.main_arg0)
      ∧ m' ((c.tc : Thread Cert.CombineRefIdeal.nD Cert.CombineRefIdeal.τ).loc Cert.CombineRefIdeal.main_arg1) = m ((c.tc : Thread Cert.CombineIdeal.nD Cert.CombineIdeal.τ).loc Cert.CombineIdeal.main_arg1)
      ∧ m' ((c.tc : Thread Cert.CombineRefIdeal.nD Cert.CombineRefIdeal.τ).loc Cert.CombineRefIdeal.main_arg2) = m ((c.tc : Thread Cert.CombineIdeal.nD Cert.CombineIdeal.τ).loc Cert.CombineIdeal.main_arg2)
      ∧ m' ((c.tc : Thread Cert.CombineRefIdeal.nD Cert.CombineRefIdeal.τ).loc Cert.CombineRefIdeal.main_arg3) = m ((c.tc : Thread Cert.CombineIdeal.nD Cert.CombineIdeal.τ).loc Cert.CombineIdeal.main_arg3)
      ∧ m' ((c.tc : Thread Cert.CombineRefIdeal.nD Cert.CombineRefIdeal.τ).loc Cert.CombineRefIdeal.main_arg4) = m ((c.tc : Thread Cert.CombineIdeal.nD Cert.CombineIdeal.τ).loc Cert.CombineIdeal.main_arg4)
      ∧ m' ((c.tc : Thread Cert.CombineRefIdeal.nD Cert.CombineRefIdeal.τ).loc Cert.CombineRefIdeal.main_arg5) = m ((c.tc : Thread Cert.CombineIdeal.nD Cert.CombineIdeal.τ).loc Cert.CombineIdeal.main_arg5)
      ∧ m' ((c.tc : Thread Cert.CombineRefIdeal.nD Cert.CombineRefIdeal.τ).loc Cert.CombineRefIdeal.main_arg6) = m ((c.tc : Thread Cert.CombineIdeal.nD Cert.CombineIdeal.τ).loc Cert.CombineIdeal.main_arg6)
      ∧ m' ((c.tc : Thread Cert.CombineRefIdeal.nD Cert.CombineRefIdeal.τ).loc Cert.CombineRefIdeal.main_arg7) = m ((c.tc : Thread Cert.CombineIdeal.nD Cert.CombineIdeal.τ).loc Cert.CombineIdeal.main_arg7)) →
    ∃ (v0 : (c : Dev Cert.CombineIdeal.nD) → Buf (Elt Ideal) ((c.tc : Thread Cert.CombineIdeal.nD Cert.CombineIdeal.τ).loc Cert.CombineIdeal.main_v9)),
      θ_run (Cert.CombineIdeal.defs (F := Ideal)) (onTc (τ := Cert.CombineIdeal.τ) (Cert.CombineIdeal.main (F := Ideal))) ⟨m, fun _ => 0, g⟩ (fun r => ∀ c : Dev Cert.CombineIdeal.nD,
          r.2.mem ((c.tc : Thread Cert.CombineIdeal.nD Cert.CombineIdeal.τ).loc Cert.CombineIdeal.main_v9) = v0 c
          ∧ r.2.mem ((c.tc : Thread Cert.CombineIdeal.nD Cert.CombineIdeal.τ).loc Cert.CombineIdeal.main_arg0) = m ((c.tc : Thread Cert.CombineIdeal.nD Cert.CombineIdeal.τ).loc Cert.CombineIdeal.main_arg0)
          ∧ r.2.mem ((c.tc : Thread Cert.CombineIdeal.nD Cert.CombineIdeal.τ).loc Cert.CombineIdeal.main_arg1) = m ((c.tc : Thread Cert.CombineIdeal.nD Cert.CombineIdeal.τ).loc Cert.CombineIdeal.main_arg1)
          ∧ r.2.mem ((c.tc : Thread Cert.CombineIdeal.nD Cert.CombineIdeal.τ).loc Cert.CombineIdeal.main_arg2) = m ((c.tc : Thread Cert.CombineIdeal.nD Cert.CombineIdeal.τ).loc Cert.CombineIdeal.main_arg2)
          ∧ r.2.mem ((c.tc : Thread Cert.CombineIdeal.nD Cert.CombineIdeal.τ).loc Cert.CombineIdeal.main_arg3) = m ((c.tc : Thread Cert.CombineIdeal.nD Cert.CombineIdeal.τ).loc Cert.CombineIdeal.main_arg3)
          ∧ r.2.mem ((c.tc : Thread Cert.CombineIdeal.nD Cert.CombineIdeal.τ).loc Cert.CombineIdeal.main_arg4) = m ((c.tc : Thread Cert.CombineIdeal.nD Cert.CombineIdeal.τ).loc Cert.CombineIdeal.main_arg4)
          ∧ r.2.mem ((c.tc : Thread Cert.CombineIdeal.nD Cert.CombineIdeal.τ).loc Cert.CombineIdeal.main_arg5) = m ((c.tc : Thread Cert.CombineIdeal.nD Cert.CombineIdeal.τ).loc Cert.CombineIdeal.main_arg5)
          ∧ r.2.mem ((c.tc : Thread Cert.CombineIdeal.nD Cert.CombineIdeal.τ).loc Cert.CombineIdeal.main_arg6) = m ((c.tc : Thread Cert.CombineIdeal.nD Cert.CombineIdeal.τ).loc Cert.CombineIdeal.main_arg6)
          ∧ r.2.mem ((c.tc : Thread Cert.CombineIdeal.nD Cert.CombineIdeal.τ).loc Cert.CombineIdeal.main_arg7) = m ((c.tc : Thread Cert.CombineIdeal.nD Cert.CombineIdeal.τ).loc Cert.CombineIdeal.main_arg7))
      ∧ θ_run (Cert.CombineRefIdeal.defs (F := Ideal)) (onTc (τ := Cert.CombineRefIdeal.τ) (Cert.CombineRefIdeal.main (F := Ideal))) ⟨m', fun _ => 0, g'⟩ (fun r => ∀ c : Dev Cert.CombineRefIdeal.nD,
          r.2.mem ((c.tc : Thread Cert.CombineRefIdeal.nD Cert.CombineRefIdeal.τ).loc Cert.CombineRefIdeal.main_v15) = v0 c
          ∧ r.2.mem ((c.tc : Thread Cert.CombineRefIdeal.nD Cert.CombineRefIdeal.τ).loc Cert.CombineRefIdeal.main_arg0) = m' ((c.tc : Thread Cert.CombineRefIdeal.nD Cert.CombineRefIdeal.τ).loc Cert.CombineRefIdeal.main_arg0)
          ∧ r.2.mem ((c.tc : Thread Cert.CombineRefIdeal.nD Cert.CombineRefIdeal.τ).loc Cert.CombineRefIdeal.main_arg1) = m' ((c.tc : Thread Cert.CombineRefIdeal.nD Cert.CombineRefIdeal.τ).loc Cert.CombineRefIdeal.main_arg1)
          ∧ r.2.mem ((c.tc : Thread Cert.CombineRefIdeal.nD Cert.CombineRefIdeal.τ).loc Cert.CombineRefIdeal.main_arg2) = m' ((c.tc : Thread Cert.CombineRefIdeal.nD Cert.CombineRefIdeal.τ).loc Cert.CombineRefIdeal.main_arg2)
          ∧ r.2.mem ((c.tc : Thread Cert.CombineRefIdeal.nD Cert.CombineRefIdeal.τ).loc Cert.CombineRefIdeal.main_arg3) = m' ((c.tc : Thread Cert.CombineRefIdeal.nD Cert.CombineRefIdeal.τ).loc Cert.CombineRefIdeal.main_arg3)
          ∧ r.2.mem ((c.tc : Thread Cert.CombineRefIdeal.nD Cert.CombineRefIdeal.τ).loc Cert.CombineRefIdeal.main_arg4) = m' ((c.tc : Thread Cert.CombineRefIdeal.nD Cert.CombineRefIdeal.τ).loc Cert.CombineRefIdeal.main_arg4)
          ∧ r.2.mem ((c.tc : Thread Cert.CombineRefIdeal.nD Cert.CombineRefIdeal.τ).loc Cert.CombineRefIdeal.main_arg5) = m' ((c.tc : Thread Cert.CombineRefIdeal.nD Cert.CombineRefIdeal.τ).loc Cert.CombineRefIdeal.main_arg5)
          ∧ r.2.mem ((c.tc : Thread Cert.CombineRefIdeal.nD Cert.CombineRefIdeal.τ).loc Cert.CombineRefIdeal.main_arg6) = m' ((c.tc : Thread Cert.CombineRefIdeal.nD Cert.CombineRefIdeal.τ).loc Cert.CombineRefIdeal.main_arg6)
          ∧ r.2.mem ((c.tc : Thread Cert.CombineRefIdeal.nD Cert.CombineRefIdeal.τ).loc Cert.CombineRefIdeal.main_arg7) = m' ((c.tc : Thread Cert.CombineRefIdeal.nD Cert.CombineRefIdeal.τ).loc Cert.CombineRefIdeal.main_arg7))

def Claim : Prop :=
  ∃ (hAttn : Cert.Attn.Facts) (hAttnIdeal : Cert.AttnIdeal.Facts) (hAttnRefIdeal : Cert.AttnRefIdeal.Facts) (hInProj : Cert.InProj.Facts) (hInProjIdeal : Cert.InProjIdeal.Facts) (hInProjRefIdeal : Cert.InProjRefIdeal.Facts) (hMerge : Cert.Merge.Facts) (hMergeIdeal : Cert.MergeIdeal.Facts) (hMergeRefIdeal : Cert.MergeRefIdeal.Facts) (hCombine : Cert.Combine.Facts) (hCombineIdeal : Cert.CombineIdeal.Facts) (hCombineRefIdeal : Cert.CombineRefIdeal.Facts) (hPre_qk_finite : Cert.Pre_qk_finite.Facts),
    quiescent_Attn (hAttn := hAttn)
    ∧ quiescent_AttnIdeal (hAttnIdeal := hAttnIdeal)
    ∧ quiescent_AttnIdeal_pre_qk_finite (hAttnIdeal := hAttnIdeal) (hPre_qk_finite := hPre_qk_finite)
    ∧ quiescent_AttnRefIdeal (hAttnRefIdeal := hAttnRefIdeal)
    ∧ quiescent_AttnRefIdeal_pre_qk_finite (hAttnRefIdeal := hAttnRefIdeal) (hPre_qk_finite := hPre_qk_finite)
    ∧ quiescent_InProj (hInProj := hInProj)
    ∧ quiescent_InProjIdeal (hInProjIdeal := hInProjIdeal)
    ∧ quiescent_InProjRefIdeal (hInProjRefIdeal := hInProjRefIdeal)
    ∧ quiescent_Merge (hMerge := hMerge)
    ∧ quiescent_MergeIdeal (hMergeIdeal := hMergeIdeal)
    ∧ quiescent_MergeRefIdeal (hMergeRefIdeal := hMergeRefIdeal)
    ∧ quiescent_Combine (hCombine := hCombine)
    ∧ quiescent_CombineIdeal (hCombineIdeal := hCombineIdeal)
    ∧ quiescent_CombineRefIdeal (hCombineRefIdeal := hCombineRefIdeal)
    ∧ preserves_Attn_AttnIdeal
    ∧ algebraic_AttnIdeal_AttnRefIdeal_pre_qk_finite (hAttnIdeal := hAttnIdeal) (hAttnRefIdeal := hAttnRefIdeal) (hPre_qk_finite := hPre_qk_finite)
    ∧ preserves_InProj_InProjIdeal
    ∧ algebraic_InProjIdeal_InProjRefIdeal (hInProjIdeal := hInProjIdeal) (hInProjRefIdeal := hInProjRefIdeal)
    ∧ preserves_Merge_MergeIdeal
    ∧ algebraic_MergeIdeal_MergeRefIdeal (hMergeIdeal := hMergeIdeal) (hMergeRefIdeal := hMergeRefIdeal)
    ∧ preserves_Combine_CombineIdeal
    ∧ algebraic_CombineIdeal_CombineRefIdeal (hCombineIdeal := hCombineIdeal) (hCombineRefIdeal := hCombineRefIdeal)
-- ==== Pre_qk_finite.lean ====
abbrev S8192x1024 : Shape := ⟨2, ![8192, 1024]⟩
abbrev S8192x2048 : Shape := ⟨2, ![8192, 2048]⟩
abbrev S8192x512 : Shape := ⟨2, ![8192, 512]⟩
abbrev S8192x4096 : Shape := ⟨2, ![8192, 4096]⟩
abbrev S512x512 : Shape := ⟨2, ![512, 512]⟩
abbrev S_ : Shape := ⟨0, ![]⟩

class Facts : Prop where
  bcast_S_S8192x2048 : S_.BroadcastsInDim S8192x2048 (![] : Fin 0 → Fin S8192x2048.rank)
  reducesTo_S8192x2048_S_d0_1 : S8192x2048.ReducesTo [0, 1] S_
  h_S_ : 0 < S_.numel
  bcast_S_S8192x512 : S_.BroadcastsInDim S8192x512 (![] : Fin 0 → Fin S8192x512.rank)
  reducesTo_S8192x512_S_d0_1 : S8192x512.ReducesTo [0, 1] S_
  bcast_S_S512x512 : S_.BroadcastsInDim S512x512 (![] : Fin 0 → Fin S512x512.rank)
  reducesTo_S512x512_S_d0_1 : S512x512.ReducesTo [0, 1] S_

variable [Facts]

def fn {F : FTy → Type} [FloatOps F] (main_arg0 : FVec F S8192x1024 .f32) (main_arg1 : FVec F S8192x2048 .f32) (main_arg2 : FVec F S8192x512 .f32) (main_arg3 : FVec F S8192x512 .f32) (main_arg4 : FVec F S8192x4096 .f32) (main_arg5 : FVec F S512x512 .f32) (main_arg6 : FVec F S512x512 .f32) : IVec S_ 1 :=
  let main_v0 : FVec F S8192x2048 .f32 := Host.absf main_arg1
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_c : IVec S_ 1 := constantI S_ 1 1#1
  let main_v3 : IVec S_ 1 := (fun x v => Host.reduce IntOp.andi x v reducesTo_S8192x2048_S_d0_1 h_S_) main_v2 main_c
  let main_v4 : FVec F S8192x512 .f32 := Host.absf main_arg2
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S512x512 .f32 := Host.absf main_arg5
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  main_v13
-- ==== Attn.lean ====
abbrev S8192x1024 : Shape := ⟨2, ![8192, 1024]⟩
abbrev S8192x2048 : Shape := ⟨2, ![8192, 2048]⟩
abbrev S8192x512 : Shape := ⟨2, ![8192, 512]⟩
abbrev S8192x4096 : Shape := ⟨2, ![8192, 4096]⟩
abbrev S512x512 : Shape := ⟨2, ![512, 512]⟩
abbrev S_ : Shape := ⟨0, ![]⟩
abbrev S8192x8192 : Shape := ⟨2, ![8192, 8192]⟩
abbrev S512x1024 : Shape := ⟨2, ![512, 1024]⟩
abbrev S4096x128 : Shape := ⟨2, ![4096, 128]⟩
abbrev S256x128 : Shape := ⟨2, ![256, 128]⟩
abbrev S8x128x512 : Shape := ⟨3, ![8, 128, 512]⟩
abbrev S128x256 : Shape := ⟨2, ![128, 256]⟩
abbrev S512x128 : Shape := ⟨2, ![512, 128]⟩
abbrev S128x512 : Shape := ⟨2, ![128, 512]⟩
abbrev S1x128x512 : Shape := ⟨3, ![1, 128, 512]⟩
abbrev S2048x128 : Shape := ⟨2, ![2048, 128]⟩
abbrev S128x2048 : Shape := ⟨2, ![128, 2048]⟩
abbrev S1x2048 : Shape := ⟨2, ![1, 2048]⟩
abbrev S512x2048 : Shape := ⟨2, ![512, 2048]⟩
abbrev S2048 : Shape := ⟨1, ![2048]⟩
abbrev S256x2048 : Shape := ⟨2, ![256, 2048]⟩

abbrev nBuf : Space → Nat
  | .hbm => 18
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S8192x512, .f32⟩
  | .hbm, ⟨4, _⟩ => ⟨S8192x4096, .f32⟩
  | .hbm, ⟨5, _⟩ => ⟨S512x512, .f32⟩
  | .hbm, ⟨6, _⟩ => ⟨S512x512, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S8192x8192, .f32⟩
  | .hbm, ⟨14, _⟩ => ⟨S8192x8192, .bf16⟩
  | .hbm, ⟨15, _⟩ => ⟨S512x1024, .f32⟩
  | .hbm, ⟨16, _⟩ => ⟨S512x1024, .bf16⟩
  | .hbm, ⟨17, _⟩ => ⟨S8192x2048, .bf16⟩
  | .local _ .vmem, ⟨0, _⟩ => ⟨S512x512, .bf16⟩
  | .local _ .vmem, ⟨1, _⟩ => ⟨S512x512, .bf16⟩
  | .local _ .vmem, ⟨2, _⟩ => ⟨S4096x128, .bf16⟩
  | .local _ .vmem, ⟨3, _⟩ => ⟨S4096x128, .bf16⟩
  | .local _ .vmem, ⟨4, _⟩ => ⟨S4096x128, .bf16⟩
  | .local _ .vmem, ⟨5, _⟩ => ⟨S4096x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S512x512, .bf16⟩
  | .local _ .vmem, ⟨11, _⟩ => ⟨S512x512, .bf16⟩
  | .local _ .vmem, ⟨12, _⟩ => ⟨S8x128x512, .bf16⟩
  | .local _ .vmem, ⟨13, _⟩ => ⟨S128x256, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![2, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c2_i32 : BitVec 32 := 2#32
  let v2 : BitVec 32 := Scalar.addi c2_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c24_i32 : BitVec 32 := 24#32
  let v0 : BitVec 32 := Scalar.addi c24_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c28_i32 : BitVec 32 := 28#32
  let v0 : BitVec 32 := Scalar.addi c28_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.addi c4_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S4096x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== AttnRefIdeal.lean ====
abbrev S8192x1024 : Shape := ⟨2, ![8192, 1024]⟩
abbrev S8192x2048 : Shape := ⟨2, ![8192, 2048]⟩
abbrev S8192x512 : Shape := ⟨2, ![8192, 512]⟩
abbrev S8192x4096 : Shape := ⟨2, ![8192, 4096]⟩
abbrev S512x512 : Shape := ⟨2, ![512, 512]⟩
abbrev S2x4096x4x4x128 : Shape := ⟨5, ![2, 4096, 4, 4, 128]⟩
abbrev S2x4096x4x128 : Shape := ⟨4, ![2, 4096, 4, 128]⟩
abbrev S2x256x4x128 : Shape := ⟨4, ![2, 256, 4, 128]⟩
abbrev S2x4352x4x128 : Shape := ⟨4, ![2, 4352, 4, 128]⟩
abbrev S2x4x4352x4096x4 : Shape := ⟨5, ![2, 4, 4352, 4096, 4]⟩
abbrev S2x4x4x4096x4352 : Shape := ⟨5, ![2, 4, 4, 4096, 4352]⟩
abbrev S_ : Shape := ⟨0, ![]⟩
abbrev S2x4x4x4096 : Shape := ⟨4, ![2, 4, 4, 4096]⟩
abbrev S2x4x4x4096x1 : Shape := ⟨5, ![2, 4, 4, 4096, 1]⟩
abbrev S2x4x128x4x4096 : Shape := ⟨5, ![2, 4, 128, 4, 4096]⟩

abbrev nBuf : Space → Nat
  | .hbm => 37
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x512, .f32⟩
  | .hbm, ⟨3, _⟩ => ⟨S8192x512, .f32⟩
  | .hbm, ⟨4, _⟩ => ⟨S8192x4096, .f32⟩
  | .hbm, ⟨5, _⟩ => ⟨S512x512, .f32⟩
  | .hbm, ⟨6, _⟩ => ⟨S512x512, .f32⟩
  | .hbm, ⟨7, _⟩ => ⟨S2x4096x4x4x128, .f32⟩
  | .hbm, ⟨8, _⟩ => ⟨S2x4096x4x128, .f32⟩
  | .hbm, ⟨9, _⟩ => ⟨S2x256x4x128, .f32⟩
  | .hbm, ⟨10, _⟩ => ⟨S2x4352x4x128, .f32⟩
  | .hbm, ⟨11, _⟩ => ⟨S2x4096x4x128, .f32⟩
  | .hbm, ⟨12, _⟩ => ⟨S2x256x4x128, .f32⟩
  | .hbm, ⟨13, _⟩ => ⟨S2x4352x4x128, .f32⟩
  | .hbm, ⟨14, _⟩ => ⟨S2x4x4352x4096x4, .f32⟩
  | .hbm, ⟨15, _⟩ => ⟨S2x4x4x4096x4352, .f32⟩
  | .hbm, ⟨16, _⟩ => ⟨S_, .f32⟩
  | .hbm, ⟨17, _⟩ => ⟨S2x4x4x4096x4352, .f32⟩
  | .hbm, ⟨18, _⟩ => ⟨S2x4x4x4096x4352, .f32⟩
  | .hbm, ⟨19, _⟩ => ⟨S_, .f32⟩
  | .hbm, ⟨20, _⟩ => ⟨S2x4x4x4096, .f32⟩
  | .hbm, ⟨21, _⟩ => ⟨S_, .f32⟩
  | .hbm, ⟨22, _⟩ => ⟨S2x4x4x4096, .f32⟩
  | .hbm, ⟨23, _⟩ => ⟨S2x4x4x4096, .f32⟩
  | .hbm, ⟨24, _⟩ => ⟨S2x4x4x4096x1, .f32⟩
  | .hbm, ⟨25, _⟩ => ⟨S2x4x4x4096x4352, .f32⟩
  | .hbm, ⟨26, _⟩ => ⟨S2x4x4x4096x4352, .f32⟩
  | .hbm, ⟨27, _⟩ => ⟨S2x4x4x4096x4352, .f32⟩
  | .hbm, ⟨28, _⟩ => ⟨S_, .f32⟩
  | .hbm, ⟨29, _⟩ => ⟨S2x4x4x4096, .f32⟩
  | .hbm, ⟨30, _⟩ => ⟨S2x4x4x4096x1, .f32⟩
  | .hbm, ⟨31, _⟩ => ⟨S2x4x4x4096x4352, .f32⟩
  | .hbm, ⟨32, _⟩ => ⟨S2x4x4x4096x4352, .f32⟩
  | .hbm, ⟨33, _⟩ => ⟨S2x4x128x4x4096, .f32⟩
  | .hbm, ⟨34, _⟩ => ⟨S2x4096x4x4x128, .f32⟩
  | .hbm, ⟨35, _⟩ => ⟨S8192x2048, .f32⟩
  | .hbm, ⟨36, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst : Ref sig .tc := ⟨.hbm, 16, rfl⟩
abbrev main_v9 : Ref sig .tc := ⟨.hbm, 17, rfl⟩
abbrev main_v10 : Ref sig .tc := ⟨.hbm, 18, rfl⟩
abbrev main_cst_0 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩

abbrev nD : Nat := 1
abbrev τ : Topo := Topo.v7x

variable {F : FTy → Type} [FloatOps F]
-- ==== InProj.lean ====
abbrev S2x4096x2048 : Shape := ⟨3, ![2, 4096, 2048]⟩
abbrev S2x1x2048 : Shape := ⟨3, ![2, 1, 2048]⟩
abbrev S2048 : Shape := ⟨1, ![2048]⟩
abbrev S2048x8192 : Shape := ⟨2, ![2048, 8192]⟩
abbrev S128 : Shape := ⟨1, ![128]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S4096x2 : Shape := ⟨2, ![4096, 2]⟩
abbrev S32 : Shape := ⟨1, ![32]⟩
abbrev S_ : Shape := ⟨0, ![]⟩
abbrev S4096x2x1 : Shape := ⟨3, ![4096, 2, 1]⟩
abbrev S1x1x32 : Shape := ⟨3, ![1, 1, 32]⟩
abbrev S4096x2x32 : Shape := ⟨3, ![4096, 2, 32]⟩
abbrev S4096x1x32 : Shape := ⟨3, ![4096, 1, 32]⟩
abbrev S4096x32 : Shape := ⟨2, ![4096, 32]⟩
abbrev S4096x128 : Shape := ⟨2, ![4096, 128]⟩
abbrev S8192x2048 : Shape := ⟨2, ![8192, 2048]⟩
abbrev S1x2048 : Shape := ⟨2, ![1, 2048]⟩
abbrev S1x128 : Shape := ⟨2, ![1, 128]⟩
abbrev S8192x8192 : Shape := ⟨2, ![8192, 8192]⟩
abbrev S1024x2048 : Shape := ⟨2, ![1024, 2048]⟩
abbrev S1x1x2048 : Shape := ⟨3, ![1, 1, 2048]⟩
abbrev S2048x512 : Shape := ⟨2, ![2048, 512]⟩
abbrev S1024x128 : Shape := ⟨2, ![1024, 128]⟩
abbrev S1024x512 : Shape := ⟨2, ![1024, 512]⟩
abbrev S1024 : Shape := ⟨1, ![1024]⟩
abbrev S1024x1 : Shape := ⟨2, ![1024, 1]⟩
abbrev S2048x256 : Shape := ⟨2, ![2048, 256]⟩
abbrev S1024x256 : Shape := ⟨2, ![1024, 256]⟩

abbrev nBuf : Space → Nat
  | .hbm => 58
  | .vmem => 20
  | .smem => 0
  | _ => 0

abbrev bufTy : (tb : Table) → Fin (tcTables nBuf tb) → BufTy
  | .hbm, ⟨0, _⟩ => ⟨S2x4096x2048, .f32⟩
  | .hbm, ⟨1, _⟩ => ⟨S2x1x2048, .f32⟩
  | .hbm, ⟨2, _⟩ => ⟨S2x1x2048, .f32⟩
  | .hbm, ⟨3, _⟩ => ⟨S2048, .f32⟩
  | .hbm, ⟨4, _⟩ => ⟨S2048x8192, .f32⟩
  | .hbm, ⟨5, _⟩ => ⟨S128, .f32⟩
  | .hbm, ⟨6, _⟩ => ⟨S128, .f32⟩
  | .hbm, ⟨7, _⟩ => ⟨S64, .i32⟩
  | .hbm, ⟨8, _⟩ => ⟨S64x64, .i32⟩
  | .hbm, ⟨9, _⟩ => ⟨S4096, .i32⟩
  | .hbm, ⟨10, _⟩ => ⟨S64, .i32⟩
  | .hbm, ⟨11, _⟩ => ⟨S1x64, .i32⟩
  | .hbm, ⟨12, _⟩ => ⟨S64x64, .i32⟩
  | .hbm, ⟨13, _⟩ => ⟨S4096, .i32⟩
  | .hbm, ⟨14, _⟩ => ⟨S4096x1, .i32⟩
  | .hbm, ⟨15, _⟩ => ⟨S4096x1, .i32⟩
  | .hbm, ⟨16, _⟩ => ⟨S4096x2, .i32⟩
  | .hbm, ⟨17, _⟩ => ⟨S4096x2, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S_, .f32⟩
  | .hbm, ⟨24, _⟩ => ⟨S32, .f32⟩
  | .hbm, ⟨25, _⟩ => ⟨S32, .f32⟩
  | .hbm, ⟨26, _⟩ => ⟨S4096x2x1, .f32⟩
  | .hbm, ⟨27, _⟩ => ⟨S1x1x32, .f32⟩
  | .hbm, ⟨28, _⟩ => ⟨S4096x2x32, .f32⟩
  | .hbm, ⟨29, _⟩ => ⟨S4096x2x32, .f32⟩
  | .hbm, ⟨30, _⟩ => ⟨S4096x2x32, .f32⟩
  | .hbm, ⟨31, _⟩ => ⟨S4096x2x32, .f32⟩
  | .hbm, ⟨32, _⟩ => ⟨S4096x2x32, .f32⟩
  | .hbm, ⟨33, _⟩ => ⟨S4096x1x32, .f32⟩
  | .hbm, ⟨34, _⟩ => ⟨S4096x32, .f32⟩
  | .hbm, ⟨35, _⟩ => ⟨S4096x1x32, .f32⟩
  | .hbm, ⟨36, _⟩ => ⟨S4096x32, .f32⟩
  | .hbm, ⟨37, _⟩ => ⟨S4096x1x32, .f32⟩
  | .hbm, ⟨38, _⟩ => ⟨S4096x32, .f32⟩
  | .hbm, ⟨39, _⟩ => ⟨S4096x1x32, .f32⟩
  | .hbm, ⟨40, _⟩ => ⟨S4096x32, .f32⟩
  | .hbm, ⟨41, _⟩ => ⟨S4096x128, .f32⟩
  | .hbm, ⟨42, _⟩ => ⟨S4096x1x32, .f32⟩
  | .hbm, ⟨43, _⟩ => ⟨S4096x32, .f32⟩
  | .hbm, ⟨44, _⟩ => ⟨S4096x32, .f32⟩
  | .hbm, ⟨45, _⟩ => ⟨S4096x1x32, .f32⟩
  | .hbm, ⟨46, _⟩ => ⟨S4096x32, .f32⟩
  | .hbm, ⟨47, _⟩ => ⟨S4096x1x32, .f32⟩
  | .hbm, ⟨48, _⟩ => ⟨S4096x32, .f32⟩
  | .hbm, ⟨49, _⟩ => ⟨S4096x32, .f32⟩
  | .hbm, ⟨50, _⟩ => ⟨S4096x1x32, .f32⟩
  | .hbm, ⟨51, _⟩ => ⟨S4096x32, .f32⟩
  | .hbm, ⟨52, _⟩ => ⟨S4096x128, .f32⟩
  | .hbm, ⟨53, _⟩ => ⟨S8192x2048, .f32⟩
  | .hbm, ⟨54, _⟩ => ⟨S1x2048, .f32⟩
  | .hbm, ⟨55, _⟩ => ⟨S1x128, .f32⟩
  | .hbm, ⟨56, _⟩ => ⟨S1x128, .f32⟩
  | .hbm, ⟨57, _⟩ => ⟨S8192x8192, .bf16⟩
  | .local _ .vmem, ⟨0, _⟩ => ⟨S1024x2048, .f32⟩
  | .local _ .vmem, ⟨1, _⟩ => ⟨S1024x2048, .f32⟩
  | .local _ .vmem, ⟨2, _⟩ => ⟨S1x1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x2048, .f32⟩
  | .local _ .vmem, ⟨7, _⟩ => ⟨S2048x512, .f32⟩
  | .local _ .vmem, ⟨8, _⟩ => ⟨S2048x512, .f32⟩
  | .local _ .vmem, ⟨9, _⟩ => ⟨S1x128, .f32⟩
  | .local _ .vmem, ⟨10, _⟩ => ⟨S1x128, .f32⟩
  | .local _ .vmem, ⟨11, _⟩ => ⟨S1024x128, .f32⟩
  | .local _ .vmem, ⟨12, _⟩ => ⟨S1024x128, .f32⟩
  | .local _ .vmem, ⟨13, _⟩ => ⟨S1024x128, .f32⟩
  | .local _ .vmem, ⟨14, _⟩ => ⟨S1024x128, .f32⟩
  | .local _ .vmem, ⟨15, _⟩ => ⟨S1024x512, .bf16⟩
  | .local _ .vmem, ⟨16, _⟩ => ⟨S1024x512, .bf16⟩
  | .local _ .vmem, ⟨17, _⟩ => ⟨S1024x2048, .bf16⟩
  | .local _ .vmem, ⟨18, _⟩ => ⟨S2048x512, .bf16⟩
  | .local _ .vmem, ⟨19, _⟩ => ⟨S1024x512, .f32⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_v40 : Ref sig .tc := ⟨.hbm, 49, rfl⟩
abbrev main_v41 : Ref sig .tc := ⟨.hbm, 50, rfl⟩
abbrev main_v42 : Ref sig .tc := ⟨.hbm, 51, rfl⟩
abbrev main_v43 : Ref sig .tc := ⟨.hbm, 52, rfl⟩
abbrev main_v44 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_scratch0 : Ref sig .tc := ⟨.vmem, 17, rfl⟩
abbrev cc0_scratch1 : Ref sig .tc := ⟨.vmem, 18, rfl⟩
abbrev cc0_scratch2 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨2, ![8, 16], ![false, false]⟩

def k0_cond2 (i : grid0.Coords) : BitVec 1 :=
  let v_false : BitVec 1 := 0#1
  let arg1 : BitVec 32 := BitVec.ofNat 32 (i 1).val
  let c8_i32 : BitVec 32 := 8#32
  let v8 : BitVec 1 := Scalar.cmpi .sge arg1 c8_i32
  let c16_i32 : BitVec 32 := 16#32
  let v9 : BitVec 1 := Scalar.cmpi .slt arg1 c16_i32
  let v10 : BitVec 1 := Scalar.andi v8 v9
  let v11 : BitVec 1 := Scalar.ori v_false v10
  let v12 : BitVec 32 := Scalar.extui v11
  let c0_i32_4 : BitVec 32 := 0#32
  let v13 : BitVec 1 := Scalar.cmpi .ne v12 c0_i32_4
  v13

def k0_cond4 (i : grid0.Coords) : BitVec 1 :=
  let arg1 : BitVec 32 := BitVec.ofNat 32 (i 1).val
  let c0_i32_6 : BitVec 32 := 0#32
  let v17 : BitVec 1 := Scalar.cmpi .sge arg1 c0_i32_6
  let c2_i32 : BitVec 32 := 2#32
  let v18 : BitVec 1 := Scalar.cmpi .slt arg1 c2_i32
  let v19 : BitVec 1 := Scalar.andi v17 v18
  let v20 : BitVec 32 := Scalar.extui v19
  let c0_i32_7 : BitVec 32 := 0#32
  let v21 : BitVec 1 := Scalar.cmpi .ne v20 c0_i32_7
  v21

def k0_cond5 (i : grid0.Coords) : BitVec 1 :=
  let arg1 : BitVec 32 := BitVec.ofNat 32 (i 1).val
  let c2_i32_8 : BitVec 32 := 2#32
  let v22 : BitVec 1 := Scalar.cmpi .sge arg1 c2_i32_8
  let c6_i32 : BitVec 32 := 6#32
  let v23 : BitVec 1 := Scalar.cmpi .slt arg1 c6_i32
  let v24 : BitVec 1 := Scalar.andi v22 v23
  let v25 : BitVec 32 := Scalar.extui v24
  let c0_i32_9 : BitVec 32 := 0#32
  let v26 : BitVec 1 := Scalar.cmpi .ne v25 c0_i32_9
  v26

def k0_cond6 (i : grid0.Coords) : BitVec 1 :=
  let arg1 : BitVec 32 := BitVec.ofNat 32 (i 1).val
  let c6_i32_10 : BitVec 32 := 6#32
  let v27 : BitVec 1 := Scalar.cmpi .sge arg1 c6_i32_10
  let c7_i32 : BitVec 32 := 7#32
  let v28 : BitVec 1 := Scalar.cmpi .slt arg1 c7_i32
  let v29 : BitVec 1 := Scalar.andi v27 v28
  let v30 : BitVec 32 := Scalar.extui v29
  let c0_i32_11 : BitVec 32 := 0#32
  let v31 : BitVec 1 := Scalar.cmpi .ne v30 c0_i32_11
  v31

def k0_cond7 (i : grid0.Coords) : BitVec 1 :=
  let arg1 : BitVec 32 := BitVec.ofNat 32 (i 1).val
  let c7_i32_12 : BitVec 32 := 7#32
  let v32 : BitVec 1 := Scalar.cmpi .sge arg1 c7_i32_12
  let c8_i32_13 : BitVec 32 := 8#32
  let v33 : BitVec 1 := Scalar.cmpi .slt arg1 c8_i32_13
  let v34 : BitVec 1 := Scalar.andi v32 v33
  let v35 : BitVec 32 := Scalar.extui v34
  let c0_i32_14 : BitVec 32 := 0#32
  let v36 : BitVec 1 := Scalar.cmpi .ne v35 c0_i32_14
  v36

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_2 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2048x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]
-- ==== InProjRefIdeal.lean ====
abbrev S2x4096x2048 : Shape := ⟨3, ![2, 4096, 2048]⟩
abbrev S2x1x2048 : Shape := ⟨3, ![2, 1, 2048]⟩
abbrev S2048 : Shape := ⟨1, ![2048]⟩
abbrev S2048x8192 : Shape := ⟨2, ![2048, 8192]⟩
abbrev S128 : Shape := ⟨1, ![128]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2x4096x8192 : Shape := ⟨3, ![2, 4096, 8192]⟩
abbrev S2x4096x1024 : Shape := ⟨3, ![2, 4096, 1024]⟩
abbrev S2x4096x512 : Shape := ⟨3, ![2, 4096, 512]⟩
abbrev S64 : Shape := ⟨1, ![64]⟩
abbrev S64x64 : Shape := ⟨2, ![64, 64]⟩
abbrev S4096 : Shape := ⟨1, ![4096]⟩
abbrev S1x64 : Shape := ⟨2, ![1, 64]⟩
abbrev S4096x1 : Shape := ⟨2, ![4096, 1]⟩
abbrev S4096x2 : Shape := ⟨2, ![4096, 2]⟩
abbrev S32 : Shape := ⟨1, ![32]⟩
abbrev S4096x2x1 : Shape := ⟨3, ![4096, 2, 1]⟩
abbrev S1x1x32 : Shape := ⟨3, ![1, 1, 32]⟩
abbrev S4096x2x32 : Shape := ⟨3, ![4096, 2, 32]⟩
abbrev S2x4096x16x128 : Shape := ⟨4, ![2, 4096, 16, 128]⟩
abbrev S2x4096x16 : Shape := ⟨3, ![2, 4096, 16]⟩
abbrev S2x4096x16x1 : Shape := ⟨4, ![2, 4096, 16, 1]⟩
abbrev S1x1x1x128 : Shape := ⟨4, ![1, 1, 1, 128]⟩
abbrev S2x4096x16x2x2x32 : Shape := ⟨6, ![2, 4096, 16, 2, 2, 32]⟩
abbrev S2x4096x16x2x1x32 : Shape := ⟨6, ![2, 4096, 16, 2, 1, 32]⟩
abbrev S2x4096x16x2x32 : Shape := ⟨5, ![2, 4096, 16, 2, 32]⟩
abbrev S1x4096x1x2x32 : Shape := ⟨5, ![1, 4096, 1, 2, 32]⟩
abbrev S2x4096x4x128 : Shape := ⟨4, ![2, 4096, 4, 128]⟩
abbrev S2x4096x4 : Shape := ⟨3, ![2, 4096, 4]⟩
abbrev S2x4096x4x1 : Shape := ⟨4, ![2, 4096, 4, 1]⟩
abbrev S2x4096x4x2x2x32 : Shape := ⟨6, ![2, 4096, 4, 2, 2, 32]⟩
abbrev S2x4096x4x2x1x32 : Shape := ⟨6, ![2, 4096, 4, 2, 1, 32]⟩
abbrev S2x4096x4x2x32 : Shape := ⟨5, ![2, 4096, 4, 2, 32]⟩
abbrev S8192x8192 : Shape := ⟨2, ![8192, 8192]⟩

abbrev nBuf : Space → Nat
  | .hbm => 163
  | .vmem => 0
  | .smem => 0
  | _ => 0

abbrev hbmTy0_0 (i : Nat) : BufTy := match i % 128 with
  | 0 => ⟨S2x4096x2048, .f32⟩
  | 1 => ⟨S2x1x2048, .f32⟩
  | 2 => ⟨S2x1x2048, .f32⟩
  | 3 => ⟨S2048, .f32⟩
  | 4 => ⟨S2048x8192, .f32⟩
  | 5 => ⟨S128, .f32⟩
  | 6 => ⟨S128, .f32⟩
  | 7 => ⟨S2x4096x2048, .f32⟩
  | 8 => ⟨S_, .f32⟩
  | 9 => ⟨S2x4096, .f32⟩
  | 10 => ⟨S2x4096x1, .f32⟩
  | 11 => ⟨S_, .f32⟩
  | 12 => ⟨S2x4096x1, .f32⟩
  | 13 => ⟨S2x4096x1, .f32⟩
  | 14 => ⟨S_, .f32⟩
  | 15 => ⟨S2x4096x1, .f32⟩
  | 16 => ⟨S2x4096x1, .f32⟩
  | 17 => ⟨S2x4096x1, .f32⟩
  | 18 => ⟨S2x4096x2048, .f32⟩
  | 19 => ⟨S2x4096x2048, .f32⟩
  | 20 => ⟨S1x1x2048, .f32⟩
  | 21 => ⟨S2x4096x2048, .f32⟩
  | 22 => ⟨S2x4096x2048, .f32⟩
  | 23 => ⟨S_, .f32⟩
  | 24 => ⟨S2x1x2048, .f32⟩
  | 25 => ⟨S2x1x2048, .f32⟩
  | 26 => ⟨S2x4096x2048, .f32⟩
  | 27 => ⟨S2x4096x2048, .f32⟩
  | 28 => ⟨S2x4096x2048, .f32⟩
  | 29 => ⟨S2x4096x2048, .f32⟩
  | 30 => ⟨S2x4096x8192, .f32⟩
  | 31 => ⟨S2x4096x1024, .f32⟩
  | 32 => ⟨S2x4096x2048, .f32⟩
  | 33 => ⟨S2x4096x512, .f32⟩
  | 34 => ⟨S2x4096x512, .f32⟩
  | 35 => ⟨S2x4096x2048, .f32⟩
  | 36 => ⟨S2x4096x2048, .f32⟩
  | 37 => ⟨S64, .i32⟩
  | 38 => ⟨S64x64, .i32⟩
  | 39 => ⟨S4096, .i32⟩
  | 40 => ⟨S64, .i32⟩
  | 41 => ⟨S1x64, .i32⟩
  | 42 => ⟨S64x64, .i32⟩
  | 43 => ⟨S4096, .i32⟩
  | 44 => ⟨S4096x1, .i32⟩
  | 45 => ⟨S4096x1, .i32⟩
  | 46 => ⟨S4096x2, .i32⟩
  | 47 => ⟨S4096x2, .f32⟩
  | 48 => ⟨S32, .f32⟩
  | 49 => ⟨S32, .f32⟩
  | 50 => ⟨S_, .f32⟩
  | 51 => ⟨S32, .f32⟩
  | 52 => ⟨S32, .f32⟩
  | 53 => ⟨S_, .f32⟩
  | 54 => ⟨S32, .f32⟩
  | 55 => ⟨S32, .f32⟩
  | 56 => ⟨S4096x2x1, .f32⟩
  | 57 => ⟨S1x1x32, .f32⟩
  | 58 => ⟨S4096x2x32, .f32⟩
  | 59 => ⟨S4096x2x32, .f32⟩
  | 60 => ⟨S4096x2x32, .f32⟩
  | 61 => ⟨S4096x2x32, .f32⟩
  | 62 => ⟨S4096x2x32, .f32⟩
  | 63 => ⟨S2x4096x16x128, .f32⟩
  | 64 => ⟨S2x4096x16x128, .f32⟩
  | 65 => ⟨S_, .f32⟩
  | 66 => ⟨S2x4096x16, .f32⟩
  | 67 => ⟨S2x4096x16x1, .f32⟩
  | 68 => ⟨S_, .f32⟩
  | 69 => ⟨S2x4096x16x1, .f32⟩
  | 70 => ⟨S2x4096x16x1, .f32⟩
  | 71 => ⟨S_, .f32⟩
  | 72 => ⟨S2x4096x16x1, .f32⟩
  | 73 => ⟨S2x4096x16x1, .f32⟩
  | 74 => ⟨S2x4096x16x1, .f32⟩
  | 75 => ⟨S2x4096x16x128, .f32⟩
  | 76 => ⟨S2x4096x16x128, .f32⟩
  | 77 => ⟨S1x1x1x128, .f32⟩
  | 78 => ⟨S2x4096x16x128, .f32⟩
  | 79 => ⟨S2x4096x16x128, .f32⟩
  | 80 => ⟨S2x4096x16x2x2x32, .f32⟩
  | 81 => ⟨S2x4096x16x2x1x32, .f32⟩
  | 82 => ⟨S2x4096x16x2x32, .f32⟩
  | 83 => ⟨S2x4096x16x2x1x32, .f32⟩
  | 84 => ⟨S2x4096x16x2x32, .f32⟩
  | 85 => ⟨S1x4096x1x2x32, .f32⟩
  | 86 => ⟨S1x4096x1x2x32, .f32⟩
  | 87 => ⟨S2x4096x16x2x32, .f32⟩
  | 88 => ⟨S2x4096x16x2x32, .f32⟩
  | 89 => ⟨S2x4096x16x2x32, .f32⟩
  | 90 => ⟨S2x4096x16x2x32, .f32⟩
  | 91 => ⟨S2x4096x16x2x32, .f32⟩
  | 92 => ⟨S2x4096x16x2x32, .f32⟩
  | 93 => ⟨S2x4096x16x2x32, .f32⟩
  | 94 => ⟨S2x4096x16x2x32, .f32⟩
  | 95 => ⟨S2x4096x16x2x32, .f32⟩
  | 96 => ⟨S2x4096x16x2x32, .f32⟩
  | 97 => ⟨S2x4096x16x2x1x32, .f32⟩
  | 98 => ⟨S2x4096x16x2x1x32, .f32⟩
  | 99 => ⟨S2x4096x16x2x2x32, .f32⟩
  | 100 => ⟨S2x4096x16x128, .f32⟩
  | 101 => ⟨S2x4096x2048, .f32⟩
  | 102 => ⟨S2x4096x4x128, .f32⟩
  | 103 => ⟨S2x4096x4x128, .f32⟩
  | 104 => ⟨S_, .f32⟩
  | 105 => ⟨S2x4096x4, .f32⟩
  | 106 => ⟨S2x4096x4x1, .f32⟩
  | 107 => ⟨S_, .f32⟩
  | 108 => ⟨S2x4096x4x1, .f32⟩
  | 109 => ⟨S2x4096x4x1, .f32⟩
  | 110 => ⟨S_, .f32⟩
  | 111 => ⟨S2x4096x4x1, .f32⟩
  | 112 => ⟨S2x4096x4x1, .f32⟩
  | 113 => ⟨S2x4096x4x1, .f32⟩
  | 114 => ⟨S2x4096x4x128, .f32⟩
  | 115 => ⟨S2x4096x4x128, .f32⟩
  | 116 => ⟨S1x1x1x128, .f32⟩
  | 117 => ⟨S2x4096x4x128, .f32⟩
  | 118 => ⟨S2x4096x4x128, .f32⟩
  | 119 => ⟨S2x4096x4x2x2x32, .f32⟩
  | 120 => ⟨S2x4096x4x2x1x32, .f32⟩
  | 121 => ⟨S2x4096x4x2x32, .f32⟩
  | 122 => ⟨S2x4096x4x2x1x32, .f32⟩
  | 123 => ⟨S2x4096x4x2x32, .f32⟩
  | 124 => ⟨S1x4096x1x2x32, .f32⟩
  | 125 => ⟨S1x4096x1x2x32, .f32⟩
  | 126 => ⟨S2x4096x4x2x32, .f32⟩
  | 127 => ⟨S2x4096x4x2x32, .f32⟩
  | _ => ⟨S2x4096x2048, .f32⟩

abbrev hbmTy0_1 (i : Nat) : BufTy := match i % 128 with
  | 0 => ⟨S2x4096x4x2x32, .f32⟩
  | 1 => ⟨S2x4096x4x2x32, .f32⟩
  | 2 => ⟨S2x4096x4x2x32, .f32⟩
  | 3 => ⟨S2x4096x4x2x32, .f32⟩
  | 4 => ⟨S2x4096x4x2x32, .f32⟩
  | 5 => ⟨S2x4096x4x2x32, .f32⟩
  | 6 => ⟨S2x4096x4x2x32, .f32⟩
  | 7 => ⟨S2x4096x4x2x32, .f32⟩
  | 8 => ⟨S2x4096x4x2x1x32, .f32⟩
  | 9 => ⟨S2x4096x4x2x1x32, .f32⟩
  | 10 => ⟨S2x4096x4x2x2x32, .f32⟩
  | 11 => ⟨S2x4096x4x128, .f32⟩
  | 12 => ⟨S2x4096x512, .f32⟩
  | 13 => ⟨S_, .f32⟩
  | 14 => ⟨S2x4096x2048, .f32⟩
  | 15 => ⟨S2x4096x2048, .f32⟩
  | 16 => ⟨S2x4096x2048, .f32⟩
  | 17 => ⟨S2x4096x2048, .f32⟩
  | 18 => ⟨S_, .f32⟩
  | 19 => ⟨S2x4096x2048, .f32⟩
  | 20 => ⟨S2x4096x2048, .f32⟩
  | 21 => ⟨S_, .f32⟩
  | 22 => ⟨S2x4096x2048, .f32⟩
  | 23 => ⟨S2x4096x2048, .f32⟩
  | 24 => ⟨S2x4096x2048, .f32⟩
  | 25 => ⟨S2x4096x2048, .f32⟩
  | 26 => ⟨S_, .f32⟩
  | 27 => ⟨S2x4096x2048, .f32⟩
  | 28 => ⟨S2x4096x2048, .f32⟩
  | 29 => ⟨S_, .f32⟩
  | 30 => ⟨S2x4096x2048, .f32⟩
  | 31 => ⟨S2x4096x2048, .f32⟩
  | 32 => ⟨S2x4096x8192, .f32⟩
  | 33 => ⟨S8192x8192, .f32⟩
  | 34 => ⟨S8192x8192, .bf16⟩
  | _ => ⟨S2x4096x2048, .f32⟩

abbrev hbmTy (i : Nat) : BufTy := match i / 128 with
  | 0 => hbmTy0_0 i
  | 1 => hbmTy0_1 i
  | _ => ⟨S2x4096x2048, .f32⟩

abbrev bufTy : (tb : Table) → Fin (tcTables nBuf tb) → BufTy
  | .hbm, ⟨i, _⟩ => hbmTy i
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_cst_3 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_5 : Ref sig .tc := ⟨.hbm, 65, rfl⟩
abbrev main_v52 : Ref sig .tc := ⟨.hbm, 66, rfl⟩
abbrev main_v53 : Ref sig .tc := ⟨.hbm, 67, rfl⟩
abbrev main_cst_6 : Ref sig .tc := ⟨.hbm, 68, rfl⟩
abbrev main_v54 : Ref sig .tc := ⟨.hbm, 69, rfl⟩
abbrev main_v55 : Ref sig .tc := ⟨.hbm, 70, rfl⟩
abbrev main_cst_7 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_cst_8 : Ref sig .tc := ⟨.hbm, 104, rfl⟩
abbrev main_v88 : Ref sig .tc := ⟨.hbm, 105, rfl⟩
abbrev main_v89 : Ref sig .tc := ⟨.hbm, 106, rfl⟩
abbrev main_cst_9 : Ref sig .tc := ⟨.hbm, 107, rfl⟩
abbrev main_v90 : Ref sig .tc := ⟨.hbm, 108, rfl⟩
abbrev main_v91 : Ref sig .tc := ⟨.hbm, 109, rfl⟩
abbrev main_cst_10 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_cst_11 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_v125 : Ref sig .tc := ⟨.hbm, 145, rfl⟩
abbrev main_cst_12 : Ref sig .tc := ⟨.hbm, 146, rfl⟩
abbrev main_v126 : Ref sig .tc := ⟨.hbm, 147, rfl⟩
abbrev main_v127 : Ref sig .tc := ⟨.hbm, 148, rfl⟩
abbrev main_cst_13 : Ref sig .tc := ⟨.hbm, 149, rfl⟩
abbrev main_v128 : Ref sig .tc := ⟨.hbm, 150, rfl⟩
abbrev main_v129 : Ref sig .tc := ⟨.hbm, 151, rfl⟩
abbrev main_v130 : Ref sig .tc := ⟨.hbm, 152, rfl⟩
abbrev main_v131 : Ref sig .tc := ⟨.hbm, 153, rfl⟩
abbrev main_cst_14 : Ref sig .tc := ⟨.hbm, 154, rfl⟩
abbrev main_v132 : Ref sig .tc := ⟨.hbm, 155, rfl⟩
abbrev main_v133 : Ref sig .tc := ⟨.hbm, 156, rfl⟩
abbrev main_cst_15 : Ref sig .tc := ⟨.hbm, 157, rfl⟩
abbrev main_v134 : Ref sig .tc := ⟨.hbm, 158, rfl⟩
abbrev main_v135 : Ref sig .tc := ⟨.hbm, 159, rfl⟩
abbrev main_v136 : Ref sig .tc := ⟨.hbm, 160, rfl⟩
abbrev main_v137 : Ref sig .tc := ⟨.hbm, 161, rfl⟩
abbrev main_v138 : Ref sig .tc := ⟨.hbm, 162, rfl⟩

abbrev nD : Nat := 1
abbrev τ : Topo := Topo.v7x

variable {F : FTy → Type} [FloatOps F]
-- ==== Merge.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S_ : Shape := ⟨0, ![]⟩
abbrev S8192x4096 : Shape := ⟨2, ![8192, 4096]⟩
abbrev S8192x8192 : Shape := ⟨2, ![8192, 8192]⟩
abbrev S1024x1024 : Shape := ⟨2, ![1024, 1024]⟩
abbrev S1024x512 : Shape := ⟨2, ![1024, 512]⟩
abbrev S2048x512 : Shape := ⟨2, ![2048, 512]⟩

abbrev nBuf : Space → Nat
  | .hbm => 31
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1024x2048, .f32⟩
  | .hbm, ⟨5, _⟩ => ⟨S2048x2048, .f32⟩
  | .hbm, ⟨6, _⟩ => ⟨S_, .f32⟩
  | .hbm, ⟨7, _⟩ => ⟨S8192x4096, .f32⟩
  | .hbm, ⟨8, _⟩ => ⟨S8192x2048, .f32⟩
  | .hbm, ⟨9, _⟩ => ⟨S8192x2048, .f32⟩
  | .hbm, ⟨10, _⟩ => ⟨S_, .f32⟩
  | .hbm, ⟨11, _⟩ => ⟨S8192x2048, .f32⟩
  | .hbm, ⟨12, _⟩ => ⟨S8192x2048, .f32⟩
  | .hbm, ⟨13, _⟩ => ⟨S_, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x8192, .f32⟩
  | .hbm, ⟨25, _⟩ => ⟨S8192x8192, .bf16⟩
  | .hbm, ⟨26, _⟩ => ⟨S8192x1024, .bf16⟩
  | .hbm, ⟨27, _⟩ => ⟨S8192x2048, .bf16⟩
  | .hbm, ⟨28, _⟩ => ⟨S1024x2048, .bf16⟩
  | .hbm, ⟨29, _⟩ => ⟨S2048x2048, .bf16⟩
  | .hbm, ⟨30, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S1024x512, .bf16⟩
  | .local _ .vmem, ⟨5, _⟩ => ⟨S1024x512, .bf16⟩
  | .local _ .vmem, ⟨6, _⟩ => ⟨S2048x512, .bf16⟩
  | .local _ .vmem, ⟨7, _⟩ => ⟨S2048x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c12_i32 : BitVec 32 := 12#32
  let v0 : BitVec 32 := Scalar.addi c12_i32 arg1
  let c0_i32 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== MergeRefIdeal.lean ====
abbrev S8192x1024 : Shape := ⟨2, ![8192, 1024]⟩
abbrev S8192x2048 : Shape := ⟨2, ![8192, 2048]⟩
abbrev S1024x2048 : Shape := ⟨2, ![1024, 2048]⟩
abbrev S2048x2048 : Shape := ⟨2, ![2048, 2048]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S1024x2048, .f32⟩
  | .hbm, ⟨5, _⟩ => ⟨S2048x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192x2048, .f32⟩
  | .hbm, ⟨10, _⟩ => ⟨S8192x2048, .f32⟩
  | .hbm, ⟨11, _⟩ => ⟨S_, .f32⟩
  | .hbm, ⟨12, _⟩ => ⟨S8192x2048, .f32⟩
  | .hbm, ⟨13, _⟩ => ⟨S8192x2048, .f32⟩
  | .hbm, ⟨14, _⟩ => ⟨S8192x2048, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S_, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Combine.lean ====
abbrev S8x8192x2048 : Shape := ⟨3, ![8, 8192, 2048]⟩
abbrev S8192x8 : Shape := ⟨2, ![8192, 8]⟩
abbrev S8192x2048 : Shape := ⟨2, ![8192, 2048]⟩
abbrev S2x4096x2048 : Shape := ⟨3, ![2, 4096, 2048]⟩
abbrev S2x1x2048 : Shape := ⟨3, ![2, 1, 2048]⟩
abbrev S2048x512 : Shape := ⟨2, ![2048, 512]⟩
abbrev S512x2048 : Shape := ⟨2, ![512, 2048]⟩
abbrev S1048576x128 : Shape := ⟨2, ![1048576, 128]⟩
abbrev S_ : Shape := ⟨0, ![]⟩
abbrev S8192x128 : Shape := ⟨2, ![8192, 128]⟩
abbrev S1056768x128 : Shape := ⟨2, ![1056768, 128]⟩
abbrev S8x8192 : Shape := ⟨2, ![8, 8192]⟩
abbrev S2048x128 : Shape := ⟨2, ![2048, 128]⟩
abbrev S8x128 : Shape := ⟨2, ![8, 128]⟩
abbrev S128x2048 : Shape := ⟨2, ![128, 2048]⟩
abbrev S1x1x2048 : Shape := ⟨3, ![1, 1, 2048]⟩
abbrev S128x512 : Shape := ⟨2, ![128, 512]⟩
abbrev S1x1 : Shape := ⟨2, ![1, 1]⟩
abbrev S16x128 : Shape := ⟨2, ![16, 128]⟩
abbrev S128x128 : Shape := ⟨2, ![128, 128]⟩
abbrev S1x2048 : Shape := ⟨2, ![1, 2048]⟩

abbrev nBuf : Space → Nat
  | .hbm => 19
  | .vmem => 28
  | .smem => 2
  | _ => 0

abbrev bufTy : (tb : Table) → Fin (tcTables nBuf tb) → BufTy
  | .hbm, ⟨0, _⟩ => ⟨S8x8192x2048, .f32⟩
  | .hbm, ⟨1, _⟩ => ⟨S8192x8, .f32⟩
  | .hbm, ⟨2, _⟩ => ⟨S8192x2048, .f32⟩
  | .hbm, ⟨3, _⟩ => ⟨S2x4096x2048, .f32⟩
  | .hbm, ⟨4, _⟩ => ⟨S2x1x2048, .f32⟩
  | .hbm, ⟨5, _⟩ => ⟨S2048x512, .f32⟩
  | .hbm, ⟨6, _⟩ => ⟨S2048x512, .f32⟩
  | .hbm, ⟨7, _⟩ => ⟨S512x2048, .f32⟩
  | .hbm, ⟨8, _⟩ => ⟨S1048576x128, .f32⟩
  | .hbm, ⟨9, _⟩ => ⟨S_, .f32⟩
  | .hbm, ⟨10, _⟩ => ⟨S8192x128, .f32⟩
  | .hbm, ⟨11, _⟩ => ⟨S1056768x128, .f32⟩
  | .hbm, ⟨12, _⟩ => ⟨S8x8192, .f32⟩
  | .hbm, ⟨13, _⟩ => ⟨S8192x2048, .bf16⟩
  | .hbm, ⟨14, _⟩ => ⟨S8192x2048, .f32⟩
  | .hbm, ⟨15, _⟩ => ⟨S2048x512, .bf16⟩
  | .hbm, ⟨16, _⟩ => ⟨S2048x512, .bf16⟩
  | .hbm, ⟨17, _⟩ => ⟨S512x2048, .bf16⟩
  | .hbm, ⟨18, _⟩ => ⟨S8192x2048, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S2048x128, .f32⟩
  | .local _ .vmem, ⟨7, _⟩ => ⟨S2048x128, .f32⟩
  | .local _ .vmem, ⟨8, _⟩ => ⟨S2048x128, .f32⟩
  | .local _ .vmem, ⟨9, _⟩ => ⟨S2048x128, .f32⟩
  | .local _ .vmem, ⟨10, _⟩ => ⟨S2048x128, .f32⟩
  | .local _ .vmem, ⟨11, _⟩ => ⟨S2048x128, .f32⟩
  | .local _ .vmem, ⟨12, _⟩ => ⟨S2048x128, .f32⟩
  | .local _ .vmem, ⟨13, _⟩ => ⟨S2048x128, .f32⟩
  | .local _ .vmem, ⟨14, _⟩ => ⟨S2048x128, .f32⟩
  | .local _ .vmem, ⟨15, _⟩ => ⟨S2048x128, .f32⟩
  | .local _ .vmem, ⟨16, _⟩ => ⟨S128x2048, .bf16⟩
  | .local _ .vmem, ⟨17, _⟩ => ⟨S128x2048, .bf16⟩
  | .local _ .vmem, ⟨18, _⟩ => ⟨S128x2048, .f32⟩
  | .local _ .vmem, ⟨19, _⟩ => ⟨S128x2048, .f32⟩
  | .local _ .vmem, ⟨20, _⟩ => ⟨S1x1x2048, .f32⟩
  | .local _ .vmem, ⟨21, _⟩ => ⟨S1x1x2048, .f32⟩
  | .local _ .vmem, ⟨22, _⟩ => ⟨S2048x512, .bf16⟩
  | .local _ .vmem, ⟨23, _⟩ => ⟨S2048x512, .bf16⟩
  | .local _ .vmem, ⟨24, _⟩ => ⟨S512x2048, .bf16⟩
  | .local _ .vmem, ⟨25, _⟩ => ⟨S128x2048, .f32⟩
  | .local _ .vmem, ⟨26, _⟩ => ⟨S128x2048, .f32⟩
  | .local _ .vmem, ⟨27, _⟩ => ⟨S2048x128, .f32⟩
  | .local _ .smem, ⟨0, _⟩ => ⟨S8x128, .f32⟩
  | .local _ .smem, ⟨1, _⟩ => ⟨S8x128, .f32⟩
  | _, _ => ⟨S8x8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg13_0 : Ref sig .tc := ⟨.vmem, 23, rfl⟩
abbrev cc0_stg14_0 : Ref sig .tc := ⟨.vmem, 24, rfl⟩
abbrev cc0_stg15_0 : Ref sig .tc := ⟨.vmem, 25, rfl⟩
abbrev cc0_stg15_1 : Ref sig .tc := ⟨.vmem, 26, rfl⟩
abbrev cc0_scratch0 : Ref sig .tc := ⟨.vmem, 27, rfl⟩
abbrev cc0_stg8_0 : Ref sig .tc := ⟨.smem, 0, rfl⟩
abbrev cc0_stg8_1 : Ref sig .tc := ⟨.smem, 1, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem15_1 : DmaSem sig := 28

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c32_i32 : BitVec 32 := 32#32
  let v15 : BitVec 32 := Scalar.addi c0_i32 c32_i32
  let c1_i32 : BitVec 32 := 1#32
  ⟨c0_i32, v15, c1_i32⟩
def k0_mult1 (k0_t1 : Fin k0_t1_loop.trips) : BitVec 32 :=
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let c0_i32_36 : BitVec 32 := 0#32
  let v45 : BitVec 32 := Scalar.addi v44 c0_i32_36
  let c16_i32 : BitVec 32 := 16#32
  let v46 : BitVec 32 := Scalar.muli v45 c16_i32
  v46
def k0_off1 (k0_t1 : Fin k0_t1_loop.trips) (c0_i32_36 : BitVec 32) : Fin 2 → Nat :=
  let c0_37 : Index := 0#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v48 : Index := Scalar.indexCast v45
  ![0, v48.toNat]
def k0_off2 (k0_t1 : Fin k0_t1_loop.trips) (c0_i32_36 : BitVec 32) : Fin 2 → Nat :=
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let c16_i32 : BitVec 32 := 16#32
  let v46 : BitVec 32 := Scalar.muli v45 c16_i32
  let v47 : BitVec 32 := v46
  let v50 : Index := Scalar.indexCast v47
  let c0_38 : Index := 0#32
  ![v50.toNat, 0]
def k0_off3 (k0_t1 : Fin k0_t1_loop.trips) (c0_i32_36 : BitVec 32) : Fin 2 → Nat :=
  let c1_39 : Index := 1#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v55 : Index := Scalar.indexCast v45
  ![1, v55.toNat]
def k0_off4 (k0_t1 : Fin k0_t1_loop.trips) (c0_i32_36 : BitVec 32) : Fin 2 → Nat :=
  let c2_41 : Index := 2#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v63 : Index := Scalar.indexCast v45
  ![2, v63.toNat]
def k0_off5 (k0_t1 : Fin k0_t1_loop.trips) (c0_i32_36 : BitVec 32) : Fin 2 → Nat :=
  let c3_43 : Index := 3#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v71 : Index := Scalar.indexCast v45
  ![3, v71.toNat]
def k0_off6 (k0_t1 : Fin k0_t1_loop.trips) (c0_i32_36 : BitVec 32) : Fin 2 → Nat :=
  let c4_45 : Index := 4#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v79 : Index := Scalar.indexCast v45
  ![4, v79.toNat]
def k0_off7 (k0_t1 : Fin k0_t1_loop.trips) (c0_i32_36 : BitVec 32) : Fin 2 → Nat :=
  let c5_47 : Index := 5#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v87 : Index := Scalar.indexCast v45
  ![5, v87.toNat]
def k0_off8 (k0_t1 : Fin k0_t1_loop.trips) (c0_i32_36 : BitVec 32) : Fin 2 → Nat :=
  let c6_49 : Index := 6#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v95 : Index := Scalar.indexCast v45
  ![6, v95.toNat]
def k0_off9 (k0_t1 : Fin k0_t1_loop.trips) (c0_i32_36 : BitVec 32) : Fin 2 → Nat :=
  let c7_51 : Index := 7#32
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32 : BitVec 32 := 4#32
  let v44 : BitVec 32 := Scalar.muli v43 c4_i32
  let v45 : BitVec 32 := Scalar.addi v44 c0_i32_36
  let v103 : Index := Scalar.indexCast v45
  ![7, v103.toNat]
def k0_mult2 (k0_t1 : Fin k0_t1_loop.trips) : BitVec 32 :=
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32_54 : BitVec 32 := 4#32
  let v115 : BitVec 32 := Scalar.muli v43 c4_i32_54
  let c1_i32_55 : BitVec 32 := 1#32
  let v116 : BitVec 32 := Scalar.addi v115 c1_i32_55
  let c16_i32_56 : BitVec 32 := 16#32
  let v117 : BitVec 32 := Scalar.muli v116 c16_i32_56
  v117
def k0_mult3 (k0_t1 : Fin k0_t1_loop.trips) : BitVec 32 :=
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32_74 : BitVec 32 := 4#32
  let v186 : BitVec 32 := Scalar.muli v43 c4_i32_74
  let c2_i32 : BitVec 32 := 2#32
  let v187 : BitVec 32 := Scalar.addi v186 c2_i32
  let c16_i32_75 : BitVec 32 := 16#32
  let v188 : BitVec 32 := Scalar.muli v187 c16_i32_75
  v188
def k0_mult4 (k0_t1 : Fin k0_t1_loop.trips) : BitVec 32 :=
  let c0_i32_35 : BitVec 32 := 0#32
  let c0_i32 : BitVec 32 := 0#32
  let c1_i32 : BitVec 32 := 1#32
  let arg18 : BitVec 32 := Scf.iv c0_i32 c1_i32 k0_t1
  let c1_i32_34 : BitVec 32 := 1#32
  let v42 : BitVec 32 := Scalar.muli arg18 c1_i32_34
  let v43 : BitVec 32 := Scalar.addi c0_i32_35 v42
  let c4_i32_93 : BitVec 32 := 4#32
  let v257 : BitVec 32 := Scalar.muli v43 c4_i32_93
  let c3_i32 : BitVec 32 := 3#32
  let v258 : BitVec 32 := Scalar.addi v257 c3_i32
  let c16_i32_94 : BitVec 32 := 16#32
  let v259 : BitVec 32 := Scalar.muli v258 c16_i32_94
  v259
def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c64_i32 : BitVec 32 := 64#32
  let v0 : BitVec 32 := Scalar.addi c64_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c128_i32 : BitVec 32 := 128#32
  let v0 : BitVec 32 := Scalar.addi c128_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c192_i32 : BitVec 32 := 192#32
  let v0 : BitVec 32 := Scalar.addi c192_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c256_i32 : BitVec 32 := 256#32
  let v0 : BitVec 32 := Scalar.addi c256_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c320_i32 : BitVec 32 := 320#32
  let v0 : BitVec 32 := Scalar.addi c320_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c384_i32 : BitVec 32 := 384#32
  let v0 : BitVec 32 := Scalar.addi c384_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c448_i32 : BitVec 32 := 448#32
  let v0 : BitVec 32 := Scalar.addi c448_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 3 → Nat :=
  let arg0 : BitVec 32 := BitVec.ofNat 32 (i 0).val
  let c32_i32 : BitVec 32 := 32#32
  let v0 : BitVec 32 := Scalar.divsi arg0 c32_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c32_i32 c0_i32_1
  let v7 : BitVec 32 := Scalar.extui v6
  let c0_i32_2 : BitVec 32 := 0#32
  let v8 : BitVec 1 := Scalar.cmpi .slt c32_i32 c0_i32_2
  let v9 : BitVec 32 := Scalar.extui v8
  let v10 : BitVec 32 := Scalar.subi v7 v9
  let v11 : BitVec 1 := Scalar.cmpi .ne v5 v10
  let v12 : BitVec 32 := Scalar.remsi arg0 c32_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2048x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2048x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2048x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .smem S8x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S2048x512 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S2048x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x2048 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S128x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== CombineRefIdeal.lean ====
abbrev S8x8192x2048 : Shape := ⟨3, ![8, 8192, 2048]⟩
abbrev S8192x8 : Shape := ⟨2, ![8192, 8]⟩
abbrev S8192x2048 : Shape := ⟨2, ![8192, 2048]⟩
abbrev S2x4096x2048 : Shape := ⟨3, ![2, 4096, 2048]⟩
abbrev S2x1x2048 : Shape := ⟨3, ![2, 1, 2048]⟩
abbrev S2048x512 : Shape := ⟨2, ![2048, 512]⟩
abbrev S512x2048 : Shape := ⟨2, ![512, 2048]⟩
abbrev S8x8192 : Shape := ⟨2, ![8, 8192]⟩
abbrev S8x8192x1 : Shape := ⟨3, ![8, 8192, 1]⟩
abbrev S_ : Shape := ⟨0, ![]⟩
abbrev S8192x512 : Shape := ⟨2, ![8192, 512]⟩

abbrev nBuf : Space → Nat
  | .hbm => 33
  | .vmem => 0
  | .smem => 0
  | _ => 0

abbrev bufTy : (tb : Table) → Fin (tcTables nBuf tb) → BufTy
  | .hbm, ⟨0, _⟩ => ⟨S8x8192x2048, .f32⟩
  | .hbm, ⟨1, _⟩ => ⟨S8192x8, .f32⟩
  | .hbm, ⟨2, _⟩ => ⟨S8192x2048, .f32⟩
  | .hbm, ⟨3, _⟩ => ⟨S2x4096x2048, .f32⟩
  | .hbm, ⟨4, _⟩ => ⟨S2x1x2048, .f32⟩
  | .hbm, ⟨5, _⟩ => ⟨S2048x512, .f32⟩
  | .hbm, ⟨6, _⟩ => ⟨S2048x512, .f32⟩
  | .hbm, ⟨7, _⟩ => ⟨S512x2048, .f32⟩
  | .hbm, ⟨8, _⟩ => ⟨S8x8192, .f32⟩
  | .hbm, ⟨9, _⟩ => ⟨S8x8192x1, .f32⟩
  | .hbm, ⟨10, _⟩ => ⟨S8x8192x2048, .f32⟩
  | .hbm, ⟨11, _⟩ => ⟨S8x8192x2048, .f32⟩
  | .hbm, ⟨12, _⟩ => ⟨S_, .f32⟩
  | .hbm, ⟨13, _⟩ => ⟨S8192x2048, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S_, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S8192x2048, .f32⟩
  | .hbm, ⟨27, _⟩ => ⟨S8192x2048, .f32⟩
  | .hbm, ⟨28, _⟩ => ⟨S2x4096x2048, .f32⟩
  | .hbm, ⟨29, _⟩ => ⟨S2x4096x2048, .f32⟩
  | .hbm, ⟨30, _⟩ => ⟨S2x4096x2048, .f32⟩
  | .hbm, ⟨31, _⟩ => ⟨S2x4096x2048, .f32⟩
  | .hbm, ⟨32, _⟩ => ⟨S8192x2048, .f32⟩
  | _, _ => ⟨S8x8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst : Ref sig .tc := ⟨.hbm, 12, rfl⟩
abbrev main_v4 : Ref sig .tc := ⟨.hbm, 13, rfl⟩
abbrev main_v5 : Ref sig .tc := ⟨.hbm, 14, rfl⟩
abbrev main_call0_v0 : Ref sig .tc := ⟨.hbm, 15, rfl⟩
abbrev main_call0_v1 : Ref sig .tc := ⟨.hbm, 16, rfl⟩
abbrev main_call0_cst : Ref sig .tc := ⟨.hbm, 17, rfl⟩
abbrev main_call0_v2 : Ref sig .tc := ⟨.hbm, 18, rfl⟩
abbrev main_call0_v3 : Ref sig .tc := ⟨.hbm, 19, rfl⟩
abbrev main_call0_cst_0 : Ref sig .tc := ⟨.hbm, 20, rfl⟩
abbrev main_call0_v4 : Ref sig .tc := ⟨.hbm, 21, rfl⟩
abbrev main_call0_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩

abbrev nD : Nat := 1
abbrev τ : Topo := Topo.v7x

variable {F : FTy → Type} [FloatOps F]
-- ==== Proof.Online.lean ====
module

public import Idealize.ShloMosaic.Lib.Pipeline.ValueKit
public import Mathlib.Analysis.SpecialFunctions.Pow.Real

/-! # The running softmax over the extended reals

A softmax-weighted sum taken chunk by chunk: a running maximum, a running sum of `2^(s - max)` and a
running weighted sum, each rescaled by `2^(old max - new max)` when a chunk raises the maximum. With
real scores (the weights `v` may be any extended reals) the quotient at the end is the weighted sum
with weights `2^s / Σ 2^s`. -/

@[expose] public section

open Idealize.ShloMosaic

namespace Online

open Finset

/-- A nonnegative real multiplies into a finite sum of extended reals. -/
theorem coe_mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [sum_insert ha, sum_insert ha, ← ih]
    exact EReal.left_distrib_of_nonneg_of_ne_top (EReal.coe_nonneg.mpr hr) (EReal.coe_ne_top r) _ _

/-- A finite sum of reals read as extended reals is the real sum. -/
theorem sum_coe {ι : Type*} (s : Finset ι) (f : ι → ℝ) :
    ∑ i ∈ s, (f i : EReal) = ((∑ i ∈ s, f i : ℝ) : EReal) := by
  classical
  induction s using Finset.induction_on with
  | empty => simp
  | insert a s ha ih => rw [sum_insert ha, sum_insert ha, ih, EReal.coe_add]

/-- The greatest of finitely many reals, at least one, is a real. -/
theorem fold_max_real {n : ℕ} (hn : 0 < n) (σ : Fin n → EReal) (f : Fin n → ℝ) (h : ∀ j, σ j = f j) :
    ∃ μ : ℝ, Finset.univ.fold max ⊥ σ = (μ : EReal) := by
  have key : ∀ s : Finset (Fin n), s.Nonempty → ∃ μ : ℝ, s.fold max ⊥ σ = (μ : EReal) := by
    intro s
    induction s using Finset.induction_on with
    | empty => intro h; exact absurd h (by simp)
    | insert a s ha ih =>
      intro _
      rw [Finset.fold_insert ha, h a]
      rcases s.eq_empty_or_nonempty with rfl | hs
      · exact ⟨f a, by simp⟩
      · obtain ⟨μ, hμ⟩ := ih hs
        exact ⟨max (f a) μ, by rw [hμ]; exact (EReal.coe_strictMono.monotone.map_max).symm⟩
  exact key _ ⟨⟨0, hn⟩, mem_univ _⟩

/-- `2^(s - μ)` as an extended real. -/
noncomputable def pw (s μ : ℝ) : EReal := ((Real.rpow 2 (s - μ) : ℝ) : EReal)

theorem exp2_sub (s μ : ℝ) : Ideal.exp2 ((s : EReal) - (μ : EReal)) = pw s μ := by
  rw [← EReal.coe_sub, Ideal.exp2_coe]; rfl

theorem rpow_pos (s : ℝ) : 0 < Real.rpow 2 s := Real.rpow_pos_of_pos (by norm_num) _

/-- Rescaling a power from one maximum to the next. -/
theorem pw_mul (s μ ν : ℝ) : pw μ ν * pw s μ = pw s ν := by
  unfold pw
  rw [← EReal.coe_mul]
  congr 1
  change (2:ℝ) ^ (μ - ν) * (2:ℝ) ^ (s - μ) = (2:ℝ) ^ (s - ν)
  rw [← Real.rpow_add (by norm_num)]
  congr 1; ring

/-- What the running triple holds after the first `N` scores. -/
def Inv (s : ℕ → ℝ) (v : ℕ → EReal) (N : ℕ) (M L A : EReal) : Prop :=
  ∃ μ : ℝ, M = μ ∧ L = ∑ i ∈ range N, pw (s i) μ ∧ A = ∑ i ∈ range N, v i * pw (s i) μ

variable {s : ℕ → ℝ} {v : ℕ → EReal} {N : ℕ} {M L A : EReal}

/-- The first chunk, over the empty triple: maximum `⊥`, both sums zero. -/
theorem first {n : ℕ} (hn : 0 < n) (σ w : Fin n → EReal) (hσ : ∀ j, σ j = s j) (hw : ∀ j, w j = v j) :
    Inv s v n (max ⊥ (univ.fold max ⊥ σ))
      (Ideal.exp2 (⊥ - max ⊥ (univ.fold max ⊥ σ)) * 0 + ∑ j, Ideal.exp2 (σ j - max ⊥ (univ.fold max ⊥ σ)))
      (Ideal.exp2 (⊥ - max ⊥ (univ.fold max ⊥ σ)) * 0
        + ∑ j, w j * Ideal.exp2 (σ j - max ⊥ (univ.fold max ⊥ σ))) := by
  obtain ⟨μ, hμ⟩ := fold_max_real hn σ (fun j => s j) hσ
  rw [hμ, max_eq_right bot_le]
  refine ⟨μ, rfl, ?_, ?_⟩
  · rw [mul_zero, zero_add, ← Fin.sum_univ_eq_sum_range (fun i => pw (s i) μ)]
    exact sum_congr rfl fun j _ => by rw [hσ, exp2_sub]
  · rw [mul_zero, zero_add, ← Fin.sum_univ_eq_sum_range (fun i => v i * pw (s i) μ)]
    exact sum_congr rfl fun j _ => by rw [hσ, hw, exp2_sub]

/-- A later chunk: the next `n` scores. -/
theorem step {n : ℕ} (hn : 0 < n) (h : Inv s v N M L A) (σ w : Fin n → EReal)
    (hσ : ∀ j, σ j = s (N + j)) (hw : ∀ j, w j = v (N + j)) :
    Inv s v (N + n) (max M (univ.fold max ⊥ σ))
      (Ideal.exp2 (M - max M (univ.fold max ⊥ σ)) * L + ∑ j, Ideal.exp2 (σ j - max M (univ.fold max ⊥ σ)))
      (Ideal.exp2 (M - max M (univ.fold max ⊥ σ)) * A
        + ∑ j, w j * Ideal.exp2 (σ j - max M (univ.fold max ⊥ σ))) := by
  obtain ⟨μ, hμ⟩ := fold_max_real hn σ (fun j => s (N + j)) hσ
  obtain ⟨κ, rfl, rfl, rfl⟩ := h
  rw [hμ]
  obtain ⟨ν, hν⟩ : ∃ ν : ℝ, max (κ : EReal) (μ : EReal) = (ν : EReal) :=
    ⟨max κ μ, (EReal.coe_strictMono.monotone.map_max).symm⟩
  rw [hν]
  have hp : 0 ≤ Real.rpow 2 (κ - ν) := (rpow_pos _).le
  refine ⟨ν, rfl, ?_, ?_⟩
  · rw [exp2_sub, sum_range_add, ← Fin.sum_univ_eq_sum_range (fun i => pw (s (N + i)) ν)]
    congr 1
    · unfold pw; rw [coe_mul_sum _ _ hp]
      exact sum_congr rfl fun i _ => pw_mul _ _ _
    · exact sum_congr rfl fun j _ => by rw [hσ, exp2_sub]
  · rw [exp2_sub, sum_range_add, ← Fin.sum_univ_eq_sum_range (fun i => v (N + i) * pw (s (N + i)) ν)]
    congr 1
    · unfold pw; rw [coe_mul_sum _ _ hp]
      refine sum_congr rfl fun i _ => ?_
      rw [mul_left_comm]; exact congrArg (v i * ·) (pw_mul _ _ _)
    · exact sum_congr rfl fun j _ => by rw [hσ, hw, exp2_sub]

/-- Dividing by a positive real is multiplying by its inverse, a nonnegative real. -/
theorem div_coe (x : EReal) (r : ℝ) (hr : 0 < r) : Ideal.div x (r : EReal) = ((r⁻¹ : ℝ) : EReal) * x := by
  have h : (r : EReal) ≠ 0 := by exact_mod_cast hr.ne'
  unfold Ideal.div
  rw [if_neg h, mul_comm, EReal.coe_inv]

/-- The quotient at the end, the maximum gone. -/
theorem quot (h : Inv s v N M L A) (hN : 0 < N) :
    Ideal.div A L = ∑ i ∈ range N, v i * ((Real.rpow 2 (s i) / ∑ j ∈ range N, Real.rpow 2 (s j) : ℝ) : EReal) := by
  obtain ⟨μ, -, rfl, rfl⟩ := h
  have hpos : 0 < ∑ i ∈ range N, Real.rpow 2 (s i - μ) :=
    sum_pos (fun i _ => rpow_pos _) ⟨0, mem_range.mpr hN⟩
  unfold pw
  rw [sum_coe, div_coe _ _ hpos, coe_mul_sum _ _ (inv_nonneg.mpr hpos.le)]
  refine sum_congr rfl fun i _ => ?_
  rw [mul_left_comm, ← EReal.coe_mul]
  congr 2
  have e : ∀ i, Real.rpow 2 (s i - μ) = Real.rpow 2 (s i) * Real.rpow 2 (-μ) := fun i => by
    change (2:ℝ) ^ (s i - μ) = (2:ℝ) ^ (s i) * (2:ℝ) ^ (-μ)
    rw [← Real.rpow_add (by norm_num), sub_eq_add_neg]
  have hc : Real.rpow 2 (-μ) ≠ 0 := (rpow_pos _).ne'
  simp only [e, ← sum_mul]
  rw [inv_mul_eq_div, mul_div_mul_right _ _ hc]

/-- The plain softmax weight at real scores: the subtracted maximum cancels. -/
theorem weight {n : ℕ} (hn : 0 < n) (t : Fin n → ℝ) (σ : Fin n → EReal) (hσ : ∀ j, σ j = t j) (i : Fin n) (M : EReal)
    (hM : M = univ.fold max ⊥ σ) :
    Ideal.div (Ideal.exp (σ i - M)) (0 + ∑ j, Ideal.exp (σ j - M))
      = ((Real.exp (t i) / ∑ j, Real.exp (t j) : ℝ) : EReal) := by
  obtain ⟨μ, hμ⟩ := fold_max_real hn σ t hσ
  rw [hM, hμ]
  have e : ∀ j, Ideal.exp (σ j - (μ : EReal)) = ((Real.exp (t j) * Real.exp (-μ) : ℝ) : EReal) := fun j => by
    rw [hσ, ← EReal.coe_sub, Ideal.exp_coe, sub_eq_add_neg, Real.exp_add]
  simp only [e]
  rw [sum_coe, zero_add, ← sum_mul]
  have hpos : 0 < ∑ j, Real.exp (t j) := sum_pos (fun j _ => Real.exp_pos _) ⟨⟨0, hn⟩, mem_univ _⟩
  have hc : 0 < Real.exp (-μ) := Real.exp_pos _
  rw [div_coe _ _ (mul_pos hpos hc), ← EReal.coe_mul]
  congr 1
  rw [inv_mul_eq_div, mul_div_mul_right _ _ hc.ne']

/-- `2^(t / log 2) = eᵗ`. -/
theorem rpow_div_log (t : ℝ) : Real.rpow 2 (t / Real.log 2) = Real.exp t := by
  change (2:ℝ) ^ (t / Real.log 2) = _
  rw [Real.rpow_def_of_pos (by norm_num)]
  congr 1
  have : Real.log 2 ≠ 0 := (Real.log_pos (by norm_num)).ne'
  field_simp

end Online
-- ==== Proof.Chunks.lean ====
module

public import proofs.«01_k».proof.Proof.Gen.AttnIdeal.Value
public import proofs.«01_k».proof.Proof.Online
public import Idealize.ShloMosaic.Lib.Pipeline.ValueKit

/-! # One key chunk of the kernel's body, read at a column

The body's running maximum, denominator and weighted sum as three vector functions of one chunk's scores,
the whole body as their composition, and each of them read at one score column. -/

@[expose] public section

set_option maxRecDepth 16384
noncomputable section
namespace Cert.AttnIdeal.Att
open Idealize.ShloMosaic Idealize.ShloMosaic.TcCoe Idealize.SL.Sem
open Cert.AttnIdeal Cert.AttnIdeal.Gen

/-- The scores of one 512-key chunk. -/
def sc (k : FVec Ideal S512x128 .bf16) (qt : FVec Ideal S128x2048 .bf16) : FVec Ideal S512x2048 .f32 :=
  matmul dot_S512x128_S128x2048_S512x2048_1_0_0_1_n_n none (shapeCast S512x128 k shapeCasts_S512x128_S512x128) qt
    (constant S512x2048 .f32 0x00000000#32)

/-- The running maximum after a chunk. -/
def mx (s : FVec Ideal S512x2048 .f32) (m : FVec Ideal S1x2048 .f32) : FVec Ideal S1x2048 .f32 :=
  maximumf m (shapeCast S1x2048 (multiReduction .maximumf [0] S2048 s 0xFF800000#32 reduces_S512x2048_S2048 (.inl rfl) rfl)
    shapeCasts_S2048_S1x2048)

/-- The chunk's exponentials under the new maximum. -/
def px (s : FVec Ideal S512x2048 .f32) (m : FVec Ideal S1x2048 .f32) : FVec Ideal S512x2048 .f32 :=
  exp2 (subf s (broadcastTo S512x2048 (mx s m) broadcasts_S1x2048_S512x2048))

/-- The running denominator after a chunk. -/
def lx (s : FVec Ideal S512x2048 .f32) (m l : FVec Ideal S1x2048 .f32) : FVec Ideal S1x2048 .f32 :=
  addf (mulf (exp2 (subf m (mx s m))) l)
    (shapeCast S1x2048 (multiReduction .add [0] S2048 (px s m) 0x00000000#32 reduces_S512x2048_S2048 (.inl rfl) rfl)
      shapeCasts_S2048_S1x2048)

/-- The running weighted sum after a chunk. -/
def ax (s : FVec Ideal S512x2048 .f32) (m : FVec Ideal S1x2048 .f32) (v : FVec Ideal S1x128x512 .bf16)
    (a : FVec Ideal S128x2048 .f32) : FVec Ideal S128x2048 .f32 :=
  addf (mulf (broadcastTo S128x2048 (exp2 (subf m (mx s m))) broadcasts_S1x2048_S128x2048) a)
    (matmul dot_S128x512_S512x2048_S128x2048_1_0_0_1_n_n none (shapeCast S128x512 v shapeCasts_S1x128x512_S128x512)
      (truncf .bf16 (px s m) bitsLt_bf16_f32) (constant S128x2048 .f32 0x00000000#32))

/-- The scores of the 256 context keys, and the last step over them: the same three functions at 256 keys. -/
def scc (k : FVec Ideal S256x128 .bf16) (qt : FVec Ideal S128x2048 .bf16) : FVec Ideal S256x2048 .f32 :=
  matmul dot_S256x128_S128x2048_S256x2048_1_0_0_1_n_n none (shapeCast S256x128 k shapeCasts_S256x128_S256x128) qt
    (constant S256x2048 .f32 0x00000000#32)

def mxc (s : FVec Ideal S256x2048 .f32) (m : FVec Ideal S1x2048 .f32) : FVec Ideal S1x2048 .f32 :=
  maximumf m (shapeCast S1x2048 (multiReduction .maximumf [0] S2048 s 0xFF800000#32 reduces_S256x2048_S2048 (.inl rfl) rfl)
    shapeCasts_S2048_S1x2048)

def pxc (s : FVec Ideal S256x2048 .f32) (m : FVec Ideal S1x2048 .f32) : FVec Ideal S256x2048 .f32 :=
  exp2 (subf s (broadcastTo S256x2048 (mxc s m) broadcasts_S1x2048_S256x2048))

def lxc (s : FVec Ideal S256x2048 .f32) (m l : FVec Ideal S1x2048 .f32) : FVec Ideal S1x2048 .f32 :=
  addf (mulf (exp2 (subf m (mxc s m))) l)
    (shapeCast S1x2048 (multiReduction .add [0] S2048 (pxc s m) 0x00000000#32 reduces_S256x2048_S2048 (.inl rfl) rfl)
      shapeCasts_S2048_S1x2048)

def axc (s : FVec Ideal S256x2048 .f32) (m : FVec Ideal S1x2048 .f32) (v : FVec Ideal S128x256 .bf16)
    (a : FVec Ideal S128x2048 .f32) : FVec Ideal S128x2048 .f32 :=
  addf (mulf (broadcastTo S128x2048 (exp2 (subf m (mxc s m))) broadcasts_S1x2048_S128x2048) a)
    (matmul dot_S128x256_S256x2048_S128x2048_1_0_0_1_n_n none v
      (truncf .bf16 (pxc s m) bitsLt_bf16_f32) (constant S128x2048 .f32 0x00000000#32))

/-- A running triple: maximum, denominator, weighted sum. -/
abbrev Tri := FVec Ideal S1x2048 .f32 × FVec Ideal S1x2048 .f32 × FVec Ideal S128x2048 .f32

/-- The triple before the first chunk. -/
def tri0 : Tri := (k0_pay18, k0_pay19, k0_pay20)

/-- The triple after one more chunk. -/
def nxt (qt : FVec Ideal S128x2048 .bf16) (k : FVec Ideal S512x128 .bf16) (v : FVec Ideal S1x128x512 .bf16) (T : Tri) : Tri :=
  (mx (sc k qt) T.1, lx (sc k qt) T.1 T.2.1, ax (sc k qt) T.1 v T.2.2)

/-- The triple after the context chunk. -/
def nxtc (qt : FVec Ideal S128x2048 .bf16) (k : FVec Ideal S256x128 .bf16) (v : FVec Ideal S128x256 .bf16) (T : Tri) : Tri :=
  (mxc (scc k qt) T.1, lxc (scc k qt) T.1 T.2.1, axc (scc k qt) T.1 v T.2.2)

/-- The quotient the body transposes and stores. -/
def fin (T : Tri) : FVec Ideal S2048x128 .f32 :=
  transpose S2048x128 [1, 0] (divf T.2.2 (broadcastTo S128x2048 T.2.1 broadcasts_S1x2048_S128x2048)) transposes_S128x2048_p1_0_S2048x128

variable (q0 q1 q2 q3 k0 k1 k2 k3 k4 k5 k6 k7 : Vec Ideal S512x128 .bf16) (v0 v1 v2 v3 v4 v5 v6 v7 : Vec Ideal S1x128x512 .bf16)
  (kc : Vec Ideal S256x128 .bf16) (vc : Vec Ideal S128x256 .bf16)

/-- The body's chain over its loaded vectors, in the order the body computes it. -/
def body {β : Type} (f : FVec Ideal S1x2048 .f32 → FVec Ideal S128x2048 .f32 → Vec Ideal S128x256 .bf16 → FVec Ideal S1x2048 .f32 →
    FVec Ideal S256x2048 .f32 → β) : β :=
  let v14 := k0_pay17 q0 q1 q2 q3
  let v23 := k0_pay22 q0 q1 q2 q3 k1
  let v25 := k0_pay23 v0
  let v28 := k0_pay24 q0 q1 q2 q3 k0
  let v30 := k0_pay25 q0 q1 q2 q3 k0
  let v32 := k0_pay26 q0 q1 q2 q3 k0
  let v45 := k0_pay28 v14 k2
  let v59 := k0_pay32 (k0_pay19 (F := Ideal)) v23 v28 v30 v32
  let v64 := k0_pay33 (k0_pay20 (F := Ideal)) v23 v25 v28 v30 v32 v1
  let v67 := k0_pay34 v14 k3
  let v69 := k0_pay35 v2
  let v72 := k0_pay36 v14 v23 v28 k2
  let v74 := k0_pay37 v14 v23 v28 k2
  let v89 := k0_pay39 v14 k4
  let v94 := k0_pay40 v67 v72
  let v103 := k0_pay43 v45 v59 v67 v72 v74
  let v108 := k0_pay44 v45 v64 v67 v69 v72 v74 v3
  let v111 := k0_pay45 v14 k5
  let v113 := k0_pay46 v4
  let v116 := k0_pay47 v14 v67 v72 k4
  let v133 := k0_pay50 v14 k6
  let v138 := k0_pay51 v111 v116
  let v147 := k0_pay54 v89 v94 v103 v111 v116
  let v152 := k0_pay55 v89 v94 v108 v111 v113 v116 v5
  let v155 := k0_pay56 v14 k7
  let v157 := k0_pay57 v6
  let v158 := k0_pay58 v14 k6
  f (k0_pay66 v133 v138 v147 v155 v158) (k0_pay67 v133 v138 v152 v155 v157 v158 v7) vc
    (k0_pay69 v14 v138 v155 v158 kc) (k0_pay70 v14 v138 v155 v158 kc)

/-- The triple after the eight chunks and the context chunk. -/
def tri : Tri :=
  let qt := k0_pay17 q0 q1 q2 q3
  nxtc qt kc vc (nxt qt k7 v7 (nxt qt k6 v6 (nxt qt k5 v5 (nxt qt k4 v4 (nxt qt k3 v3 (nxt qt k2 v2 (nxt qt k1 v1 (nxt qt k0 v0 tri0))))))))

/-- The body's chain is the composition of the chunk steps. -/
theorem body_eq : body q0 q1 q2 q3 k0 k1 k2 k3 k4 k5 k6 k7 v0 v1 v2 v3 v4 v5 v6 v7 kc vc k0_pay1
    = fin (tri q0 q1 q2 q3 k0 k1 k2 k3 k4 k5 k6 k7 v0 v1 v2 v3 v4 v5 v6 v7 kc vc) := rfl

end Cert.AttnIdeal.Att
-- ==== Proof.ChunkAt.lean ====
module

public import proofs.«01_k».proof.Proof.Chunks

/-! # The chunk functions at one column -/

@[expose] public section

set_option maxRecDepth 16384
noncomputable section
namespace Cert.AttnIdeal.Att
open Idealize.ShloMosaic Idealize.ShloMosaic.TcCoe Idealize.SL.Sem
open Cert.AttnIdeal Cert.AttnIdeal.Gen

/-- The word of minus infinity. -/
theorem negInf : Ideal.ofBits .f32 0xFF800000#32 = (⊥ : EReal) := by simp [Ideal.ofBits, Ideal.ieee]

theorem sc_at (k : FVec Ideal S512x128 .bf16) (qt : FVec Ideal S128x2048 .bf16) (j : Fin 512) (x : Fin 2048) :
    sc k qt (ix2 j x) = ∑ e : Fin 128, (k (ix2 j e) * qt (ix2 e x) : EReal) := by
  pointwise [sc]

theorem scc_at (k : FVec Ideal S256x128 .bf16) (qt : FVec Ideal S128x2048 .bf16) (j : Fin 256) (x : Fin 2048) :
    scc k qt (ix2 j x) = ∑ e : Fin 128, (k (ix2 j e) * qt (ix2 e x) : EReal) := by
  pointwise [scc]

theorem mx_at (s : FVec Ideal S512x2048 .f32) (m : FVec Ideal S1x2048 .f32) (x : Fin 2048) :
    mx s m (ix2 0 x) = max (m (ix2 0 x)) (Finset.univ.fold max (⊥ : EReal) fun j : Fin 512 => (s (ix2 j x) : EReal)) := by
  rw [← negInf]
  pointwise [mx]

theorem mxc_at (s : FVec Ideal S256x2048 .f32) (m : FVec Ideal S1x2048 .f32) (x : Fin 2048) :
    mxc s m (ix2 0 x) = max (m (ix2 0 x)) (Finset.univ.fold max (⊥ : EReal) fun j : Fin 256 => (s (ix2 j x) : EReal)) := by
  rw [← negInf]
  pointwise [mxc]

theorem px_at (s : FVec Ideal S512x2048 .f32) (m : FVec Ideal S1x2048 .f32) (j : Fin 512) (x : Fin 2048) :
    px s m (ix2 j x) = Ideal.exp2 ((s (ix2 j x) : EReal) - mx s m (ix2 0 x)) := by
  pointwise [px]; rfl

theorem pxc_at (s : FVec Ideal S256x2048 .f32) (m : FVec Ideal S1x2048 .f32) (j : Fin 256) (x : Fin 2048) :
    pxc s m (ix2 j x) = Ideal.exp2 ((s (ix2 j x) : EReal) - mxc s m (ix2 0 x)) := by
  pointwise [pxc]; rfl

theorem lx_at (s : FVec Ideal S512x2048 .f32) (m l : FVec Ideal S1x2048 .f32) (x : Fin 2048) :
    lx s m l (ix2 0 x) = Ideal.exp2 ((m (ix2 0 x) : EReal) - mx s m (ix2 0 x)) * l (ix2 0 x)
      + ∑ j : Fin 512, Ideal.exp2 ((s (ix2 j x) : EReal) - mx s m (ix2 0 x)) := by
  pointwise [lx, px_at]; rfl

theorem lxc_at (s : FVec Ideal S256x2048 .f32) (m l : FVec Ideal S1x2048 .f32) (x : Fin 2048) :
    lxc s m l (ix2 0 x) = Ideal.exp2 ((m (ix2 0 x) : EReal) - mxc s m (ix2 0 x)) * l (ix2 0 x)
      + ∑ j : Fin 256, Ideal.exp2 ((s (ix2 j x) : EReal) - mxc s m (ix2 0 x)) := by
  pointwise [lxc, pxc_at]; rfl

theorem ax_at (s : FVec Ideal S512x2048 .f32) (m : FVec Ideal S1x2048 .f32) (v : FVec Ideal S1x128x512 .bf16)
    (a : FVec Ideal S128x2048 .f32) (d : Fin 128) (x : Fin 2048) :
    ax s m v a (ix2 d x) = Ideal.exp2 ((m (ix2 0 x) : EReal) - mx s m (ix2 0 x)) * a (ix2 d x)
      + ∑ j : Fin 512, (v (ix3 0 d j) : EReal) * Ideal.exp2 ((s (ix2 j x) : EReal) - mx s m (ix2 0 x)) := by
  pointwise [ax, px_at]; rfl

theorem axc_at (s : FVec Ideal S256x2048 .f32) (m : FVec Ideal S1x2048 .f32) (v : FVec Ideal S128x256 .bf16)
    (a : FVec Ideal S128x2048 .f32) (d : Fin 128) (x : Fin 2048) :
    axc s m v a (ix2 d x) = Ideal.exp2 ((m (ix2 0 x) : EReal) - mxc s m (ix2 0 x)) * a (ix2 d x)
      + ∑ j : Fin 256, (v (ix2 d j) : EReal) * Ideal.exp2 ((s (ix2 j x) : EReal) - mxc s m (ix2 0 x)) := by
  pointwise [axc, pxc_at]; rfl

theorem fin_at (T : Tri) (x : Fin 2048) (d : Fin 128) :
    fin T (ix2 x d) = Ideal.div (T.2.2 (ix2 d x)) (T.2.1 (ix2 0 x)) := by
  pointwise [fin]

end Cert.AttnIdeal.Att
-- ==== Proof.ChunkInv.lean ====
module

public import proofs.«01_k».proof.Proof.ChunkAt

/-! # The running triple over the nine chunks, at one column -/

@[expose] public section

set_option maxRecDepth 16384
noncomputable section
namespace Cert.AttnIdeal.Att
open Idealize.ShloMosaic Idealize.ShloMosaic.TcCoe Idealize.SL.Sem
open Cert.AttnIdeal Cert.AttnIdeal.Gen

/-- At column `x` and output dimension `d` the triple has taken in the first `N` scores. -/
def TInv (s : ℕ → ℝ) (w : ℕ → EReal) (x : Fin 2048) (d : Fin 128) (N : ℕ) (T : Tri) : Prop :=
  Online.Inv s w N (T.1 (ix2 0 x)) (T.2.1 (ix2 0 x)) (T.2.2 (ix2 d x))

variable {s : ℕ → ℝ} {w : ℕ → EReal} {x : Fin 2048} {d : Fin 128}

/-- The first chunk. -/
theorem first_inv (qt : FVec Ideal S128x2048 .bf16) (k : FVec Ideal S512x128 .bf16) (v : FVec Ideal S1x128x512 .bf16)
    (hs : ∀ j : Fin 512, sc k qt (ix2 j x) = (s j : EReal)) (hv : ∀ j : Fin 512, (v (ix3 0 d j) : EReal) = w j) :
    TInv s w x d 512 (nxt qt k v tri0) := by
  have h := Online.first (n := 512) (by decide) _ _ hs hv
  have e1 : tri0.1 (ix2 0 x) = (⊥ : EReal) := by rw [← negInf]; pointwise [tri0, k0_pay18]
  have e2 : tri0.2.1 (ix2 0 x) = (0 : EReal) := by pointwise [tri0, k0_pay19]
  have e3 : tri0.2.2 (ix2 d x) = (0 : EReal) := by pointwise [tri0, k0_pay20]
  unfold TInv nxt
  dsimp only
  rw [lx_at, ax_at, mx_at, e1, e2, e3]
  exact h

/-- A later chunk. -/
theorem nxt_inv {N : ℕ} {T : Tri} (h : TInv s w x d N T) (qt : FVec Ideal S128x2048 .bf16) (k : FVec Ideal S512x128 .bf16)
    (v : FVec Ideal S1x128x512 .bf16)
    (hs : ∀ j : Fin 512, sc k qt (ix2 j x) = (s (N + j) : EReal)) (hv : ∀ j : Fin 512, (v (ix3 0 d j) : EReal) = w (N + j)) :
    TInv s w x d (N + 512) (nxt qt k v T) := by
  have h := Online.step (n := 512) (by decide) h _ _ hs hv
  unfold TInv nxt
  dsimp only
  rw [lx_at, ax_at, mx_at]
  exact h

/-- The context chunk. -/
theorem nxtc_inv {N : ℕ} {T : Tri} (h : TInv s w x d N T) (qt : FVec Ideal S128x2048 .bf16) (k : FVec Ideal S256x128 .bf16)
    (v : FVec Ideal S128x256 .bf16)
    (hs : ∀ j : Fin 256, scc k qt (ix2 j x) = (s (N + j) : EReal)) (hv : ∀ j : Fin 256, (v (ix2 d j) : EReal) = w (N + j)) :
    TInv s w x d (N + 256) (nxtc qt k v T) := by
  have h := Online.step (n := 256) (by decide) h _ _ hs hv
  unfold TInv nxtc
  dsimp only
  rw [lxc_at, axc_at, mxc_at]
  exact h

/-- The stored quotient. -/
theorem fin_inv {N : ℕ} {T : Tri} (h : TInv s w x d N T) (hN : 0 < N) :
    fin T (ix2 x d) = ∑ i ∈ Finset.range N, w i *
      ((Real.rpow 2 (s i) / ∑ j ∈ Finset.range N, Real.rpow 2 (s j) : ℝ) : EReal) := by
  rw [fin_at]; exact Online.quot h hN

end Cert.AttnIdeal.Att
-- ==== Proof.Spec.lean ====
module

public import Idealize.ShloMosaic.Lib.Pipeline.ValueKit

/-! # The attention, entry by entry

Row `R` of the 8192 = 2 · 4096 rows belongs to batch `R / 4096`; column `C` of the 2048 = 16 heads · 128
belongs to the key/value group `C / 512` (four query heads share one), head `C / 128` and dimension
`C % 128`. -/

@[expose] public section

set_option maxRecDepth 16384
noncomputable section
namespace Att
open Idealize.ShloMosaic

abbrev AQ := (⟨2, ![8192, 2048]⟩ : Shape).Idx → EReal
abbrev AK := (⟨2, ![8192, 512]⟩ : Shape).Idx → EReal
abbrev AC := (⟨2, ![512, 512]⟩ : Shape).Idx → EReal

/-- Key (or value) `j` of a row's batch and a column's group, at dimension `e`: the 4096 sequence entries,
    then the 256 context entries. -/
def kv (k : AK) (kc : AC) (R : Fin 8192) (C : Fin 2048) (j : Fin 4352) (e : Fin 128) : EReal :=
  if h : (j : ℕ) < 4096 then k (ix2 (⟨(R : ℕ) / 4096 * 4096 + j, by omega⟩ : Fin 8192) (⟨(C : ℕ) / 512 * 128 + e, by omega⟩ : Fin 512))
  else kc (ix2 (⟨(R : ℕ) / 4096 * 256 + ((j : ℕ) - 4096), by omega⟩ : Fin 512) (⟨(C : ℕ) / 512 * 128 + e, by omega⟩ : Fin 512))

/-- The query of a row and a column's head at dimension `e`. -/
def qe (q : AQ) (R : Fin 8192) (C : Fin 2048) (e : Fin 128) : EReal :=
  q (ix2 R (⟨(C : ℕ) / 128 * 128 + e, by omega⟩ : Fin 2048))

/-- The scale `128^(-1/2)` as the reference rounds it. -/
def r0 : EReal := Ideal.ofBits .f32 0x3DB504F3#32

/-- The scaled score of key `j`. -/
def score (q : AQ) (k : AK) (kc : AC) (R : Fin 8192) (C : Fin 2048) (j : Fin 4352) : EReal :=
  (∑ e : Fin 128, kv k kc R C j e * qe q R C e) * r0

/-- The attention's entry: the values weighted by the softmax of the scores. -/
def out (q : AQ) (k v : AK) (kc vc : AC) (R : Fin 8192) (C : Fin 2048) : EReal :=
  ∑ j : Fin 4352, kv v vc R C j (⟨(C : ℕ) % 128, by omega⟩ : Fin 128) *
    Ideal.div (Ideal.exp (score q k kc R C j - Finset.univ.fold max ⊥ (score q k kc R C)))
      (0 + ∑ i, Ideal.exp (score q k kc R C i - Finset.univ.fold max ⊥ (score q k kc R C)))

end Att
-- ==== Proof.Core.lean ====
module

public import proofs.«01_k».proof.Proof.ChunkInv
public import proofs.«01_k».proof.Proof.Spec

/-! # The body's quotient at one column is the plain softmax-weighted sum -/

@[expose] public section

set_option maxRecDepth 16384
noncomputable section
namespace Cert.AttnIdeal.Att
open Idealize.ShloMosaic Idealize.ShloMosaic.TcCoe Idealize.SL.Sem
open Cert.AttnIdeal Cert.AttnIdeal.Gen

/-- The scale the host puts on the queries: `128^(-1/2) / log 2`. -/
def r1 : EReal := Ideal.div Att.r0 (Ideal.log (Ideal.ofBits .f32 0x40000000#32))

/-- The rounded `128^(-1/2)` is a real number. -/
theorem r0_real : ∃ ρ : ℝ, Att.r0 = (ρ : EReal) := by
  unfold Att.r0
  exact ⟨_, by simp [Ideal.ofBits, Ideal.ieee]; rfl⟩

theorem log_two : Ideal.log (Ideal.ofBits .f32 0x40000000#32) = ((Real.log 2 : ℝ) : EReal) := by
  have h : Ideal.ofBits .f32 0x40000000#32 = ((2 : ℝ) : EReal) := by
    simp [Ideal.ofBits, Ideal.ieee]
    rw [← EReal.coe_mul]
    norm_num
  rw [h]
  change (if (2 : ℝ) ≤ 0 then (⊥ : EReal) else (Real.log 2 : EReal)) = _
  rw [if_neg (by norm_num)]

theorem r1_eq (ρ : ℝ) (h : Att.r0 = (ρ : EReal)) : r1 = ((ρ / Real.log 2 : ℝ) : EReal) := by
  unfold r1
  rw [log_two, h, Online.div_coe _ _ (Real.log_pos (by norm_num)), ← EReal.coe_mul]
  congr 1
  rw [inv_mul_eq_div]

/-- One score, both ways: scaled after the sum by `128^(-1/2)`, or the query scaled before it and divided by `log 2`. -/
theorem score_two (K Q : Fin 128 → EReal) (hK : ∀ e, ∃ r : ℝ, K e = (r : EReal)) (hQ : ∀ e, ∃ r : ℝ, Q e = (r : EReal)) :
    ∃ t : ℝ, (∑ e, K e * Q e) * Att.r0 = (t : EReal) ∧ ∑ e, K e * (Q e * r1) = ((t / Real.log 2 : ℝ) : EReal) := by
  choose k hk using hK
  choose q hq using hQ
  obtain ⟨ρ, hρ⟩ := r0_real
  refine ⟨(∑ e, k e * q e) * ρ, ?_, ?_⟩
  · simp only [hk, hq, hρ, ← EReal.coe_mul]
    rw [Online.sum_coe, ← EReal.coe_mul]
  · simp only [hk, hq, r1_eq ρ hρ, ← EReal.coe_mul]
    rw [Online.sum_coe]
    congr 1
    rw [mul_div_assoc, Finset.sum_mul]
    exact Finset.sum_congr rfl fun e _ => (mul_assoc _ _ _).symm

section
variable (q0 q1 q2 q3 k0 k1 k2 k3 k4 k5 k6 k7 : Vec Ideal S512x128 .bf16) (v0 v1 v2 v3 v4 v5 v6 v7 : Vec Ideal S1x128x512 .bf16)
  (kc : Vec Ideal S256x128 .bf16) (vc : Vec Ideal S128x256 .bf16)

/-- Over the keys `κ`, the values `ω` and the query `Q` of one column: the quotient is `Σ ω · softmax`. -/
theorem core (x : Fin 2048) (d : Fin 128) (Q : Fin 128 → EReal) (κ : Fin 4352 → Fin 128 → EReal) (ω : Fin 4352 → EReal)
    (hQ : ∀ e, ∃ r : ℝ, Q e = (r : EReal)) (hκ : ∀ j e, ∃ r : ℝ, κ j e = (r : EReal))
    (hq : ∀ e, k0_pay17 (F := Ideal) q0 q1 q2 q3 (ix2 e x) = Q e * r1)
    (h0 : ∀ (j : Fin 512) e, k0 (ix2 j e) = κ ⟨0 + j, by omega⟩ e) (h1 : ∀ (j : Fin 512) e, k1 (ix2 j e) = κ ⟨512 + j, by omega⟩ e)
    (h2 : ∀ (j : Fin 512) e, k2 (ix2 j e) = κ ⟨1024 + j, by omega⟩ e) (h3 : ∀ (j : Fin 512) e, k3 (ix2 j e) = κ ⟨1536 + j, by omega⟩ e)
    (h4 : ∀ (j : Fin 512) e, k4 (ix2 j e) = κ ⟨2048 + j, by omega⟩ e) (h5 : ∀ (j : Fin 512) e, k5 (ix2 j e) = κ ⟨2560 + j, by omega⟩ e)
    (h6 : ∀ (j : Fin 512) e, k6 (ix2 j e) = κ ⟨3072 + j, by omega⟩ e) (h7 : ∀ (j : Fin 512) e, k7 (ix2 j e) = κ ⟨3584 + j, by omega⟩ e)
    (hc : ∀ (j : Fin 256) e, kc (ix2 j e) = κ ⟨4096 + j, by omega⟩ e)
    (w0 : ∀ j : Fin 512, v0 (ix3 0 d j) = ω ⟨0 + j, by omega⟩) (w1 : ∀ j : Fin 512, v1 (ix3 0 d j) = ω ⟨512 + j, by omega⟩)
    (w2 : ∀ j : Fin 512, v2 (ix3 0 d j) = ω ⟨1024 + j, by omega⟩) (w3 : ∀ j : Fin 512, v3 (ix3 0 d j) = ω ⟨1536 + j, by omega⟩)
    (w4 : ∀ j : Fin 512, v4 (ix3 0 d j) = ω ⟨2048 + j, by omega⟩) (w5 : ∀ j : Fin 512, v5 (ix3 0 d j) = ω ⟨2560 + j, by omega⟩)
    (w6 : ∀ j : Fin 512, v6 (ix3 0 d j) = ω ⟨3072 + j, by omega⟩) (w7 : ∀ j : Fin 512, v7 (ix3 0 d j) = ω ⟨3584 + j, by omega⟩)
    (wc : ∀ j : Fin 256, vc (ix2 d j) = ω ⟨4096 + j, by omega⟩)
    (σ : Fin 4352 → EReal) (hσ : ∀ j, σ j = (∑ e, κ j e * Q e) * Att.r0) :
    fin (tri q0 q1 q2 q3 k0 k1 k2 k3 k4 k5 k6 k7 v0 v1 v2 v3 v4 v5 v6 v7 kc vc) (ix2 x d)
      = ∑ j, ω j * Ideal.div (Ideal.exp (σ j - Finset.univ.fold max ⊥ σ)) (0 + ∑ i, Ideal.exp (σ i - Finset.univ.fold max ⊥ σ)) := by
  choose t ht ht' using fun j => score_two (κ j) Q (hκ j) hQ
  let s : ℕ → ℝ := fun i => if h : i < 4352 then t ⟨i, h⟩ / Real.log 2 else 0
  let w : ℕ → EReal := fun i => if h : i < 4352 then ω ⟨i, h⟩ else 0
  have hs : ∀ i (h : i < 4352), s i = t ⟨i, h⟩ / Real.log 2 := fun i h => dif_pos h
  have hw : ∀ i (h : i < 4352), w i = ω ⟨i, h⟩ := fun i h => dif_pos h
  have S : ∀ (N : ℕ) (hN : N + 512 ≤ 4352) (k : Vec Ideal S512x128 .bf16)
      (_ : ∀ (j : Fin 512) e, k (ix2 j e) = κ ⟨N + j, by omega⟩ e) (j : Fin 512),
      sc k (k0_pay17 q0 q1 q2 q3) (ix2 j x) = (s (N + j) : EReal) := by
    intro N hN k hk j
    rw [sc_at, hs (N + j) (by omega), ← ht']
    exact Finset.sum_congr rfl fun e _ => by rw [hk, hq]
  have SC : ∀ j : Fin 256, scc kc (k0_pay17 q0 q1 q2 q3) (ix2 j x) = (s (4096 + j) : EReal) := by
    intro j
    rw [scc_at, hs (4096 + j) (by omega), ← ht']
    exact Finset.sum_congr rfl fun e _ => by rw [hc, hq]
  have W : ∀ (N : ℕ) (hN : N + 512 ≤ 4352) (v : Vec Ideal S1x128x512 .bf16)
      (_ : ∀ j : Fin 512, v (ix3 0 d j) = ω ⟨N + j, by omega⟩) (j : Fin 512), v (ix3 0 d j) = w (N + j) := by
    intro N hN v hv j
    rw [hv, hw]
  have S0 := S 0 (by omega) k0 h0
  have W0 := W 0 (by omega) v0 w0
  simp only [Nat.zero_add] at S0 W0
  have T0 := first_inv (s := s) (w := w) (x := x) (d := d) (k0_pay17 q0 q1 q2 q3) k0 v0 S0 W0
  have T1 := nxt_inv T0 (k0_pay17 q0 q1 q2 q3) k1 v1 (S 512 (by omega) k1 h1) (W 512 (by omega) v1 w1)
  have T2 := nxt_inv T1 (k0_pay17 q0 q1 q2 q3) k2 v2 (S 1024 (by omega) k2 h2) (W 1024 (by omega) v2 w2)
  have T3 := nxt_inv T2 (k0_pay17 q0 q1 q2 q3) k3 v3 (S 1536 (by omega) k3 h3) (W 1536 (by omega) v3 w3)
  have T4 := nxt_inv T3 (k0_pay17 q0 q1 q2 q3) k4 v4 (S 2048 (by omega) k4 h4) (W 2048 (by omega) v4 w4)
  have T5 := nxt_inv T4 (k0_pay17 q0 q1 q2 q3) k5 v5 (S 2560 (by omega) k5 h5) (W 2560 (by omega) v5 w5)
  have T6 := nxt_inv T5 (k0_pay17 q0 q1 q2 q3) k6 v6 (S 3072 (by omega) k6 h6) (W 3072 (by omega) v6 w6)
  have T7 := nxt_inv T6 (k0_pay17 q0 q1 q2 q3) k7 v7 (S 3584 (by omega) k7 h7) (W 3584 (by omega) v7 w7)
  have T8 := nxtc_inv T7 (k0_pay17 q0 q1 q2 q3) kc vc SC (fun j => by rw [wc, hw])
  have F := fin_inv (N := 4352) T8 (by omega)
  refine Eq.trans F ?_
  rw [← Fin.sum_univ_eq_sum_range (fun i => w i * ((Real.rpow 2 (s i) / ∑ j ∈ Finset.range 4352, Real.rpow 2 (s j) : ℝ) : EReal)),
    ← Fin.sum_univ_eq_sum_range (fun j => Real.rpow 2 (s j))]
  have E : ∀ j : Fin 4352, Real.rpow 2 (s j) = Real.exp (t j) := fun j => by
    rw [hs j j.2]; exact Online.rpow_div_log _
  simp only [E]
  refine Finset.sum_congr rfl fun j _ => ?_
  rw [hw j j.2, Online.weight (by omega) t σ (fun j => (hσ j).trans (ht j)) j _ rfl]

end
end Cert.AttnIdeal.Att
-- ==== Proof.Arrays.lean ====
module

public import proofs.«01_k».proof.Proof.Core

/-! # The kernel's two operands, entry by entry -/

@[expose] public section

set_option maxRecDepth 16384
noncomputable section
namespace Cert.AttnIdeal.Att
open Idealize.ShloMosaic Idealize.ShloMosaic.TcCoe Idealize.SL.Sem
open Cert.AttnIdeal Cert.AttnIdeal.Gen

/-- The projection's columns: `u`, the scaled queries, the keys, the values, the gate. -/
def proj (a0 : FVec Ideal S8192x1024 .f32) (a1 : FVec Ideal S8192x2048 .f32) (a2 a3 : FVec Ideal S8192x512 .f32)
    (a4 : FVec Ideal S8192x4096 .f32) : FVec Ideal S8192x8192 .bf16 :=
  truncf .bf16 (concatenate S8192x8192 1 [⟨S8192x1024, a0⟩, ⟨S8192x2048, mulf a1 (broadcastInDim S8192x2048 ![] bcast_S_S8192x2048
    (Host.divf (constant S_ .f32 0x3DB504F3#32) (Host.log (constant S_ .f32 0x40000000#32))))⟩, ⟨S8192x512, a2⟩, ⟨S8192x512, a3⟩,
    ⟨S8192x4096, a4⟩] concatenates_S8192x1024_S8192x2048_S8192x512_S8192x512_S8192x4096_S8192x8192_d1) bitsLt_bf16_f32

/-- The context's columns: its keys, its values. -/
def ctx (a5 a6 : FVec Ideal S512x512 .f32) : FVec Ideal S512x1024 .bf16 :=
  truncf .bf16 (concatenate S512x1024 1 [⟨S512x512, a5⟩, ⟨S512x512, a6⟩] concatenates_S512x512_S512x512_S512x1024_d1) bitsLt_bf16_f32

section
variable (a0 : FVec Ideal S8192x1024 .f32) (a1 : FVec Ideal S8192x2048 .f32) (a2 a3 : FVec Ideal S8192x512 .f32)
    (a4 : FVec Ideal S8192x4096 .f32) (a5 a6 : FVec Ideal S512x512 .f32) (R : Fin 8192) (X : Fin 512)

theorem proj_q (C : Fin 2048) : proj a0 a1 a2 a3 a4 (ix2 R (⟨1024 + C, by omega⟩ : Fin 8192)) = (a1 (ix2 R C) * r1 : EReal) := by
  unfold r1 Att.r0
  pointwise [proj]
theorem proj_k (C : Fin 512) : proj a0 a1 a2 a3 a4 (ix2 R (⟨3072 + C, by omega⟩ : Fin 8192)) = a2 (ix2 R C) := by
  pointwise [proj]
  rw [dif_neg (by omega), dif_neg (by omega), dif_pos (by omega)]
  exact congrArg _ (congrArg (ix2 R) (Fin.ext (by dsimp only; omega)))
theorem proj_v (C : Fin 512) : proj a0 a1 a2 a3 a4 (ix2 R (⟨3584 + C, by omega⟩ : Fin 8192)) = a3 (ix2 R C) := by
  pointwise [proj]
  rw [dif_neg (by omega), dif_neg (by omega), dif_neg (by omega), dif_pos (by omega)]
  exact congrArg _ (congrArg (ix2 R) (Fin.ext (by dsimp only; omega)))
theorem ctx_k (C : Fin 512) : ctx a5 a6 (ix2 X (⟨C, by omega⟩ : Fin 1024)) = a5 (ix2 X C) := by
  pointwise [ctx]
theorem ctx_v (C : Fin 512) : ctx a5 a6 (ix2 X (⟨512 + C, by omega⟩ : Fin 1024)) = a6 (ix2 X C) := by
  pointwise [ctx]
end

variable (m : (ℓ : Loc nD τ sig) → Buf (Elt Ideal) ℓ) (c : Dev nD)

theorem V_proj : V m c main_v5 = proj (m ((c : Thread nD τ).loc main_arg0)) (m ((c : Thread nD τ).loc main_arg1))
    (m ((c : Thread nD τ).loc main_arg2)) (m ((c : Thread nD τ).loc main_arg3)) (m ((c : Thread nD τ).loc main_arg4)) := by
  unfold V
  after_results
  rfl

theorem V_ctx : V m c main_v7 = ctx (m ((c : Thread nD τ).loc main_arg5)) (m ((c : Thread nD τ).loc main_arg6)) := by
  unfold V
  after_results
  rfl

end Cert.AttnIdeal.Att
-- ==== Proof.Blocks.lean ====
module

public import proofs.«01_k».proof.Proof.Gen.AttnIdeal.Value
public import Idealize.ShloMosaic.Lib.Pipeline.ValueKit

/-! # The kernel's input blocks in its operands' entries -/

@[expose] public section

set_option maxRecDepth 16384
noncomputable section
namespace Cert.AttnIdeal.Att
open Idealize.ShloMosaic Idealize.ShloMosaic.TcCoe Idealize.SL.Sem
open Cert.AttnIdeal Cert.AttnIdeal.Gen

/-- Which block of each array a grid point reads or writes. -/
theorem idx : ∀ t : Fin cfg0.N,
    win0_0.index t = ![t.val / 32 * 8 + t.val % 8, 2 + t.val / 8 % 4] ∧ win0_1.index t = ![t.val / 32, 24 + t.val / 8 % 4]
    ∧ win0_2.index t = ![t.val / 32, 28 + t.val / 8 % 4] ∧ win0_3.index t = ![t.val / 32, t.val / 8 % 4]
    ∧ win0_4.index t = ![t.val / 32, 4 + t.val / 8 % 4] ∧ win0_5.index t = ![t.val / 32 * 8 + t.val % 8, t.val / 8 % 4] :=
  (by decide +kernel : ∀ t : Fin grid0.N, _)

variable (m : (ℓ : Loc nD τ sig) → Buf (Elt Ideal) ℓ) (c : Dev nD)

theorem iblk_0 (t : Fin 64) (r x : Fin 512) (P : FVec Ideal S8192x8192 .bf16) (h : V m c main_v5 = P) :
    iblk m c 0 t (ix2 r x) = P
      (ix2 (⟨(t.val / 32 * 8 + t.val % 8) * 512 + r, by omega⟩ : Fin 8192) (⟨1024 + (t.val / 8 % 4 * 512 + x), by omega⟩ : Fin 8192)) := by
  subst h
  blk_ext [iblk, idx t]

theorem iblk_1 (t : Fin 64) (r : Fin 4096) (x : Fin 128) (P : FVec Ideal S8192x8192 .bf16) (h : V m c main_v5 = P) :
    iblk m c 1 t (ix2 r x) = P
      (ix2 (⟨t.val / 32 * 4096 + r, by omega⟩ : Fin 8192) (⟨3072 + (t.val / 8 % 4 * 128 + x), by omega⟩ : Fin 8192)) := by
  subst h
  blk_ext [iblk, idx t]

theorem iblk_2 (t : Fin 64) (r : Fin 4096) (x : Fin 128) (P : FVec Ideal S8192x8192 .bf16) (h : V m c main_v5 = P) :
    iblk m c 2 t (ix2 r x) = P
      (ix2 (⟨t.val / 32 * 4096 + r, by omega⟩ : Fin 8192) (⟨3584 + (t.val / 8 % 4 * 128 + x), by omega⟩ : Fin 8192)) := by
  subst h
  blk_ext [iblk, idx t]

theorem iblk_3 (t : Fin 64) (r : Fin 256) (x : Fin 128) (P : FVec Ideal S512x1024 .bf16) (h : V m c main_v7 = P) :
    iblk m c 3 t (ix2 r x) = P
      (ix2 (⟨t.val / 32 * 256 + r, by omega⟩ : Fin 512) (⟨t.val / 8 % 4 * 128 + x, by omega⟩ : Fin 1024)) := by
  subst h
  blk_ext [iblk, idx t]

theorem iblk_4 (t : Fin 64) (r : Fin 256) (x : Fin 128) (P : FVec Ideal S512x1024 .bf16) (h : V m c main_v7 = P) :
    iblk m c 4 t (ix2 r x) = P
      (ix2 (⟨t.val / 32 * 256 + r, by omega⟩ : Fin 512) (⟨512 + (t.val / 8 % 4 * 128 + x), by omega⟩ : Fin 1024)) := by
  subst h
  blk_ext [iblk, idx t]

end Cert.AttnIdeal.Att
-- ==== Proof.QAt.lean ====
module

public import proofs.«01_k».proof.Proof.Gen.AttnIdeal.Value
public import Idealize.ShloMosaic.Lib.Pipeline.ValueKit

/-! # The four heads' queries side by side, transposed -/

@[expose] public section

set_option maxRecDepth 16384
noncomputable section
namespace Cert.AttnIdeal.Att
open Idealize.ShloMosaic Idealize.ShloMosaic.TcCoe Idealize.SL.Sem
open Cert.AttnIdeal Cert.AttnIdeal.Gen

variable (q0 q1 q2 q3 : Vec Ideal S512x128 .bf16) (e : Fin 128) (r : Fin 512)

theorem qt0 : k0_pay17 (F := Ideal) q0 q1 q2 q3 (ix2 e (⟨0 + r, by omega⟩ : Fin 2048)) = q0 (ix2 r e) := by
  pointwise [k0_pay17]
theorem qt1 : k0_pay17 (F := Ideal) q0 q1 q2 q3 (ix2 e (⟨512 + r, by omega⟩ : Fin 2048)) = q1 (ix2 r e) := by
  pointwise [k0_pay17]
theorem qt2 : k0_pay17 (F := Ideal) q0 q1 q2 q3 (ix2 e (⟨1024 + r, by omega⟩ : Fin 2048)) = q2 (ix2 r e) := by
  pointwise [k0_pay17]
  blk_point []
  all_goals (exfalso; omega)
theorem qt3 : k0_pay17 (F := Ideal) q0 q1 q2 q3 (ix2 e (⟨1536 + r, by omega⟩ : Fin 2048)) = q3 (ix2 r e) := by
  pointwise [k0_pay17]
  blk_point []
  all_goals (exfalso; omega)

end Cert.AttnIdeal.Att
-- ==== Proof.Stores.lean ====
module

public import proofs.«01_k».proof.Proof.Arrays
public import proofs.«01_k».proof.Proof.Blocks
public import proofs.«01_k».proof.Proof.QAt

/-! # What one grid point stores, in the attention's entries -/

@[expose] public section

set_option maxRecDepth 16384
noncomputable section
namespace Cert.AttnIdeal.Att
open Idealize.ShloMosaic Idealize.ShloMosaic.TcCoe Idealize.SL.Sem
open Cert.AttnIdeal Cert.AttnIdeal.Gen

section
variable (a : FVec Ideal S1x2048 .f32) (b : FVec Ideal S128x2048 .f32) (v : Vec Ideal S128x256 .bf16) (l : FVec Ideal S1x2048 .f32)
  (s : FVec Ideal S256x2048 .f32) (r : Fin 512) (d : Fin 128)

theorem pay2_at : k0_pay2 a b v l s (ix2 r d) = k0_pay1 a b v l s (ix2 (⟨0 + r, by omega⟩ : Fin 2048) d) := by
  unfold k0_pay2
  generalize k0_pay1 a b v l s = T
  pointwise []
theorem pay3_at : k0_pay3 a b v l s (ix2 r d) = k0_pay1 a b v l s (ix2 (⟨512 + r, by omega⟩ : Fin 2048) d) := by
  unfold k0_pay3
  generalize k0_pay1 a b v l s = T
  pointwise []
theorem pay4_at : k0_pay4 a b v l s (ix2 r d) = k0_pay1 a b v l s (ix2 (⟨1024 + r, by omega⟩ : Fin 2048) d) := by
  unfold k0_pay4
  generalize k0_pay1 a b v l s = T
  pointwise []
theorem pay5_at : k0_pay5 a b v l s (ix2 r d) = k0_pay1 a b v l s (ix2 (⟨1536 + r, by omega⟩ : Fin 2048) d) := by
  unfold k0_pay5
  generalize k0_pay1 a b v l s = T
  pointwise []
end

variable (m : (ℓ : Loc nD τ sig) → Buf (Elt Ideal) ℓ) (c : Dev nD) (t : Fin 64)

/-- The attention of the arguments. -/
abbrev attn (R : Fin 8192) (C : Fin 2048) : EReal :=
  Att.out (m ((c : Thread nD τ).loc main_arg1)) (m ((c : Thread nD τ).loc main_arg2)) (m ((c : Thread nD τ).loc main_arg3))
    (m ((c : Thread nD τ).loc main_arg5)) (m ((c : Thread nD τ).loc main_arg6)) R C

/-- The queries and both keys are real numbers. -/
def Real3 : Prop := (∀ i, ∃ r : ℝ, m ((c : Thread nD τ).loc main_arg1) i = (r : EReal))
  ∧ (∀ i, ∃ r : ℝ, m ((c : Thread nD τ).loc main_arg2) i = (r : EReal)) ∧ (∀ i, ∃ r : ℝ, m ((c : Thread nD τ).loc main_arg5) i = (r : EReal))

/-- The row and the column of the result a grid point writes at row `r`, head `h` and dimension `d` of its block. -/
abbrev row (r : Fin 512) : Fin 8192 := ⟨(t.val / 32 * 8 + t.val % 8) * 512 + r, by omega⟩
abbrev col (h : Fin 4) (d : Fin 128) : Fin 2048 := ⟨t.val / 8 % 4 * 512 + (h * 128 + d), by omega⟩

variable {m c}

theorem kv_real (hr : Real3 m c) (R : Fin 8192) (C : Fin 2048) (j : Fin 4352) (e : Fin 128) :
    ∃ r : ℝ, Att.kv (m ((c : Thread nD τ).loc main_arg2)) (m ((c : Thread nD τ).loc main_arg5)) R C j e = (r : EReal) := by
  unfold Att.kv
  split
  · exact hr.2.1 _
  · exact hr.2.2 _

/-- A key of the sequence, from the point's key block. -/
theorem key_at (r : Fin 512) (h : Fin 4) (d : Fin 128) (n : ℕ) (hn : n < 4096) (e : Fin 128) :
    iblk m c 1 t (ix2 (⟨n, hn⟩ : Fin 4096) e)
      = Att.kv (m ((c : Thread nD τ).loc main_arg2)) (m ((c : Thread nD τ).loc main_arg5)) (row t r) (col t h d) ⟨n, by omega⟩ e := by
  rw [iblk_1 m c t _ _ _ (V_proj m c), proj_k _ _ _ _ _ _ (⟨t.val / 8 % 4 * 128 + e, by omega⟩ : Fin 512)]
  unfold Att.kv
  rw [dif_pos hn]
  exact congrArg _ (congrArg₂ ix2 (Fin.ext (by dsimp only; omega)) (Fin.ext (by dsimp only; omega)))

/-- A value of the sequence, from the point's value block. -/
theorem val_at (r : Fin 512) (h : Fin 4) (d : Fin 128) (n : ℕ) (hn : n < 4096) (e : Fin 128) :
    iblk m c 2 t (ix2 (⟨n, hn⟩ : Fin 4096) e)
      = Att.kv (m ((c : Thread nD τ).loc main_arg3)) (m ((c : Thread nD τ).loc main_arg6)) (row t r) (col t h d) ⟨n, by omega⟩ e := by
  rw [iblk_2 m c t _ _ _ (V_proj m c), proj_v _ _ _ _ _ _ (⟨t.val / 8 % 4 * 128 + e, by omega⟩ : Fin 512)]
  unfold Att.kv
  rw [dif_pos hn]
  exact congrArg _ (congrArg₂ ix2 (Fin.ext (by dsimp only; omega)) (Fin.ext (by dsimp only; omega)))

/-- A key of the context. -/
theorem ckey_at (r : Fin 512) (h : Fin 4) (d : Fin 128) (n : Fin 256) (e : Fin 128) :
    iblk m c 3 t (ix2 n e)
      = Att.kv (m ((c : Thread nD τ).loc main_arg2)) (m ((c : Thread nD τ).loc main_arg5)) (row t r) (col t h d) ⟨4096 + n, by omega⟩ e := by
  rw [iblk_3 m c t _ _ _ (V_ctx m c), ctx_k _ _ _ (⟨t.val / 8 % 4 * 128 + e, by omega⟩ : Fin 512)]
  unfold Att.kv
  rw [dif_neg (by dsimp only; omega)]
  exact congrArg _ (congrArg₂ ix2 (Fin.ext (by dsimp only; omega)) (Fin.ext (by dsimp only; omega)))

/-- A value of the context. -/
theorem cval_at (r : Fin 512) (h : Fin 4) (d : Fin 128) (n : Fin 256) (e : Fin 128) :
    iblk m c 4 t (ix2 n e)
      = Att.kv (m ((c : Thread nD τ).loc main_arg3)) (m ((c : Thread nD τ).loc main_arg6)) (row t r) (col t h d) ⟨4096 + n, by omega⟩ e := by
  rw [iblk_4 m c t _ _ _ (V_ctx m c), ctx_v _ _ _ (⟨t.val / 8 % 4 * 128 + e, by omega⟩ : Fin 512)]
  unfold Att.kv
  rw [dif_neg (by dsimp only; omega)]
  exact congrArg _ (congrArg₂ ix2 (Fin.ext (by dsimp only; omega)) (Fin.ext (by dsimp only; omega)))

/-- A scaled query, from the point's query block. -/
theorem query_at (r : Fin 512) (h : Fin 4) (d : Fin 128) (e : Fin 128) (x : Fin 512) (hx : (x : ℕ) = h * 128 + e) :
    iblk m c 0 t (ix2 r x) = (Att.qe (m ((c : Thread nD τ).loc main_arg1)) (row t r) (col t h d) e * r1 : EReal) := by
  rw [iblk_0 m c t _ _ _ (V_proj m c), proj_q _ _ _ _ _ _ (⟨t.val / 8 % 4 * 512 + x, by omega⟩ : Fin 2048)]
  unfold Att.qe
  refine congrArg (· * r1) ?_
  exact congrArg _ (congrArg₂ ix2 (Fin.ext (by dsimp only)) (Fin.ext (by dsimp only; omega)))

/-- A block read through a box of whole rows or columns. -/
theorem ldk (B : Vec Ideal S4096x128 .bf16) (o : ℕ) (inb : ∀ a, (![o, 0] : Fin 2 → ℕ) a + S512x128.size a ≤ S4096x128.size a)
    (j : Fin 512) (e : Fin 128) (hj : o + j < 4096) : View.ld B (Rect.unit ![o, 0] S512x128.size inb) (ix2 j e) = B (ix2 ⟨o + j, hj⟩ e) := by
  pointwise []
theorem ldq (B : Vec Ideal S512x512 .bf16) (o : ℕ) (inb : ∀ a, (![0, o] : Fin 2 → ℕ) a + S512x128.size a ≤ S512x512.size a)
    (r : Fin 512) (e : Fin 128) (he : o + e < 512) : View.ld B (Rect.unit ![0, o] S512x128.size inb) (ix2 r e) = B (ix2 r ⟨o + e, he⟩) := by
  pointwise []

section
variable {v0 v1 v2 v3 v4 v5 v6 v7 : Vec Ideal S1x128x512 .bf16} {vc : Vec Ideal S128x256 .bf16}

/-- The values a point reads are its value blocks', transposed. -/
def Vals (m : (ℓ : Loc nD τ sig) → Buf (Elt Ideal) ℓ) (c : Dev nD) (t : Fin 64) (v0 v1 v2 v3 v4 v5 v6 v7 : Vec Ideal S1x128x512 .bf16)
    (vc : Vec Ideal S128x256 .bf16) : Prop :=
  (∀ (d : Fin 128) (j : Fin 512), v0 (ix3 0 d j) = iblk m c 2 t (ix2 (⟨0 + j, by omega⟩ : Fin 4096) d)) ∧ (∀ (d : Fin 128) (j : Fin 512), v1 (ix3 0 d j) = iblk m c 2 t (ix2 (⟨512 + j, by omega⟩ : Fin 4096) d)) ∧ (∀ (d : Fin 128) (j : Fin 512), v2 (ix3 0 d j) = iblk m c 2 t (ix2 (⟨1024 + j, by omega⟩ : Fin 4096) d)) ∧ (∀ (d : Fin 128) (j : Fin 512), v3 (ix3 0 d j) = iblk m c 2 t (ix2 (⟨1536 + j, by omega⟩ : Fin 4096) d)) ∧ (∀ (d : Fin 128) (j : Fin 512), v4 (ix3 0 d j) = iblk m c 2 t (ix2 (⟨2048 + j, by omega⟩ : Fin 4096) d)) ∧ (∀ (d : Fin 128) (j : Fin 512), v5 (ix3 0 d j) = iblk m c 2 t (ix2 (⟨2560 + j, by omega⟩ : Fin 4096) d)) ∧ (∀ (d : Fin 128) (j : Fin 512), v6 (ix3 0 d j) = iblk m c 2 t (ix2 (⟨3072 + j, by omega⟩ : Fin 4096) d)) ∧ (∀ (d : Fin 128) (j : Fin 512), v7 (ix3 0 d j) = iblk m c 2 t (ix2 (⟨3584 + j, by omega⟩ : Fin 4096) d))
    ∧ ∀ (d : Fin 128) (j : Fin 256), vc (ix2 d j) = iblk m c 4 t (ix2 j d)

/-- The quotient at one column of the score tile: the attention at the row and head that column stands for. -/
theorem quot_at (hr : Real3 m c) (hv : Vals m c t v0 v1 v2 v3 v4 v5 v6 v7 vc) (r : Fin 512) (h : Fin 4) (d : Fin 128)
    (x : Fin 2048) (hq : ∀ e, k0_pay17 (F := Ideal) (View.ld (iblk m c 0 t) (Rect.unit ![0, 0] S512x128.size inb_S512x512_S512x128_0_0)) (View.ld (iblk m c 0 t) (Rect.unit ![0, 128] S512x128.size inb_S512x512_S512x128_0_128)) (View.ld (iblk m c 0 t) (Rect.unit ![0, 256] S512x128.size inb_S512x512_S512x128_0_256)) (View.ld (iblk m c 0 t) (Rect.unit ![0, 384] S512x128.size inb_S512x512_S512x128_0_384)) (ix2 e x)
      = (Att.qe (m ((c : Thread nD τ).loc main_arg1)) (row t r) (col t h d) e * r1 : EReal)) :
    fin (tri (View.ld (iblk m c 0 t) (Rect.unit ![0, 0] S512x128.size inb_S512x512_S512x128_0_0)) (View.ld (iblk m c 0 t) (Rect.unit ![0, 128] S512x128.size inb_S512x512_S512x128_0_128)) (View.ld (iblk m c 0 t) (Rect.unit ![0, 256] S512x128.size inb_S512x512_S512x128_0_256)) (View.ld (iblk m c 0 t) (Rect.unit ![0, 384] S512x128.size inb_S512x512_S512x128_0_384)) (View.ld (iblk m c 1 t) (Rect.unit ![0, 0] S512x128.size inb_S4096x128_S512x128_0_0)) (View.ld (iblk m c 1 t) (Rect.unit ![512, 0] S512x128.size inb_S4096x128_S512x128_512_0)) (View.ld (iblk m c 1 t) (Rect.unit ![1024, 0] S512x128.size inb_S4096x128_S512x128_1024_0)) (View.ld (iblk m c 1 t) (Rect.unit ![1536, 0] S512x128.size inb_S4096x128_S512x128_1536_0)) (View.ld (iblk m c 1 t) (Rect.unit ![2048, 0] S512x128.size inb_S4096x128_S512x128_2048_0)) (View.ld (iblk m c 1 t) (Rect.unit ![2560, 0] S512x128.size inb_S4096x128_S512x128_2560_0)) (View.ld (iblk m c 1 t) (Rect.unit ![3072, 0] S512x128.size inb_S4096x128_S512x128_3072_0)) (View.ld (iblk m c 1 t) (Rect.unit ![3584, 0] S512x128.size inb_S4096x128_S512x128_3584_0)) v0 v1 v2 v3 v4 v5 v6 v7 (iblk m c 3 t) vc) (ix2 x d)
      = attn m c (row t r) (col t h d) := by
  obtain ⟨w0, w1, w2, w3, w4, w5, w6, w7, wc⟩ := hv
  have hd : (⟨((col t h d : Fin 2048) : ℕ) % 128, by omega⟩ : Fin 128) = d := Fin.ext (by dsimp only; omega)
  refine (core _ _ _ _ _ _ _ _ _ _ _ _ v0 v1 v2 v3 v4 v5 v6 v7 (iblk m c 3 t) vc x d
    (Att.qe (m ((c : Thread nD τ).loc main_arg1)) (row t r) (col t h d))
    (Att.kv (m ((c : Thread nD τ).loc main_arg2)) (m ((c : Thread nD τ).loc main_arg5)) (row t r) (col t h d))
    (fun j => Att.kv (m ((c : Thread nD τ).loc main_arg3)) (m ((c : Thread nD τ).loc main_arg6)) (row t r) (col t h d) j d)
    (fun e => hr.1 _) (kv_real hr _ _) hq
    (fun j e => (ldk _ 0 _ j e (by omega)).trans (key_at t r h d _ _ e)) (fun j e => (ldk _ 512 _ j e (by omega)).trans (key_at t r h d _ _ e)) (fun j e => (ldk _ 1024 _ j e (by omega)).trans (key_at t r h d _ _ e)) (fun j e => (ldk _ 1536 _ j e (by omega)).trans (key_at t r h d _ _ e)) (fun j e => (ldk _ 2048 _ j e (by omega)).trans (key_at t r h d _ _ e)) (fun j e => (ldk _ 2560 _ j e (by omega)).trans (key_at t r h d _ _ e)) (fun j e => (ldk _ 3072 _ j e (by omega)).trans (key_at t r h d _ _ e)) (fun j e => (ldk _ 3584 _ j e (by omega)).trans (key_at t r h d _ _ e))
    (fun j e => ckey_at t r h d j e)
    (fun j => (w0 d j).trans (val_at t r h d _ _ d)) (fun j => (w1 d j).trans (val_at t r h d _ _ d)) (fun j => (w2 d j).trans (val_at t r h d _ _ d)) (fun j => (w3 d j).trans (val_at t r h d _ _ d)) (fun j => (w4 d j).trans (val_at t r h d _ _ d)) (fun j => (w5 d j).trans (val_at t r h d _ _ d)) (fun j => (w6 d j).trans (val_at t r h d _ _ d)) (fun j => (w7 d j).trans (val_at t r h d _ _ d))
    (fun j => (wc d j).trans (cval_at t r h d j d))
    (Att.score (m ((c : Thread nD τ).loc main_arg1)) (m ((c : Thread nD τ).loc main_arg2)) (m ((c : Thread nD τ).loc main_arg5)) (row t r) (col t h d))
    (fun j => rfl)).trans ?_
  unfold attn Att.out
  rw [hd]

/-- What the point stores for head 0. -/
theorem stored0 (hr : Real3 m c) (hv : Vals m c t v0 v1 v2 v3 v4 v5 v6 v7 vc) (r : Fin 512) (d : Fin 128) :
    body (View.ld (iblk m c 0 t) (Rect.unit ![0, 0] S512x128.size inb_S512x512_S512x128_0_0)) (View.ld (iblk m c 0 t) (Rect.unit ![0, 128] S512x128.size inb_S512x512_S512x128_0_128)) (View.ld (iblk m c 0 t) (Rect.unit ![0, 256] S512x128.size inb_S512x512_S512x128_0_256)) (View.ld (iblk m c 0 t) (Rect.unit ![0, 384] S512x128.size inb_S512x512_S512x128_0_384)) (View.ld (iblk m c 1 t) (Rect.unit ![0, 0] S512x128.size inb_S4096x128_S512x128_0_0)) (View.ld (iblk m c 1 t) (Rect.unit ![512, 0] S512x128.size inb_S4096x128_S512x128_512_0)) (View.ld (iblk m c 1 t) (Rect.unit ![1024, 0] S512x128.size inb_S4096x128_S512x128_1024_0)) (View.ld (iblk m c 1 t) (Rect.unit ![1536, 0] S512x128.size inb_S4096x128_S512x128_1536_0)) (View.ld (iblk m c 1 t) (Rect.unit ![2048, 0] S512x128.size inb_S4096x128_S512x128_2048_0)) (View.ld (iblk m c 1 t) (Rect.unit ![2560, 0] S512x128.size inb_S4096x128_S512x128_2560_0)) (View.ld (iblk m c 1 t) (Rect.unit ![3072, 0] S512x128.size inb_S4096x128_S512x128_3072_0)) (View.ld (iblk m c 1 t) (Rect.unit ![3584, 0] S512x128.size inb_S4096x128_S512x128_3584_0)) v0 v1 v2 v3 v4 v5 v6 v7 (iblk m c 3 t) vc k0_pay2 (ix2 r d) = attn m c (row t r) (col t 0 d) := by
  refine (pay2_at _ _ _ _ _ r d).trans ?_
  refine (congrFun (body_eq _ _ _ _ _ _ _ _ _ _ _ _ v0 v1 v2 v3 v4 v5 v6 v7 (iblk m c 3 t) vc) _).trans ?_
  refine quot_at t hr hv r 0 d _ fun e => ?_
  refine Eq.trans ?_ (query_at t r 0 d e ⟨0 + e, by omega⟩ (by dsimp only; omega))
  exact (qt0 _ _ _ _ e r).trans (ldq _ 0 _ r e (by omega))

/-- What the point stores for head 1. -/
theorem stored1 (hr : Real3 m c) (hv : Vals m c t v0 v1 v2 v3 v4 v5 v6 v7 vc) (r : Fin 512) (d : Fin 128) :
    body (View.ld (iblk m c 0 t) (Rect.unit ![0, 0] S512x128.size inb_S512x512_S512x128_0_0)) (View.ld (iblk m c 0 t) (Rect.unit ![0, 128] S512x128.size inb_S512x512_S512x128_0_128)) (View.ld (iblk m c 0 t) (Rect.unit ![0, 256] S512x128.size inb_S512x512_S512x128_0_256)) (View.ld (iblk m c 0 t) (Rect.unit ![0, 384] S512x128.size inb_S512x512_S512x128_0_384)) (View.ld (iblk m c 1 t) (Rect.unit ![0, 0] S512x128.size inb_S4096x128_S512x128_0_0)) (View.ld (iblk m c 1 t) (Rect.unit ![512, 0] S512x128.size inb_S4096x128_S512x128_512_0)) (View.ld (iblk m c 1 t) (Rect.unit ![1024, 0] S512x128.size inb_S4096x128_S512x128_1024_0)) (View.ld (iblk m c 1 t) (Rect.unit ![1536, 0] S512x128.size inb_S4096x128_S512x128_1536_0)) (View.ld (iblk m c 1 t) (Rect.unit ![2048, 0] S512x128.size inb_S4096x128_S512x128_2048_0)) (View.ld (iblk m c 1 t) (Rect.unit ![2560, 0] S512x128.size inb_S4096x128_S512x128_2560_0)) (View.ld (iblk m c 1 t) (Rect.unit ![3072, 0] S512x128.size inb_S4096x128_S512x128_3072_0)) (View.ld (iblk m c 1 t) (Rect.unit ![3584, 0] S512x128.size inb_S4096x128_S512x128_3584_0)) v0 v1 v2 v3 v4 v5 v6 v7 (iblk m c 3 t) vc k0_pay3 (ix2 r d) = attn m c (row t r) (col t 1 d) := by
  refine (pay3_at _ _ _ _ _ r d).trans ?_
  refine (congrFun (body_eq _ _ _ _ _ _ _ _ _ _ _ _ v0 v1 v2 v3 v4 v5 v6 v7 (iblk m c 3 t) vc) _).trans ?_
  refine quot_at t hr hv r 1 d _ fun e => ?_
  refine Eq.trans ?_ (query_at t r 1 d e ⟨128 + e, by omega⟩ (by dsimp only; omega))
  exact (qt1 _ _ _ _ e r).trans (ldq _ 128 _ r e (by omega))

/-- What the point stores for head 2. -/
theorem stored2 (hr : Real3 m c) (hv : Vals m c t v0 v1 v2 v3 v4 v5 v6 v7 vc) (r : Fin 512) (d : Fin 128) :
    body (View.ld (iblk m c 0 t) (Rect.unit ![0, 0] S512x128.size inb_S512x512_S512x128_0_0)) (View.ld (iblk m c 0 t) (Rect.unit ![0, 128] S512x128.size inb_S512x512_S512x128_0_128)) (View.ld (iblk m c 0 t) (Rect.unit ![0, 256] S512x128.size inb_S512x512_S512x128_0_256)) (View.ld (iblk m c 0 t) (Rect.unit ![0, 384] S512x128.size inb_S512x512_S512x128_0_384)) (View.ld (iblk m c 1 t) (Rect.unit ![0, 0] S512x128.size inb_S4096x128_S512x128_0_0)) (View.ld (iblk m c 1 t) (Rect.unit ![512, 0] S512x128.size inb_S4096x128_S512x128_512_0)) (View.ld (iblk m c 1 t) (Rect.unit ![1024, 0] S512x128.size inb_S4096x128_S512x128_1024_0)) (View.ld (iblk m c 1 t) (Rect.unit ![1536, 0] S512x128.size inb_S4096x128_S512x128_1536_0)) (View.ld (iblk m c 1 t) (Rect.unit ![2048, 0] S512x128.size inb_S4096x128_S512x128_2048_0)) (View.ld (iblk m c 1 t) (Rect.unit ![2560, 0] S512x128.size inb_S4096x128_S512x128_2560_0)) (View.ld (iblk m c 1 t) (Rect.unit ![3072, 0] S512x128.size inb_S4096x128_S512x128_3072_0)) (View.ld (iblk m c 1 t) (Rect.unit ![3584, 0] S512x128.size inb_S4096x128_S512x128_3584_0)) v0 v1 v2 v3 v4 v5 v6 v7 (iblk m c 3 t) vc k0_pay4 (ix2 r d) = attn m c (row t r) (col t 2 d) := by
  refine (pay4_at _ _ _ _ _ r d).trans ?_
  refine (congrFun (body_eq _ _ _ _ _ _ _ _ _ _ _ _ v0 v1 v2 v3 v4 v5 v6 v7 (iblk m c 3 t) vc) _).trans ?_
  refine quot_at t hr hv r 2 d _ fun e => ?_
  refine Eq.trans ?_ (query_at t r 2 d e ⟨256 + e, by omega⟩ (by dsimp only; omega))
  exact (qt2 _ _ _ _ e r).trans (ldq _ 256 _ r e (by omega))

/-- What the point stores for head 3. -/
theorem stored3 (hr : Real3 m c) (hv : Vals m c t v0 v1 v2 v3 v4 v5 v6 v7 vc) (r : Fin 512) (d : Fin 128) :
    body (View.ld (iblk m c 0 t) (Rect.unit ![0, 0] S512x128.size inb_S512x512_S512x128_0_0)) (View.ld (iblk m c 0 t) (Rect.unit ![0, 128] S512x128.size inb_S512x512_S512x128_0_128)) (View.ld (iblk m c 0 t) (Rect.unit ![0, 256] S512x128.size inb_S512x512_S512x128_0_256)) (View.ld (iblk m c 0 t) (Rect.unit ![0, 384] S512x128.size inb_S512x512_S512x128_0_384)) (View.ld (iblk m c 1 t) (Rect.unit ![0, 0] S512x128.size inb_S4096x128_S512x128_0_0)) (View.ld (iblk m c 1 t) (Rect.unit ![512, 0] S512x128.size inb_S4096x128_S512x128_512_0)) (View.ld (iblk m c 1 t) (Rect.unit ![1024, 0] S512x128.size inb_S4096x128_S512x128_1024_0)) (View.ld (iblk m c 1 t) (Rect.unit ![1536, 0] S512x128.size inb_S4096x128_S512x128_1536_0)) (View.ld (iblk m c 1 t) (Rect.unit ![2048, 0] S512x128.size inb_S4096x128_S512x128_2048_0)) (View.ld (iblk m c 1 t) (Rect.unit ![2560, 0] S512x128.size inb_S4096x128_S512x128_2560_0)) (View.ld (iblk m c 1 t) (Rect.unit ![3072, 0] S512x128.size inb_S4096x128_S512x128_3072_0)) (View.ld (iblk m c 1 t) (Rect.unit ![3584, 0] S512x128.size inb_S4096x128_S512x128_3584_0)) v0 v1 v2 v3 v4 v5 v6 v7 (iblk m c 3 t) vc k0_pay5 (ix2 r d) = attn m c (row t r) (col t 3 d) := by
  refine (pay5_at _ _ _ _ _ r d).trans ?_
  refine (congrFun (body_eq _ _ _ _ _ _ _ _ _ _ _ _ v0 v1 v2 v3 v4 v5 v6 v7 (iblk m c 3 t) vc) _).trans ?_
  refine quot_at t hr hv r 3 d _ fun e => ?_
  refine Eq.trans ?_ (query_at t r 3 d e ⟨384 + e, by omega⟩ (by dsimp only; omega))
  exact (qt3 _ _ _ _ e r).trans (ldq _ 384 _ r e (by omega))

end
end Cert.AttnIdeal.Att
-- ==== Proof.Scratch.lean ====
module

public import proofs.«01_k».proof.Proof.Stores

/-! # The transposed values the first point of each run leaves for the points after it -/

@[expose] public section

set_option maxRecDepth 16384
noncomputable section
namespace Cert.AttnIdeal.Att
open Idealize.ShloMosaic Idealize.ShloMosaic.TcCoe Idealize.SL.Sem
open Cert.AttnIdeal Cert.AttnIdeal.Gen

section
variable (v : Vec Ideal S512x128 .bf16) (w : Vec Ideal S256x128 .bf16) (d : Fin 128) (i : Fin 256)
theorem pay6_at (y : S1x128x512.Idx) : k0_pay6 v y = v (ix2 (y 2) (y 1)) := by pointwise [k0_pay6]
theorem pay7_at (y : S1x128x512.Idx) : k0_pay7 v y = v (ix2 (y 2) (y 1)) := by pointwise [k0_pay7]
theorem pay8_at (y : S1x128x512.Idx) : k0_pay8 v y = v (ix2 (y 2) (y 1)) := by pointwise [k0_pay8]
theorem pay9_at (y : S1x128x512.Idx) : k0_pay9 v y = v (ix2 (y 2) (y 1)) := by pointwise [k0_pay9]
theorem pay11_at (y : S1x128x512.Idx) : k0_pay11 (k0_pay10 v) y = v (ix2 (y 2) (y 1)) := by pointwise [k0_pay11, k0_pay10]
theorem pay12_at (y : S1x128x512.Idx) : k0_pay12 v y = v (ix2 (y 2) (y 1)) := by pointwise [k0_pay12]
theorem pay13_at (y : S1x128x512.Idx) : k0_pay13 v y = v (ix2 (y 2) (y 1)) := by pointwise [k0_pay13]
theorem pay14_at (y : S1x128x512.Idx) : k0_pay14 v y = v (ix2 (y 2) (y 1)) := by pointwise [k0_pay14]
theorem pay16_at : k0_pay16 (k0_pay15 w) (ix2 d i) = w (ix2 i d) := by pointwise [k0_pay16, k0_pay15]
end

variable (m : (ℓ : Loc nD τ sig) → Buf (Elt Ideal) ℓ) (c : Dev nD)

/-- The two scratch buffers after a point hold its value blocks, transposed. -/
def Held (t : Fin cfg0.N) : Prop :=
  (∀ (n : Fin 8) (d : Fin 128) (j : Fin 512), (outsAt0 m c t.val t.isLt).2.1 (ix3 n d j) = iblk m c 2 t (ix2 (⟨512 * n + j, by omega⟩ : Fin 4096) d))
  ∧ ∀ (d : Fin 128) (j : Fin 256), (outsAt0 m c t.val t.isLt).2.2 (ix2 d j) = iblk m c 4 t (ix2 j d)

/-- One stored chunk against the value block. -/
theorem piece (t : Fin cfg0.N) (n : Fin 8) (d : Fin 128) (j : Fin 512) (y : S1x128x512.Idx) (o : ℕ)
    (inb : ∀ a, (![o, 0] : Fin 2 → ℕ) a + S512x128.size a ≤ S4096x128.size a) (B : Vec Ideal S4096x128 .bf16) (hB : B = iblk m c 2 t)
    (h0 : 512 * (n : ℕ) = o) (h1 : (y 1 : ℕ) = d) (h2 : (y 2 : ℕ) = j) :
    View.ld B (Rect.unit ![o, 0] S512x128.size inb) (ix2 (y 2) (y 1)) = iblk m c 2 t (ix2 (⟨512 * n + j, by omega⟩ : Fin 4096) d) := by
  subst hB
  have e1 : (y 1 : Fin 128) = d := Fin.ext h1
  have e2 : (y 2 : Fin 512) = j := Fin.ext h2
  rw [show (ix2 (y 2) (y 1) : S512x128.Idx) = ix2 j d from congrArg₂ ix2 e2 e1]
  refine (ldk (iblk m c 2 t) o inb j d (by omega)).trans ?_
  exact congrArg _ (congrArg₂ ix2 (Fin.ext (by dsimp only; omega)) rfl)

theorem held_first (t : Fin cfg0.N) (h : t.val % 8 = 0) : Held m c t := by
  refine ⟨fun n d j => ?_, fun d j => ?_⟩
  · rw [outsAt0_A m c t h]
    frame_out
    obtain ⟨y, hy⟩ : ∃ y : S8x128x512.Idx, y = ix3 n d j := ⟨_, rfl⟩
    have e0 : (y 0 : ℕ) = n := by rw [hy]; rfl
    have e1 : (y 1 : ℕ) = d := by rw [hy]; rfl
    have e2 : (y 2 : ℕ) = j := by rw [hy]; rfl
    rw [← hy]
    canon_tiles y hh
    case piece0 => exact (pay14_at _ _).trans (piece m c t n d j _ 3584 _ _ rfl (by omega) (by omega) (by omega))
    case piece1 => exact (pay13_at _ _).trans (piece m c t n d j _ 3072 _ _ rfl (by omega) (by omega) (by omega))
    case piece2 => exact (pay12_at _ _).trans (piece m c t n d j _ 2560 _ _ rfl (by omega) (by omega) (by omega))
    case piece3 => exact (pay11_at _ _).trans (piece m c t n d j _ 2048 _ _ rfl (by omega) (by omega) (by omega))
    case piece4 => exact (pay9_at _ _).trans (piece m c t n d j _ 1536 _ _ rfl (by omega) (by omega) (by omega))
    case piece5 => exact (pay8_at _ _).trans (piece m c t n d j _ 1024 _ _ rfl (by omega) (by omega) (by omega))
    case piece6 => exact (pay7_at _ _).trans (piece m c t n d j _ 512 _ _ rfl (by omega) (by omega) (by omega))
    case piece7 => exact (pay6_at _ _).trans (piece m c t n d j _ 0 _ _ rfl (by omega) (by omega) (by omega))
  · rw [outsAt0_A m c t h]
    frame_out
    exact pay16_at _ d j

/-- A point after the first of its run reads the same value blocks. -/
theorem same2 (t : Fin cfg0.N) (h : ¬t.val % 8 = 0) (r : Fin 4096) (x : Fin 128) :
    iblk m c 2 ⟨t.val - 1, by omega⟩ (ix2 r x) = iblk m c 2 t (ix2 r x) := by
  have ht : t.val < 64 := t.isLt
  refine (iblk_2 m c ⟨t.val - 1, by omega⟩ r x _ rfl).trans (Eq.trans ?_ (iblk_2 m c t r x _ rfl).symm)
  exact congrArg _ (congrArg₂ ix2 (Fin.ext (by dsimp only; omega)) (Fin.ext (by dsimp only; omega)))

theorem same4 (t : Fin cfg0.N) (h : ¬t.val % 8 = 0) (r : Fin 256) (x : Fin 128) :
    iblk m c 4 ⟨t.val - 1, by omega⟩ (ix2 r x) = iblk m c 4 t (ix2 r x) := by
  have ht : t.val < 64 := t.isLt
  refine (iblk_4 m c ⟨t.val - 1, by omega⟩ r x _ rfl).trans (Eq.trans ?_ (iblk_4 m c t r x _ rfl).symm)
  exact congrArg _ (congrArg₂ ix2 (Fin.ext (by dsimp only; omega)) (Fin.ext (by dsimp only; omega)))

theorem held_next (t : Fin cfg0.N) (h : ¬t.val % 8 = 0) (hp : Held m c ⟨t.val - 1, by omega⟩) : Held m c t := by
  refine ⟨fun n d j => ?_, fun d j => ?_⟩
  · rw [outsAt0_B m c t h]
    exact (hp.1 n d j).trans (same2 m c t h _ d)
  · rw [outsAt0_B m c t h]
    exact (hp.2 d j).trans (same4 m c t h j d)

theorem held (t : Fin cfg0.N) : Held m c t := by
  obtain ⟨t, ht⟩ := t
  induction t with
  | zero => exact held_first m c _ rfl
  | succ n ih =>
    by_cases h : (n + 1) % 8 = 0
    · exact held_first m c _ h
    · exact held_next m c ⟨n + 1, ht⟩ h (ih (by omega))

end Cert.AttnIdeal.Att
-- ==== Proof.Point.lean ====
module

public import proofs.«01_k».proof.Proof.Scratch
public import Idealize.ShloMosaic.Lib.Pipeline.ReadBack

/-! # What one grid point writes -/

@[expose] public section

set_option maxRecDepth 16384
noncomputable section
namespace Cert.AttnIdeal.Att
open Idealize.ShloMosaic Idealize.ShloMosaic.TcCoe Idealize.SL.Sem
open Cert.AttnIdeal Cert.AttnIdeal.Gen

variable {m : (ℓ : Loc nD τ sig) → Buf (Elt Ideal) ℓ} {c : Dev nD}

/-- The row and column a block index stands for, from a stored piece's own. -/
theorem attn_at (t : Fin 64) (y : S512x512.Idx) (r : Fin 512) (h : Fin 4) (d : Fin 128) (h0 : (y 0 : ℕ) = r) (h1 : (y 1 : ℕ) = h * 128 + d)
    (R : Fin 8192) (C : Fin 2048) (hR : (R : ℕ) = (t.val / 32 * 8 + t.val % 8) * 512 + y 0) (hC : (C : ℕ) = t.val / 8 % 4 * 512 + y 1) :
    attn m c (row t r) (col t h d) = attn m c R C := by
  have eR : row t r = R := Fin.ext (by dsimp only; omega)
  have eC : col t h d = C := Fin.ext (by dsimp only; omega)
  rw [eR, eC]

/-- A two-axis index is its two coordinates. -/
theorem two (x : S512x128.Idx) : x = ix2 (x 0 : Fin 512) (x 1 : Fin 128) := by
  funext a; fin_cases a <;> rfl

/-- A chunk of the held values, read back. -/
theorem held_ld (S : Vec Ideal S8x128x512 .bf16) (n : ℕ) (hn : n < 8)
    (inb : ∀ a, (![n, 0, 0] : Fin 3 → ℕ) a + S1x128x512.size a ≤ S8x128x512.size a) (d : Fin 128) (j : Fin 512) :
    View.ld S (Rect.unit ![n, 0, 0] S1x128x512.size inb) (ix3 0 d j) = S (ix3 (⟨n, hn⟩ : Fin 8) d j) := by
  pointwise []

section
variable (p0 p1 p2 p3 p4 p5 p6 p7 : Vec Ideal S1x128x512 .bf16)

/-- The first point's eight chunks over an unwritten buffer. -/
abbrev eight : List (View.Piece (Elt Ideal) S8x128x512 .bf16) :=
  [⟨Rect.unit (s := S8x128x512) ![7, 0, 0] S1x128x512.size inb_S8x128x512_S1x128x512_7_0_0, p7⟩, ⟨Rect.unit (s := S8x128x512) ![6, 0, 0] S1x128x512.size inb_S8x128x512_S1x128x512_6_0_0, p6⟩, ⟨Rect.unit (s := S8x128x512) ![5, 0, 0] S1x128x512.size inb_S8x128x512_S1x128x512_5_0_0, p5⟩, ⟨Rect.unit (s := S8x128x512) ![4, 0, 0] S1x128x512.size inb_S8x128x512_S1x128x512_4_0_0, p4⟩, ⟨Rect.unit (s := S8x128x512) ![3, 0, 0] S1x128x512.size inb_S8x128x512_S1x128x512_3_0_0, p3⟩, ⟨Rect.unit (s := S8x128x512) ![2, 0, 0] S1x128x512.size inb_S8x128x512_S1x128x512_2_0_0, p2⟩, ⟨Rect.unit (s := S8x128x512) ![1, 0, 0] S1x128x512.size inb_S8x128x512_S1x128x512_1_0_0, p1⟩, ⟨Rect.unit (s := S8x128x512) ![0, 0, 0] S1x128x512.size inb_S8x128x512_S1x128x512_0_0_0, p0⟩]

theorem back0 : (View.whole cc0_scratch0).readCov (eight p0 p1 p2 p3 p4 p5 p6 p7) (Rect.unit (s := S8x128x512) ![0, 0, 0] S1x128x512.size inb_S8x128x512_S1x128x512_0_0_0).toLoadRect = p0 := by
  rw [View.readCov_skip, View.readCov_skip, View.readCov_skip, View.readCov_skip, View.readCov_skip, View.readCov_skip, View.readCov_skip]
  · exact View.readCov_cons_toLoadRect _ _ _ _
  all_goals decide

theorem back1 : (View.whole cc0_scratch0).readCov (eight p0 p1 p2 p3 p4 p5 p6 p7) (Rect.unit (s := S8x128x512) ![1, 0, 0] S1x128x512.size inb_S8x128x512_S1x128x512_1_0_0).toLoadRect = p1 := by
  rw [View.readCov_skip, View.readCov_skip, View.readCov_skip, View.readCov_skip, View.readCov_skip, View.readCov_skip]
  · exact View.readCov_cons_toLoadRect _ _ _ _
  all_goals decide

theorem back2 : (View.whole cc0_scratch0).readCov (eight p0 p1 p2 p3 p4 p5 p6 p7) (Rect.unit (s := S8x128x512) ![2, 0, 0] S1x128x512.size inb_S8x128x512_S1x128x512_2_0_0).toLoadRect = p2 := by
  rw [View.readCov_skip, View.readCov_skip, View.readCov_skip, View.readCov_skip, View.readCov_skip]
  · exact View.readCov_cons_toLoadRect _ _ _ _
  all_goals decide

theorem back3 : (View.whole cc0_scratch0).readCov (eight p0 p1 p2 p3 p4 p5 p6 p7) (Rect.unit (s := S8x128x512) ![3, 0, 0] S1x128x512.size inb_S8x128x512_S1x128x512_3_0_0).toLoadRect = p3 := by
  rw [View.readCov_skip, View.readCov_skip, View.readCov_skip, View.readCov_skip]
  · exact View.readCov_cons_toLoadRect _ _ _ _
  all_goals decide

theorem back4 : (View.whole cc0_scratch0).readCov (eight p0 p1 p2 p3 p4 p5 p6 p7) (Rect.unit (s := S8x128x512) ![4, 0, 0] S1x128x512.size inb_S8x128x512_S1x128x512_4_0_0).toLoadRect = p4 := by
  rw [View.readCov_skip, View.readCov_skip, View.readCov_skip]
  · exact View.readCov_cons_toLoadRect _ _ _ _
  all_goals decide

theorem back5 : (View.whole cc0_scratch0).readCov (eight p0 p1 p2 p3 p4 p5 p6 p7) (Rect.unit (s := S8x128x512) ![5, 0, 0] S1x128x512.size inb_S8x128x512_S1x128x512_5_0_0).toLoadRect = p5 := by
  rw [View.readCov_skip, View.readCov_skip]
  · exact View.readCov_cons_toLoadRect _ _ _ _
  all_goals decide

theorem back6 : (View.whole cc0_scratch0).readCov (eight p0 p1 p2 p3 p4 p5 p6 p7) (Rect.unit (s := S8x128x512) ![6, 0, 0] S1x128x512.size inb_S8x128x512_S1x128x512_6_0_0).toLoadRect = p6 := by
  rw [View.readCov_skip]
  · exact View.readCov_cons_toLoadRect _ _ _ _
  all_goals decide

theorem back7 : (View.whole cc0_scratch0).readCov (eight p0 p1 p2 p3 p4 p5 p6 p7) (Rect.unit (s := S8x128x512) ![7, 0, 0] S1x128x512.size inb_S8x128x512_S1x128x512_7_0_0).toLoadRect = p7 := by
  · exact View.readCov_cons_toLoadRect _ _ _ _

end

/-- The values at the first point of a run: just stored, read back. -/
theorem vals_first (t : Fin 64) : Vals m c t
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![0, 0, 0] S1x128x512.size inb_S8x128x512_S1x128x512_0_0_0).toLoadRect)
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![1, 0, 0] S1x128x512.size inb_S8x128x512_S1x128x512_1_0_0).toLoadRect)
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![2, 0, 0] S1x128x512.size inb_S8x128x512_S1x128x512_2_0_0).toLoadRect)
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![3, 0, 0] S1x128x512.size inb_S8x128x512_S1x128x512_3_0_0).toLoadRect)
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![4, 0, 0] S1x128x512.size inb_S8x128x512_S1x128x512_4_0_0).toLoadRect)
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![5, 0, 0] S1x128x512.size inb_S8x128x512_S1x128x512_5_0_0).toLoadRect)
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![6, 0, 0] S1x128x512.size inb_S8x128x512_S1x128x512_6_0_0).toLoadRect)
    ((View.whole cc0_scratch0).readCov (eight (k0_pay6 (View.ld (iblk m c 2 t) (Rect.unit ![0, 0] S512x128.size inb_S4096x128_S512x128_0_0))) (k0_pay7 (View.ld (iblk m c 2 t) (Rect.unit ![512, 0] S512x128.size inb_S4096x128_S512x128_512_0))) (k0_pay8 (View.ld (iblk m c 2 t) (Rect.unit ![1024, 0] S512x128.size inb_S4096x128_S512x128_1024_0))) (k0_pay9 (View.ld (iblk m c 2 t) (Rect.unit ![1536, 0] S512x128.size inb_S4096x128_S512x128_1536_0))) (k0_pay11 (k0_pay10 (View.ld (iblk m c 2 t) (Rect.unit ![2048, 0] S512x128.size inb_S4096x128_S512x128_2048_0)))) (k0_pay12 (View.ld (iblk m c 2 t) (Rect.unit ![2560, 0] S512x128.size inb_S4096x128_S512x128_2560_0))) (k0_pay13 (View.ld (iblk m c 2 t) (Rect.unit ![3072, 0] S512x128.size inb_S4096x128_S512x128_3072_0))) (k0_pay14 (View.ld (iblk m c 2 t) (Rect.unit ![3584, 0] S512x128.size inb_S4096x128_S512x128_3584_0)))) (Rect.unit (s := S8x128x512) ![7, 0, 0] S1x128x512.size inb_S8x128x512_S1x128x512_7_0_0).toLoadRect)
    (k0_pay16 (k0_pay15 (iblk m c 4 t))) :=
  ⟨fun d j => (congrFun (back0 _ _ _ _ _ _ _ _) _).trans ((pay6_at _ _).trans (ldk _ 0 _ j d (by omega))),
    fun d j => (congrFun (back1 _ _ _ _ _ _ _ _) _).trans ((pay7_at _ _).trans (ldk _ 512 _ j d (by omega))),
    fun d j => (congrFun (back2 _ _ _ _ _ _ _ _) _).trans ((pay8_at _ _).trans (ldk _ 1024 _ j d (by omega))),
    fun d j => (congrFun (back3 _ _ _ _ _ _ _ _) _).trans ((pay9_at _ _).trans (ldk _ 1536 _ j d (by omega))),
    fun d j => (congrFun (back4 _ _ _ _ _ _ _ _) _).trans ((pay11_at _ _).trans (ldk _ 2048 _ j d (by omega))),
    fun d j => (congrFun (back5 _ _ _ _ _ _ _ _) _).trans ((pay12_at _ _).trans (ldk _ 2560 _ j d (by omega))),
    fun d j => (congrFun (back6 _ _ _ _ _ _ _ _) _).trans ((pay13_at _ _).trans (ldk _ 3072 _ j d (by omega))),
    fun d j => (congrFun (back7 _ _ _ _ _ _ _ _) _).trans ((pay14_at _ _).trans (ldk _ 3584 _ j d (by omega))),
    fun d j => pay16_at _ d j⟩

/-- The values at a later point: what the point before left. -/
theorem vals_next (t : Fin 64) (h : ¬t.val % 8 = 0) (X : Vec Ideal S8x128x512 .bf16) (Y : Vec Ideal S128x256 .bf16)
    (hX : X = (outsAt0 m c (t.val - 1) (lt_of_le_of_lt (Nat.sub_le _ _) t.isLt)).2.1)
    (hY : Y = (outsAt0 m c (t.val - 1) (lt_of_le_of_lt (Nat.sub_le _ _) t.isLt)).2.2) : Vals m c t
    (View.ld X (Rect.unit (s := S8x128x512) ![0, 0, 0] S1x128x512.size inb_S8x128x512_S1x128x512_0_0_0))
    (View.ld X (Rect.unit (s := S8x128x512) ![1, 0, 0] S1x128x512.size inb_S8x128x512_S1x128x512_1_0_0))
    (View.ld X (Rect.unit (s := S8x128x512) ![2, 0, 0] S1x128x512.size inb_S8x128x512_S1x128x512_2_0_0))
    (View.ld X (Rect.unit (s := S8x128x512) ![3, 0, 0] S1x128x512.size inb_S8x128x512_S1x128x512_3_0_0))
    (View.ld X (Rect.unit (s := S8x128x512) ![4, 0, 0] S1x128x512.size inb_S8x128x512_S1x128x512_4_0_0))
    (View.ld X (Rect.unit (s := S8x128x512) ![5, 0, 0] S1x128x512.size inb_S8x128x512_S1x128x512_5_0_0))
    (View.ld X (Rect.unit (s := S8x128x512) ![6, 0, 0] S1x128x512.size inb_S8x128x512_S1x128x512_6_0_0))
    (View.ld X (Rect.unit (s := S8x128x512) ![7, 0, 0] S1x128x512.size inb_S8x128x512_S1x128x512_7_0_0))
    Y := by
  have hh := held m c ⟨t.val - 1, lt_of_le_of_lt (Nat.sub_le _ _) t.isLt⟩
  subst hX
  subst hY
  exact ⟨fun d j => (held_ld _ 0 (by omega) _ d j).trans ((hh.1 0 d j).trans (same2 m c t h _ d)),
    fun d j => (held_ld _ 1 (by omega) _ d j).trans ((hh.1 1 d j).trans (same2 m c t h _ d)),
    fun d j => (held_ld _ 2 (by omega) _ d j).trans ((hh.1 2 d j).trans (same2 m c t h _ d)),
    fun d j => (held_ld _ 3 (by omega) _ d j).trans ((hh.1 3 d j).trans (same2 m c t h _ d)),
    fun d j => (held_ld _ 4 (by omega) _ d j).trans ((hh.1 4 d j).trans (same2 m c t h _ d)),
    fun d j => (held_ld _ 5 (by omega) _ d j).trans ((hh.1 5 d j).trans (same2 m c t h _ d)),
    fun d j => (held_ld _ 6 (by omega) _ d j).trans ((hh.1 6 d j).trans (same2 m c t h _ d)),
    fun d j => (held_ld _ 7 (by omega) _ d j).trans ((hh.1 7 d j).trans (same2 m c t h _ d)),
    fun d j => (hh.2 d j).trans (same4 m c t h j d)⟩

theorem point_first (hr : Real3 m c) (t : Fin cfg0.N) (h : t.val % 8 = 0) (y : S512x512.Idx) (R : Fin 8192) (C : Fin 2048)
    (hR : (R : ℕ) = (t.val / 32 * 8 + t.val % 8) * 512 + y 0) (hC : (C : ℕ) = t.val / 8 % 4 * 512 + y 1) :
    (outsAt0 m c t.val t.isLt).1 y = attn m c R C := by
  rw [outsAt0_A m c t h]
  frame_out
  canon_tiles y hy
  case piece0 =>
    rw [two y]
    refine Eq.trans (stored3 t hr (vals_first t) (y 0) (y 1)) (attn_at t _ (y 0) 3 (y 1) (by omega) (by omega) R C hR hC)

  case piece1 =>
    rw [two y]
    refine Eq.trans (stored2 t hr (vals_first t) (y 0) (y 1)) (attn_at t _ (y 0) 2 (y 1) (by omega) (by omega) R C hR hC)

  case piece2 =>
    rw [two y]
    refine Eq.trans (stored1 t hr (vals_first t) (y 0) (y 1)) (attn_at t _ (y 0) 1 (y 1) (by omega) (by omega) R C hR hC)

  case piece3 =>
    rw [two y]
    refine Eq.trans (stored0 t hr (vals_first t) (y 0) (y 1)) (attn_at t _ (y 0) 0 (y 1) (by omega) (by omega) R C hR hC)

theorem point_next (hr : Real3 m c) (t : Fin cfg0.N) (h : ¬t.val % 8 = 0) (y : S512x512.Idx) (R : Fin 8192) (C : Fin 2048)
    (hR : (R : ℕ) = (t.val / 32 * 8 + t.val % 8) * 512 + y 0) (hC : (C : ℕ) = t.val / 8 % 4 * 512 + y 1) :
    (outsAt0 m c t.val t.isLt).1 y = attn m c R C := by
  rw [outsAt0_B m c t h]
  frame_out
  canon_tiles y hy
  case piece0 =>
    rw [two y]
    refine Eq.trans (stored3 t hr (vals_next t h _ _ ?_ ?_) (y 0) (y 1)) (attn_at t _ (y 0) 3 (y 1) (by omega) (by omega) R C hR hC)
    · exact read_unread_whole _ _ _
    · exact read_unread_whole _ _ _
  case piece1 =>
    rw [two y]
    refine Eq.trans (stored2 t hr (vals_next t h _ _ ?_ ?_) (y 0) (y 1)) (attn_at t _ (y 0) 2 (y 1) (by omega) (by omega) R C hR hC)
    · exact read_unread_whole _ _ _
    · exact read_unread_whole _ _ _
  case piece2 =>
    rw [two y]
    refine Eq.trans (stored1 t hr (vals_next t h _ _ ?_ ?_) (y 0) (y 1)) (attn_at t _ (y 0) 1 (y 1) (by omega) (by omega) R C hR hC)
    · exact read_unread_whole _ _ _
    · exact read_unread_whole _ _ _
  case piece3 =>
    rw [two y]
    refine Eq.trans (stored0 t hr (vals_next t h _ _ ?_ ?_) (y 0) (y 1)) (attn_at t _ (y 0) 0 (y 1) (by omega) (by omega) R C hR hC)
    · exact read_unread_whole _ _ _
    · exact read_unread_whole _ _ _

/-- What a grid point leaves in its output block is the attention there. -/
theorem point (hr : Real3 m c) (t : Fin cfg0.N) (y : S512x512.Idx) (R : Fin 8192) (C : Fin 2048)
    (hR : (R : ℕ) = (t.val / 32 * 8 + t.val % 8) * 512 + y 0) (hC : (C : ℕ) = t.val / 8 % 4 * 512 + y 1) :
    (outsAt0 m c t.val t.isLt).1 y = attn m c R C := by
  by_cases h : t.val % 8 = 0
  · exact point_first hr t h y R C hR hC
  · exact point_next hr t h y R C hR hC

/-- The array after the run. -/
theorem final (hr : Real3 m c) : (dats m 0 c).arrAt 5 cfg0.N = fun i => attn m c (i 0) (i 1) := by
  refine (dats m 0 c).arrAt_eq_of_covers 5 _ (by decide +kernel) fun t hf y => ?_
  blk_simp
  rw [after0_5]
  refine point hr t _ _ _ ?_ ?_
  all_goals (blk_simp [idx t] <;> try omega)

end Cert.AttnIdeal.Att
-- ==== Proof.Pre.lean ====
module

public import proofs.«01_k».proof.Defs
public import proofs.«01_k».proof.Proof.Gen.AttnIdeal
public import Idealize.ShloMosaic.Lib.Pipeline.ValueKit
public import Idealize.ShloMosaic.Lib.ReduceAll

/-! # What the precondition says: the queries and both keys are real numbers -/

@[expose] public section

set_option maxRecDepth 16384
noncomputable section
namespace Cert.Att
open Idealize.ShloMosaic

/-- The word of plus infinity. -/
theorem posInf : Ideal.ofBits .f32 0x7F800000#32 = (⊤ : EReal) := by simp [Ideal.ofBits, Ideal.ieee]

/-- An extended real whose absolute value is below plus infinity is a real. -/
theorem real_of_abs_lt (x : EReal) (h : Ideal.cmp .olt (FloatOps.absf (F := Ideal) (φ := .f32) x) ⊤ = 1#1) : ∃ r : ℝ, x = r := by
  induction x using EReal.rec with
  | bot => exfalso; revert h; simp [Ideal.cmp, Ideal.absf_def]
  | coe r => exact ⟨r, rfl⟩
  | top => exfalso; revert h; simp [Ideal.cmp, Ideal.absf_def]

variable [Cert.Pre_qk_finite.Facts]

/-- The precondition at an element of each array it reads. -/
theorem pre_real (a0 : FVec Ideal Cert.Pre_qk_finite.S8192x1024 .f32) (a1 : FVec Ideal Cert.Pre_qk_finite.S8192x2048 .f32)
    (a2 a3 : FVec Ideal Cert.Pre_qk_finite.S8192x512 .f32) (a4 : FVec Ideal Cert.Pre_qk_finite.S8192x4096 .f32)
    (a5 a6 : FVec Ideal Cert.Pre_qk_finite.S512x512 .f32)
    (h : Cert.Pre_qk_finite.fn a0 a1 a2 a3 a4 a5 a6 = fun _ => 1#1) :
    (∀ i, ∃ r : ℝ, a1 i = (r : EReal)) ∧ (∀ i, ∃ r : ℝ, a2 i = (r : EReal)) ∧ (∀ i, ∃ r : ℝ, a5 i = (r : EReal)) := by
  unfold Cert.Pre_qk_finite.fn at h
  have h := congrFun h ix0
  simp only at h
  obtain ⟨h12, h3⟩ := IntOp.andi_eq_one.1 h
  obtain ⟨h1, h2⟩ := IntOp.andi_eq_one.1 h12
  refine ⟨fun i => ?_, fun i => ?_, fun i => ?_⟩
  · refine real_of_abs_lt _ ?_
    rw [← posInf]
    exact Host.reduce_andi_all _ _ _ _ _ h1 i
  · refine real_of_abs_lt _ ?_
    rw [← posInf]
    exact Host.reduce_andi_all _ _ _ _ _ h2 i
  · refine real_of_abs_lt _ ?_
    rw [← posInf]
    exact Host.reduce_andi_all _ _ _ _ _ h3 i
end Cert.Att
-- ==== Proof.RefText.lean ====
module

public import proofs.«01_k».proof.Proof.Gen.AttnRefIdeal.Run
public import proofs.«01_k».proof.Proof.Spec

/-! # The reference's result, as four named steps -/

@[expose] public section

set_option maxRecDepth 16384
noncomputable section
namespace Cert.AttnRefIdeal.Att
open Idealize.ShloMosaic Idealize.ShloMosaic.TcCoe Idealize.SL.Sem
open Cert.AttnRefIdeal Cert.AttnRefIdeal.Gen

/-- Keys (or values): the sequence's, then the context's. -/
def cat (k : FVec Ideal S8192x512 .f32) (kc : FVec Ideal S512x512 .f32) : FVec Ideal S2x4352x4x128 .f32 :=
  concatenate S2x4352x4x128 1 [⟨S2x4096x4x128, shapeCast S2x4096x4x128 k shapeCasts_S8192x512_S2x4096x4x128⟩,
    ⟨S2x256x4x128, shapeCast S2x256x4x128 kc shapeCasts_S512x512_S2x256x4x128⟩]
    concatenates_S2x4096x4x128_S2x256x4x128_S2x4352x4x128_d1

/-- The scaled scores. -/
def scr (q : FVec Ideal S8192x2048 .f32) (K : FVec Ideal S2x4352x4x128 .f32) : FVec Ideal S2x4x4x4096x4352 .f32 :=
  mulf (transpose S2x4x4x4096x4352 [0, 1, 4, 3, 2]
      (Host.dotGeneral dot_S2x4352x4x128_S2x4096x4x4x128_S2x4x4352x4096x4_3_4_1_13_02_02 none K
        (shapeCast S2x4096x4x4x128 q shapeCasts_S8192x2048_S2x4096x4x4x128))
      transposes_S2x4x4352x4096x4_S2x4x4x4096x4352_0_1_4_3_2)
    (broadcastInDim S2x4x4x4096x4352 ![] bcast_S_S2x4x4x4096x4352 (constant S_ .f32 0x3DB504F3#32))

/-- The greatest score of each row. -/
def top (s : FVec Ideal S2x4x4x4096x4352 .f32) : FVec Ideal S2x4x4x4096 .f32 :=
  maximumf (broadcastInDim S2x4x4x4096 ![] bcast_S_S2x4x4x4096 (constant S_ .f32 0xFF800000#32))
    (Host.reduce FloatOps.maximumf s (constant S_ .f32 0xFF800000#32) reducesTo_S2x4x4x4096x4352_S2x4x4x4096_d4 h_S_)

/-- The exponentials. -/
def ex (s : FVec Ideal S2x4x4x4096x4352 .f32) : FVec Ideal S2x4x4x4096x4352 .f32 :=
  Host.exp (subf s (broadcastInDim S2x4x4x4096x4352 ![0, 1, 2, 3, 4] bcast_S2x4x4x4096x1_S2x4x4x4096x4352_0_1_2_3_4
    (broadcastInDim S2x4x4x4096x1 ![0, 1, 2, 3] bcast_S2x4x4x4096_S2x4x4x4096x1_0_1_2_3 (top s))))

/-- The softmax weights. -/
def wt (s : FVec Ideal S2x4x4x4096x4352 .f32) : FVec Ideal S2x4x4x4096x4352 .f32 :=
  Host.divf (ex s) (broadcastInDim S2x4x4x4096x4352 ![0, 1, 2, 3, 4] bcast_S2x4x4x4096x1_S2x4x4x4096x4352_0_1_2_3_4
    (broadcastInDim S2x4x4x4096x1 ![0, 1, 2, 3] bcast_S2x4x4x4096_S2x4x4x4096x1_0_1_2_3
      (Host.reduceAdd (ex s) (constant S_ .f32 0x00000000#32) reducesTo_S2x4x4x4096x4352_S2x4x4x4096_d4 h_S_)))

/-- The reference's result from its argument arrays. -/
def ref (q : FVec Ideal S8192x2048 .f32) (k v : FVec Ideal S8192x512 .f32) (kc vc : FVec Ideal S512x512 .f32) :
    FVec Ideal S8192x2048 .bf16 :=
  truncf .bf16 (shapeCast S8192x2048 (transpose S2x4096x4x4x128 [0, 4, 1, 3, 2]
    (Host.dotGeneral dot_S2x4352x4x128_S2x4x4x4096x4352_S2x4x128x4x4096_1_4_3_23_02_01 none (cat v vc) (wt (scr q (cat k kc))))
    transposes_S2x4x128x4x4096_S2x4096x4x4x128_0_4_1_3_2) shapeCasts_S2x4096x4x4x128_S8192x2048) bitsLt_bf16_f32

theorem res_eq (m : (ℓ : Loc nD τ sig) → Buf (Elt Ideal) ℓ) (c : Dev nD) :
    Value.res_main_v25 (F := Ideal) m c = ref (m ((c.tc : Thread nD τ).loc main_arg1)) (m ((c.tc : Thread nD τ).loc main_arg2))
      (m ((c.tc : Thread nD τ).loc main_arg3)) (m ((c.tc : Thread nD τ).loc main_arg5)) (m ((c.tc : Thread nD τ).loc main_arg6)) := rfl

end Cert.AttnRefIdeal.Att
-- ==== Proof.RefSoft.lean ====
module

public import proofs.«01_k».proof.Proof.RefText

/-! # The reference's softmax, entry by entry -/

@[expose] public section

set_option maxRecDepth 16384
noncomputable section
namespace Cert.AttnRefIdeal.Att
open Idealize.ShloMosaic Idealize.ShloMosaic.TcCoe Idealize.SL.Sem
open Cert.AttnRefIdeal Cert.AttnRefIdeal.Gen

theorem negInf : Ideal.ofBits .f32 0xFF800000#32 = (⊥ : EReal) := by simp [Ideal.ofBits, Ideal.ieee]

/-- The greatest entry along the last of five axes, as a fold over that axis. -/
theorem reduceMax_last {n0 n1 n2 n3 n4 : ℕ} {u : Shape} (x : (⟨5, ![n0, n1, n2, n3, n4]⟩ : Shape).Idx → EReal)
    (init : u.Idx → EReal) (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩) (hu : 0 < u.numel)
    (a : Fin n0) (b : Fin n1) (c : Fin n2) (d : Fin n3) :
    Host.reduce max x init h' hu (ix4 a b c d)
      = Finset.univ.fold max (init (Shape.Idx.first hu)) fun j : Fin n4 => x (ix5 a b c d j) := by
  have hl : ∀ k, h.lift (ix4 a b c d) k = ix5 a b c d (⟨k.val, k.isLt⟩ : Fin n4) := by
    intro k; funext i; apply Fin.ext
    fin_cases i <;> rfl
  rw [Host.reduce_eq_fold_single max x _ h' h hu]
  have : x ∘ h.lift (ix4 a b c d) = fun k => x (ix5 a b c d (⟨k.val, k.isLt⟩ : Fin n4)) := by
    funext k; exact congrArg x (hl k)
  rw [this]
  rfl

variable (b : Fin 2) (g h : Fin 4) (r : Fin 4096) (j : Fin 4352)

theorem reduces_last : S2x4x4x4096x4352.Reduces [4] S2x4x4x4096 := by decide

/-- The same under the reference's leading maximum with minus infinity, at any sizes. -/
theorem top_any {n0 n1 n2 n3 n4 : ℕ} (x : FVec Ideal (⟨5, ![n0, n1, n2, n3, n4]⟩ : Shape) .f32)
    (hb : S_.BroadcastsInDim (⟨4, ![n0, n1, n2, n3]⟩ : Shape) (![] : Fin 0 → Fin (⟨4, ![n0, n1, n2, n3]⟩ : Shape).rank))
    (h' : (⟨5, ![n0, n1, n2, n3, n4]⟩ : Shape).ReducesTo [4] ⟨4, ![n0, n1, n2, n3]⟩)
    (h : (⟨5, ![n0, n1, n2, n3, n4]⟩ : Shape).Reduces [4] ⟨4, ![n0, n1, n2, n3]⟩)
    (a : Fin n0) (b : Fin n1) (c : Fin n2) (d : Fin n3) :
    maximumf (broadcastInDim (⟨4, ![n0, n1, n2, n3]⟩ : Shape) ![] hb (constant S_ .f32 0xFF800000#32))
        (Host.reduce FloatOps.maximumf x (constant S_ .f32 0xFF800000#32) h' h_S_) (ix4 a b c d)
      = Finset.univ.fold max (⊥ : EReal) fun j : Fin n4 => (x (ix5 a b c d j) : EReal) := by
  have e := reduceMax_last (u := S_) (x : (⟨5, ![n0, n1, n2, n3, n4]⟩ : Shape).Idx → EReal) (fun _ => (⊥ : EReal)) h' h h_S_ a b c d
  have hc : (constant (F := Ideal) S_ .f32 0xFF800000#32 : S_.Idx → EReal) = fun _ => (⊥ : EReal) := by
    funext i; exact negInf
  rw [hc]
  refine (max_eq_right ?_).trans e
  exact bot_le

theorem top_at (s : FVec Ideal S2x4x4x4096x4352 .f32) :
    top s (ix4 b g h r) = Finset.univ.fold max (⊥ : EReal) fun j : Fin 4352 => (s (ix5 b g h r j) : EReal) := by
  unfold top
  exact top_any s bcast_S_S2x4x4x4096 reducesTo_S2x4x4x4096x4352_S2x4x4x4096_d4 reduces_last b g h r

theorem ex_at (s : FVec Ideal S2x4x4x4096x4352 .f32) :
    ex s (ix5 b g h r j) = Ideal.exp ((s (ix5 b g h r j) : EReal) - top s (ix4 b g h r)) := by
  pointwise [ex]

theorem wt_at (s : FVec Ideal S2x4x4x4096x4352 .f32) :
    wt s (ix5 b g h r j) = Ideal.div (ex s (ix5 b g h r j)) (0 + ∑ i : Fin 4352, (ex s (ix5 b g h r i) : EReal)) := by
  pointwise [wt]

end Cert.AttnRefIdeal.Att
-- ==== Proof.RefIdx.lean ====
module

public import proofs.«01_k».proof.Proof.RefText

/-! # The reference's scores and its rows of keys, entry by entry -/

@[expose] public section

set_option maxRecDepth 16384
noncomputable section
namespace Cert.AttnRefIdeal.Att
open Idealize.ShloMosaic Idealize.ShloMosaic.TcCoe Idealize.SL.Sem
open Cert.AttnRefIdeal Cert.AttnRefIdeal.Gen

variable (b : Fin 2) (g h : Fin 4) (r : Fin 4096) (j : Fin 4352) (e : Fin 128)

theorem scr_at (q : FVec Ideal S8192x2048 .f32) (K : FVec Ideal S2x4352x4x128 .f32) :
    scr q K (ix5 b g h r j) = (∑ e : Fin 128, (K (ix4 b j g e) : EReal)
      * q (ix2 (⟨(b : ℕ) * 4096 + r, by omega⟩ : Fin 8192) (⟨(g : ℕ) * 512 + h * 128 + e, by omega⟩ : Fin 2048))) * Att.r0 := by
  unfold Att.r0
  pointwise [scr]

theorem cat_at (k : FVec Ideal S8192x512 .f32) (kc : FVec Ideal S512x512 .f32) :
    cat k kc (ix4 b j g e) = if h : (j : ℕ) < 4096 then k (ix2 (⟨(b : ℕ) * 4096 + j, by omega⟩ : Fin 8192) (⟨(g : ℕ) * 128 + e, by omega⟩ : Fin 512))
      else kc (ix2 (⟨(b : ℕ) * 256 + ((j : ℕ) - 4096), by omega⟩ : Fin 512) (⟨(g : ℕ) * 128 + e, by omega⟩ : Fin 512)) := by
  pointwise [cat]

/-- The result in its rows and columns, of the weights by their five coordinates. -/
theorem ref_row (q : FVec Ideal S8192x2048 .f32) (k v : FVec Ideal S8192x512 .f32) (kc vc : FVec Ideal S512x512 .f32) (R : Fin 8192)
    (C : Fin 2048) : ref q k v kc vc (ix2 R C) = ∑ x : Fin 4352, (cat v vc (ix4 (⟨(R : ℕ) / 4096, by omega⟩ : Fin 2) x
        (⟨(C : ℕ) / 512, by omega⟩ : Fin 4) (⟨(C : ℕ) % 128, by omega⟩ : Fin 128)) : EReal)
      * wt (scr q (cat k kc)) (ix5 (⟨(R : ℕ) / 4096, by omega⟩ : Fin 2) (⟨(C : ℕ) / 512, by omega⟩ : Fin 4)
        (⟨(C : ℕ) / 128 % 4, by omega⟩ : Fin 4) (⟨(R : ℕ) % 4096, by omega⟩ : Fin 4096) x) := by
  pointwise [ref]

end Cert.AttnRefIdeal.Att
-- ==== Proof.RefAt.lean ====
module

public import proofs.«01_k».proof.Proof.RefSoft
public import proofs.«01_k».proof.Proof.RefIdx

/-! # The reference's result is the attention, entry by entry -/

@[expose] public section

set_option maxRecDepth 16384
noncomputable section
namespace Cert.AttnRefIdeal.Att
open Idealize.ShloMosaic Idealize.ShloMosaic.TcCoe Idealize.SL.Sem
open Cert.AttnRefIdeal Cert.AttnRefIdeal.Gen

variable (q : FVec Ideal S8192x2048 .f32) (k v : FVec Ideal S8192x512 .f32) (kc vc : FVec Ideal S512x512 .f32) (R : Fin 8192) (C : Fin 2048)

/-- A key or value by its row's batch and its column's group. -/
theorem cat_kv (j : Fin 4352) (e : Fin 128) :
    cat k kc (ix4 (⟨(R : ℕ) / 4096, by omega⟩ : Fin 2) j (⟨(C : ℕ) / 512, by omega⟩ : Fin 4) e) = Att.kv k kc R C j e :=
  cat_at _ _ _ _ k kc

/-- A scaled score by its row and its column. -/
theorem scr_score (j : Fin 4352) :
    scr q (cat k kc) (ix5 (⟨(R : ℕ) / 4096, by omega⟩ : Fin 2) (⟨(C : ℕ) / 512, by omega⟩ : Fin 4)
        (⟨(C : ℕ) / 128 % 4, by omega⟩ : Fin 4) (⟨(R : ℕ) % 4096, by omega⟩ : Fin 4096) j) = Att.score q k kc R C j := by
  rw [scr_at]
  unfold Att.score
  refine congrArg (· * Att.r0) (Finset.sum_congr rfl fun e _ => ?_)
  rw [cat_kv]
  refine congrArg (Att.kv k kc R C j e * ·) ?_
  unfold Att.qe
  refine congrArg q ?_
  refine congrArg₂ ix2 (Fin.ext ?_) (Fin.ext ?_)
  · dsimp only; omega
  · dsimp only; omega

theorem ref_at : ref q k v kc vc (ix2 R C) = Att.out q k v kc vc R C := by
  rw [ref_row]
  unfold Att.out
  refine Finset.sum_congr rfl fun x _ => ?_
  rw [cat_kv, wt_at]
  simp only [ex_at, top_at, scr_score]

end Cert.AttnRefIdeal.Att
-- ==== Proof.Claims.lean ====
module

public import proofs.«01_k».proof.Defs
public import proofs.«01_k».proof.Proof.Gen.Attn.Frame
public import proofs.«01_k».proof.Proof.Gen.AttnIdeal.Value
public import proofs.«01_k».proof.Proof.Gen.AttnRefIdeal.Run
public import proofs.«01_k».proof.Proof.Point
public import proofs.«01_k».proof.Proof.Pre
public import proofs.«01_k».proof.Proof.RefAt
public import Idealize.ShloMosaic.Lib.Quiescent

/-! # The claims about the attention -/

@[expose] public section

noncomputable section
open Idealize.ShloMosaic Idealize.ShloMosaic.TcCoe Idealize.SL.Sem

namespace Cert.Proof.AttnClaims

theorem frame_p : Cert.quiescent_Attn := fun m ρ _ => Cert.Attn.Gen.frame m ρ
theorem frame_pi : Cert.quiescent_AttnIdeal := fun m ρ _ => Cert.AttnIdeal.Gen.frame m ρ
theorem frame_ri : Cert.quiescent_AttnRefIdeal := fun m ρ _ =>
  (θ_run Cert.AttnRefIdeal.defs _ _).mono (fun r h => ⟨fun c => (h c).2,
      Idealize.ShloMosaic.sem_eq_zero_of_no_sems (by decide) r.2⟩)
    (Cert.AttnRefIdeal.Value.run (F := Ideal) m ρ)

variable [Cert.Pre_qk_finite.Facts]

/-- What the precondition says of the arguments: the queries and both keys are reals. -/
theorem real3 (m : (ℓ : Loc Cert.AttnIdeal.nD Cert.AttnIdeal.τ Cert.AttnIdeal.sig) → Buf (Elt Ideal) ℓ)
    (h : Cert.Pre_AttnIdeal_qk_finite m) (c : Dev Cert.AttnIdeal.nD) : Cert.AttnIdeal.Att.Real3 m c :=
  Cert.Att.pre_real _ _ _ _ _ _ _ (h c)

/-- The kernel's array and the reference's hold the same softmax attention. -/
theorem algebraic : Cert.algebraic_AttnIdeal_AttnRefIdeal_pre_qk_finite := by
  intro m ρ m' ρ' hpre hagree
  refine ⟨_, Cert.AttnIdeal.Value.run_blocks m ρ, ?_⟩
  refine (θ_run Cert.AttnRefIdeal.defs _ _).mono (fun _ h c => ⟨(h c).1.trans ?_, (h c).2⟩)
    (Cert.AttnRefIdeal.Value.run (F := Ideal) m' ρ')
  obtain ⟨-, e1, e2, e3, -, e5, e6⟩ := hagree c
  rw [Cert.AttnRefIdeal.Att.res_eq m' c, e1, e2, e3, e5, e6, Cert.AttnIdeal.Att.final (real3 m hpre c)]
  funext i
  have hi : i = ix2 (i 0) (i 1) := by funext a; fin_cases a <;> rfl
  rw [hi]
  exact Cert.AttnRefIdeal.Att.ref_at _ _ _ _ _ _ _

end Cert.Proof.AttnClaims
-- ==== Proof.InpSpec.lean ====
module

public import Idealize.ShloMosaic.Lib.Pipeline.ValueKit

/-! # The input projection's mathematics: one row, one head, one entry -/

@[expose] public section

noncomputable section
namespace Inp
open Idealize.ShloMosaic

/-- A row after its norm, scale and shift. -/
def modulated (x nw sc sh : Fin 2048 → EReal) (e : Fin 2048) : EReal :=
  x e * Ideal.rsqrt (Ideal.div (∑ f, x f * x f) (Ideal.ofBits FTy.f32 0x45000000#32) + Ideal.ofBits FTy.f32 0x358637BD#32) * nw e * (1 + sc e) + sh e

/-- One head after its norm. -/
def headNorm (p w : Fin 128 → EReal) (d : Fin 128) : EReal :=
  p d * Ideal.rsqrt (Ideal.div (∑ f, p f * p f) (Ideal.ofBits FTy.f32 0x43000000#32) + Ideal.ofBits FTy.f32 0x358637BD#32) * w d

/-- One head turned by the position's angles, each half of a half with its partner; `cs` and `sn` hold one entry for each
column, the sine with its sign. -/
def turned (n cs sn : Fin 128 → EReal) (d : Fin 128) : EReal :=
  n d * cs d + (if (d : ℕ) % 64 < 32 then n ⟨(d + 32) % 128, by omega⟩ else n ⟨(d + 96) % 128, by omega⟩) * sn d

/-- The plain form: `co` and `si` hold one entry for each axis and each frequency. -/
def rotated (n : Fin 128 → EReal) (co si : Fin 2 → Fin 32 → EReal) (d : Fin 128) : EReal :=
  if (d : ℕ) % 64 < 32 then
    n d * co ⟨d / 64, by omega⟩ ⟨d % 32, by omega⟩ - n ⟨(d + 32) % 128, by omega⟩ * si ⟨d / 64, by omega⟩ ⟨d % 32, by omega⟩
  else n d * co ⟨d / 64, by omega⟩ ⟨d % 32, by omega⟩ + n ⟨(d + 96) % 128, by omega⟩ * si ⟨d / 64, by omega⟩ ⟨d % 32, by omega⟩

theorem turned_eq (n cs sn : Fin 128 → EReal) (co si : Fin 2 → Fin 32 → EReal) (d : Fin 128)
    (hc : cs d = co ⟨d / 64, by omega⟩ ⟨d % 32, by omega⟩)
    (hs : sn d = if (d : ℕ) % 64 < 32 then -si ⟨d / 64, by omega⟩ ⟨d % 32, by omega⟩ else si ⟨d / 64, by omega⟩ ⟨d % 32, by omega⟩) :
    turned n cs sn d = rotated n co si d := by
  unfold turned rotated
  rw [hc, hs]
  split
  · rw [mul_neg, sub_eq_add_neg]
  · rfl

/-- One entry of a row's projection. -/
def proj (h : Fin 2048 → EReal) (w : Fin 2048 → Fin 8192 → EReal) (C : Fin 8192) : EReal := ∑ e, h e * w e C

/-- One entry of the result, from its row's projection: `u`, the queries' heads, the keys' heads, the values, the gates. -/
def out (p : Fin 8192 → EReal) (qw kw : Fin 128 → EReal) (co si : Fin 2 → Fin 32 → EReal) (C : Fin 8192) : EReal :=
  if (C : ℕ) < 1024 then p C
  else if (C : ℕ) < 3072 then
    rotated (headNorm (fun f => p ⟨C / 128 * 128 + f, by omega⟩) qw) co si ⟨C % 128, by omega⟩ * Ideal.ofBits FTy.f32 0x3E0293EE#32
  else if (C : ℕ) < 3584 then rotated (headNorm (fun f => p ⟨C / 128 * 128 + f, by omega⟩) kw) co si ⟨C % 128, by omega⟩
  else if (C : ℕ) < 4096 then p C
  else Ideal.logistic (p C)

theorem out_u (p : Fin 8192 → EReal) (qw kw : Fin 128 → EReal) (co si : Fin 2 → Fin 32 → EReal) (C : Fin 8192) (h : (C : ℕ) < 1024) :
    out p qw kw co si C = p C := by
  unfold out
  rw [if_pos h]
theorem out_v (p : Fin 8192 → EReal) (qw kw : Fin 128 → EReal) (co si : Fin 2 → Fin 32 → EReal) (C : Fin 8192) (h : 3584 ≤ (C : ℕ)) (h' : (C : ℕ) < 4096) :
    out p qw kw co si C = p C := by
  unfold out
  rw [if_neg (by omega), if_neg (by omega), if_neg (by omega), if_pos h']
theorem out_g (p : Fin 8192 → EReal) (qw kw : Fin 128 → EReal) (co si : Fin 2 → Fin 32 → EReal) (C : Fin 8192) (h : 4096 ≤ (C : ℕ)) :
    out p qw kw co si C = Ideal.logistic (p C) := by
  unfold out
  rw [if_neg (by omega), if_neg (by omega), if_neg (by omega), if_neg (by omega)]
theorem out_q (p : Fin 8192 → EReal) (qw kw : Fin 128 → EReal) (co si : Fin 2 → Fin 32 → EReal) (C : Fin 8192) (b : ℕ) (d : Fin 128)
    (hb : b + 127 < 8192) (hC : (C : ℕ) = b + d) (h0 : b % 128 = 0) (h : 1024 ≤ b) (h' : b < 3072) :
    out p qw kw co si C = rotated (headNorm (fun f => p ⟨b + f, by omega⟩) qw) co si d * Ideal.ofBits FTy.f32 0x3E0293EE#32 := by
  unfold out
  rw [if_neg (by omega), if_pos (by omega)]
  have e1 : (⟨C % 128, by omega⟩ : Fin 128) = d := Fin.ext (by dsimp only; omega)
  have e2 : (fun f : Fin 128 => p ⟨C / 128 * 128 + f, by omega⟩) = fun f : Fin 128 => p ⟨b + f, by omega⟩ :=
    funext fun f => congrArg p (Fin.ext (by dsimp only; omega))
  rw [e1, e2]
theorem out_k (p : Fin 8192 → EReal) (qw kw : Fin 128 → EReal) (co si : Fin 2 → Fin 32 → EReal) (C : Fin 8192) (b : ℕ) (d : Fin 128)
    (hb : b + 127 < 8192) (hC : (C : ℕ) = b + d) (h0 : b % 128 = 0) (h : 3072 ≤ b) (h' : b < 3584) :
    out p qw kw co si C = rotated (headNorm (fun f => p ⟨b + f, by omega⟩) kw) co si d := by
  unfold out
  rw [if_neg (by omega), if_neg (by omega), if_pos (by omega)]
  have e1 : (⟨C % 128, by omega⟩ : Fin 128) = d := Fin.ext (by dsimp only; omega)
  have e2 : (fun f : Fin 128 => p ⟨C / 128 * 128 + f, by omega⟩) = fun f : Fin 128 => p ⟨b + f, by omega⟩ :=
    funext fun f => congrArg p (Fin.ext (by dsimp only; omega))
  rw [e1, e2]

end Inp
-- ==== Proof.InpPay.lean ====
module

public import proofs.«01_k».proof.Proof.Gen.InProjIdeal.Skeleton
public import proofs.«01_k».proof.Proof.InpSpec

/-! # The input projection: what its stored values are, entry by entry -/

@[expose] public section

set_option maxRecDepth 16384
noncomputable section
namespace Cert.InProjIdeal.Inp
open Idealize.ShloMosaic Idealize.ShloMosaic.TcCoe Idealize.SL.Sem
open Cert.InProjIdeal Cert.InProjIdeal.Gen

theorem pay54_at (x : Vec Ideal S1024x2048 .f32) (nw : Vec Ideal S1x2048 .f32) (sc sh : Vec Ideal S1x1x2048 .f32) (r : Fin 1024) (e : Fin 2048) :
    k0_pay54 x nw sc sh (ix2 r e)
      = Inp.modulated (fun f => x (ix2 r f)) (fun f => nw (ix2 0 f)) (fun f => sc (ix3 0 0 f)) (fun f => sh (ix3 0 0 f)) e := by
  unfold Inp.modulated
  pointwise [k0_pay54]
theorem pay55_at (w : Vec Ideal S2048x512 .f32) : k0_pay55 w = w := by
  funext i
  pointwise [k0_pay55]
theorem pay58_at (h : Vec Ideal S1024x2048 .bf16) (w : Vec Ideal S2048x512 .bf16) (r : Fin 1024) (d : Fin 512) :
    k0_pay58 h w (ix2 r d) = ∑ e, h (ix2 r e) * w (ix2 e d) := by
  pointwise [k0_pay58]
theorem pay59_at (a : Vec Ideal S1024x512 .f32) : k0_pay59 a = a := by
  funext i
  pointwise [k0_pay59]
theorem pay2_at (a : Vec Ideal S1024x512 .f32) : k0_pay2 a = a := by
  funext i
  pointwise [k0_pay2]
theorem pay56_at (h : Vec Ideal S1024x2048 .bf16) (w : Vec Ideal S2048x256 .bf16) (r : Fin 1024) (d : Fin 256) :
    k0_pay56 h w (ix2 r d) = Ideal.logistic (∑ e, h (ix2 r e) * w (ix2 e d)) := by
  pointwise [k0_pay56]
theorem pay57_at (h : Vec Ideal S1024x2048 .bf16) (w : Vec Ideal S2048x256 .bf16) (r : Fin 1024) (d : Fin 256) :
    k0_pay57 h w (ix2 r d) = Ideal.logistic (∑ e, h (ix2 r e) * w (ix2 e d)) := by
  pointwise [k0_pay57]

section
variable (w : Vec Ideal S1x128 .f32) (a cs sn : Vec Ideal S1024x128 .f32) (r : Fin 1024) (d : Fin 128)

theorem pay31_at : k0_pay31 w a (ix2 r d) = Inp.headNorm (fun f => a (ix2 r f)) (fun f => w (ix2 0 f)) d := by
  unfold Inp.headNorm
  pointwise [k0_pay31, k0_pay28]

theorem mask_at : k0_pay32 (ix2 r d) = if (d : ℕ) % 64 < 32 then 1#1 else 0#1 := by
  pointwise [k0_pay32]
  revert d
  decide +kernel

/-- One head's columns after norm and turning, as an array. -/
def roped : FVec Ideal S1024x128 .f32 :=
  addf (mulf (k0_pay31 w a) (k0_pay29 cs))
    (mulf (select k0_pay32 (k0_pay33 w a) (k0_pay34 w a)) (k0_pay30 sn))

theorem roped_at : roped w a cs sn (ix2 r d)
    = Inp.turned (Inp.headNorm (fun f => a (ix2 r f)) (fun f => w (ix2 0 f))) (fun f => cs (ix2 r f)) (fun f => sn (ix2 r f)) d := by
  have hm := mask_at r d
  have hn := fun d => pay31_at w a r d
  unfold roped Inp.turned k0_pay33 k0_pay34 k0_pay29 k0_pay30
  rw [← hn, ← hn, ← hn]
  generalize k0_pay32 = M at hm ⊢
  generalize k0_pay31 w a = n
  pointwise []
  rw [hm]
  by_cases h : (d : ℕ) % 64 < 32
  · rw [if_pos h, if_pos h]
    exact congrArg (fun z : Fin 128 => n (ix2 r d) * cs (ix2 r d) + n (ix2 r z) * sn (ix2 r d)) (Fin.ext (by dsimp only; omega))
  · rw [if_neg h, if_neg h]
    exact congrArg (fun z : Fin 128 => n (ix2 r d) * cs (ix2 r d) + n (ix2 r z) * sn (ix2 r d)) (Fin.ext (by dsimp only; omega))

/-- The key heads' stored columns. -/
def headK : FVec Ideal S1024x128 .bf16 := truncf .bf16 (roped w a cs sn) bitsLt_bf16_f32
/-- The query heads' stored columns. -/
def headQ : FVec Ideal S1024x128 .bf16 :=
  truncf .bf16 (mulf (roped w a cs sn) (broadcast S1024x128 (Scalar.ofBits .f32 0x3E0293EE#32))) bitsLt_bf16_f32

theorem k_0 : k0_pay35 (k0_pay29 cs) (k0_pay30 sn) (k0_pay31 w a) k0_pay32 (k0_pay33 w a) (k0_pay34 w a) = headK w a cs sn := rfl
theorem k_1 : k0_pay41 (k0_pay36 cs) (k0_pay37 sn) (k0_pay38 (k0_pay28 w) a) k0_pay39 k0_pay40 = headK w a cs sn := rfl
theorem k_2 : k0_pay47 (k0_pay42 cs) (k0_pay43 sn) (k0_pay44 (k0_pay28 w) a) 64#32 k0_pay45 k0_pay46 = headK w a cs sn := rfl
theorem k_3 : k0_pay1 (k0_pay48 cs) (k0_pay49 sn) (k0_pay50 (k0_pay28 w) a) 64#32 k0_pay51 k0_pay52 k0_pay53 0#32 = headK w a cs sn := rfl
theorem q_0 : k0_pay10 (k0_pay4 cs) (k0_pay5 sn) (k0_pay6 w a) k0_pay7 (k0_pay8 w a) (k0_pay9 w a) = headQ w a cs sn := rfl
theorem q_1 : k0_pay17 (k0_pay11 cs) (k0_pay12 sn) (k0_pay13 (k0_pay3 w) a) k0_pay14 k0_pay15 k0_pay16 = headQ w a cs sn := rfl
theorem q_2 : k0_pay24 (k0_pay18 cs) (k0_pay19 sn) (k0_pay20 (k0_pay3 w) a) 64#32 k0_pay21 k0_pay22 k0_pay23 = headQ w a cs sn := rfl
theorem q_3 : k0_pay60 (k0_pay25 cs) (k0_pay26 sn) (k0_pay27 (k0_pay3 w) a) (iota .tc S1024x128 32 [1] iota_S1024x128_d1_w32) 64#32 = headQ w a cs sn := rfl

theorem headK_at : headK w a cs sn (ix2 r d)
    = Inp.turned (Inp.headNorm (fun f => a (ix2 r f)) (fun f => w (ix2 0 f))) (fun f => cs (ix2 r f)) (fun f => sn (ix2 r f)) d := by
  rw [← roped_at]
  unfold headK
  generalize roped w a cs sn = n
  pointwise []
theorem headQ_at : headQ w a cs sn (ix2 r d)
    = Inp.turned (Inp.headNorm (fun f => a (ix2 r f)) (fun f => w (ix2 0 f))) (fun f => cs (ix2 r f)) (fun f => sn (ix2 r f)) d
      * Ideal.ofBits FTy.f32 0x3E0293EE#32 := by
  rw [← roped_at]
  unfold headQ
  generalize roped w a cs sn = n
  pointwise []
end
end Cert.InProjIdeal.Inp
-- ==== Proof.InpBlk.lean ====
module

public import proofs.«01_k».proof.Proof.Gen.InProjIdeal.Value
public import proofs.«01_k».proof.Proof.InpPay
public import Idealize.ShloMosaic.Lib.Pipeline.ValueKit

/-! # The input projection's operands and blocks, entry by entry -/

@[expose] public section

set_option maxRecDepth 16384
noncomputable section
namespace Cert.InProjIdeal.Inp
open Idealize.ShloMosaic Idealize.ShloMosaic.TcCoe Idealize.SL.Sem
open Cert.InProjIdeal Cert.InProjIdeal.Gen

/-- The positions' angles: axis by axis, frequency by frequency. -/
def ang : FVec Ideal S4096x2x32 .f32 :=
  mulf (broadcastInDim S4096x2x32 ![0, 1, 2] bcast_S4096x2x1_S4096x2x32_0_1_2 (broadcastInDim S4096x2x1 ![0, 1] bcast_S4096x2_S4096x2x1_0_1
      (sitofp .f32 (concatenate S4096x2 1
        [⟨S4096x1, broadcastInDim S4096x1 ![0] bcast_S4096_S4096x1_0 (shapeCast S4096 (broadcastInDim S64x64 ![0] bcast_S64_S64x64_0 (iotaInDim S64 32 0)) shapeCasts_S64x64_S4096)⟩,
         ⟨S4096x1, broadcastInDim S4096x1 ![0] bcast_S4096_S4096x1_0 (shapeCast S4096 (broadcastInDim S64x64 ![0, 1] bcast_S1x64_S64x64_0_1
            (shapeCast S1x64 (iotaInDim S64 32 0) shapeCasts_S64_S1x64)) shapeCasts_S64x64_S4096)⟩] concatenates_S4096x1_S4096x1_S4096x2_d1))))
    (broadcastInDim S4096x2x32 ![0, 1, 2] bcast_S1x1x32_S4096x2x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

section
variable (A : FVec Ideal S4096x2x32 .f32)
/-- One axis of an array over positions, axes and frequencies. -/
def ax0 : FVec Ideal S4096x32 .f32 := shapeCast S4096x32 (extractStridedSlice S4096x1x32 ![0, 0, 0] A slices_S4096x2x32_S4096x1x32_0_0_0) shapeCasts_S4096x1x32_S4096x32
def ax1 : FVec Ideal S4096x32 .f32 := shapeCast S4096x32 (extractStridedSlice S4096x1x32 ![0, 1, 0] A slices_S4096x2x32_S4096x1x32_0_1_0) shapeCasts_S4096x1x32_S4096x32
/-- The cosines laid out column by column. -/
def cosT : FVec Ideal S4096x128 .f32 :=
  concatenate S4096x128 1 [⟨S4096x32, ax0 A⟩, ⟨S4096x32, ax0 A⟩, ⟨S4096x32, ax1 A⟩, ⟨S4096x32, ax1 A⟩] concatenates_S4096x32_S4096x32_S4096x32_S4096x32_S4096x128_d1
/-- The sines laid out column by column, the first half of each axis with its sign turned. -/
def sinT : FVec Ideal S4096x128 .f32 :=
  concatenate S4096x128 1 [⟨S4096x32, Host.negf (ax0 A)⟩, ⟨S4096x32, ax0 A⟩, ⟨S4096x32, Host.negf (ax1 A)⟩, ⟨S4096x32, ax1 A⟩] concatenates_S4096x32_S4096x32_S4096x32_S4096x32_S4096x128_d1

variable (s : Fin 4096)
theorem ax0_at (f : Fin 32) : ax0 A (ix2 s f) = A (ix3 s 0 f) := by pointwise [ax0]
theorem ax1_at (f : Fin 32) : ax1 A (ix2 s f) = A (ix3 s 1 f) := by pointwise [ax1]

theorem at_eq (d : Fin 128) (a : Fin 2) (f : Fin 32) (ha : (a : ℕ) = d / 64) (hf : (f : ℕ) = d % 32) :
    A (ix3 s a f) = A (ix3 s (⟨d / 64, by omega⟩ : Fin 2) (⟨d % 32, by omega⟩ : Fin 32)) :=
  congrArg₂ (fun (a : Fin 2) (f : Fin 32) => A (ix3 s a f)) (Fin.ext ha) (Fin.ext hf)

theorem pick_cos (d : Fin 128) (B0 B1 : S4096x32.Idx → EReal) (h0 : ∀ f : Fin 32, B0 (ix2 s f) = A (ix3 s 0 f)) (h1 : ∀ f : Fin 32, B1 (ix2 s f) = A (ix3 s 1 f)) :
    (if h : (d : ℕ) < 32 then B0 (ix2 s (⟨d, by omega⟩ : Fin 32)) else if h : (d : ℕ) - 32 < 32 then B0 (ix2 s (⟨(d : ℕ) - 32, by omega⟩ : Fin 32))
      else if h : (d : ℕ) - 32 - 32 < 32 then B1 (ix2 s (⟨(d : ℕ) - 32 - 32, by omega⟩ : Fin 32))
      else B1 (ix2 s (⟨(d : ℕ) - 32 - 32 - 32, by omega⟩ : Fin 32)))
    = A (ix3 s (⟨d / 64, by omega⟩ : Fin 2) (⟨d % 32, by omega⟩ : Fin 32)) := by
  have z0 : ((0 : Fin 2) : ℕ) = 0 := rfl
  have z1 : ((1 : Fin 2) : ℕ) = 1 := rfl
  split
  · exact (h0 _).trans (at_eq A s d _ _ (by omega) (by dsimp only; omega))
  · split
    · exact (h0 _).trans (at_eq A s d _ _ (by omega) (by dsimp only; omega))
    · split
      · exact (h1 _).trans (at_eq A s d _ _ (by omega) (by dsimp only; omega))
      · exact (h1 _).trans (at_eq A s d _ _ (by omega) (by dsimp only; omega))

theorem pick_sin (d : Fin 128) (B0 B1 : S4096x32.Idx → EReal) (h0 : ∀ f : Fin 32, B0 (ix2 s f) = A (ix3 s 0 f)) (h1 : ∀ f : Fin 32, B1 (ix2 s f) = A (ix3 s 1 f)) :
    (if h : (d : ℕ) < 32 then -B0 (ix2 s (⟨d, by omega⟩ : Fin 32)) else if h : (d : ℕ) - 32 < 32 then B0 (ix2 s (⟨(d : ℕ) - 32, by omega⟩ : Fin 32))
      else if h : (d : ℕ) - 32 - 32 < 32 then -B1 (ix2 s (⟨(d : ℕ) - 32 - 32, by omega⟩ : Fin 32))
      else B1 (ix2 s (⟨(d : ℕ) - 32 - 32 - 32, by omega⟩ : Fin 32)))
    = if (d : ℕ) % 64 < 32 then -A (ix3 s (⟨d / 64, by omega⟩ : Fin 2) (⟨d % 32, by omega⟩ : Fin 32))
      else A (ix3 s (⟨d / 64, by omega⟩ : Fin 2) (⟨d % 32, by omega⟩ : Fin 32)) := by
  have z0 : ((0 : Fin 2) : ℕ) = 0 := rfl
  have z1 : ((1 : Fin 2) : ℕ) = 1 := rfl
  split
  · rw [if_pos (by omega)]
    exact congrArg Neg.neg ((h0 _).trans (at_eq A s d _ _ (by omega) (by dsimp only; omega)))
  · split
    · rw [if_neg (by omega)]
      exact (h0 _).trans (at_eq A s d _ _ (by omega) (by dsimp only; omega))
    · split
      · rw [if_pos (by omega)]
        exact congrArg Neg.neg ((h1 _).trans (at_eq A s d _ _ (by omega) (by dsimp only; omega)))
      · rw [if_neg (by omega)]
        exact (h1 _).trans (at_eq A s d _ _ (by omega) (by dsimp only; omega))

theorem cosT_at (d : Fin 128) : cosT A (ix2 s d) = A (ix3 s (⟨d / 64, by omega⟩ : Fin 2) (⟨d % 32, by omega⟩ : Fin 32)) := by
  refine Eq.trans ?_ (pick_cos A s d (ax0 A) (ax1 A) (ax0_at A s) (ax1_at A s))
  unfold cosT
  generalize ax0 A = B0
  generalize ax1 A = B1
  pointwise []
theorem sinT_at (d : Fin 128) : sinT A (ix2 s d) = if (d : ℕ) % 64 < 32 then -A (ix3 s (⟨d / 64, by omega⟩ : Fin 2) (⟨d % 32, by omega⟩ : Fin 32))
    else A (ix3 s (⟨d / 64, by omega⟩ : Fin 2) (⟨d % 32, by omega⟩ : Fin 32)) := by
  refine Eq.trans ?_ (pick_sin A s d (ax0 A) (ax1 A) (ax0_at A s) (ax1_at A s))
  unfold sinT
  generalize ax0 A = B0
  generalize ax1 A = B1
  pointwise []
end

def xf (a0 : FVec Ideal S2x4096x2048 .f32) : FVec Ideal S8192x2048 .f32 := shapeCast S8192x2048 a0 shapeCasts_S2x4096x2048_S8192x2048
theorem xf_at (a0 : FVec Ideal S2x4096x2048 .f32) (b : Fin 2) (s : Fin 4096) (e : Fin 2048) :
    xf a0 (ix2 (⟨b * 4096 + s, by omega⟩ : Fin 8192) e) = a0 (ix3 b s e) := by
  pointwise [xf]

variable (m : (ℓ : Loc nD τ sig) → Buf (Elt Ideal) ℓ) (c : Dev nD)

theorem V_x : V m c main_v44 = xf (m ((c : Thread nD τ).loc main_arg0)) := by
  unfold V
  after_results
  rfl
theorem V_nw : V m c main_v45 = shapeCast S1x2048 (m ((c : Thread nD τ).loc main_arg3) : S2048.Idx → EReal) shapeCasts_S2048_S1x2048 := by
  unfold V
  after_results
  rfl
theorem V_qw : V m c main_v46 = shapeCast S1x128 (m ((c : Thread nD τ).loc main_arg5) : S128.Idx → EReal) shapeCasts_S128_S1x128 := by
  unfold V
  after_results
  rfl
theorem V_kw : V m c main_v47 = shapeCast S1x128 (m ((c : Thread nD τ).loc main_arg6) : S128.Idx → EReal) shapeCasts_S128_S1x128 := by
  unfold V
  after_results
  rfl
theorem V_cos : V m c main_v32 = cosT (Host.cos ang) := by
  unfold V
  after_results
  rfl
theorem V_sin : V m c main_v43 = sinT (Host.sin ang) := by
  unfold V
  after_results
  rfl

/-- Which block of each array a grid point reads or writes. -/
theorem idx : ∀ t : Fin cfg0.N,
    win0_0.index t = ![t.val / 16, 0] ∧ win0_1.index t = ![t.val / 64, 0, 0] ∧ win0_2.index t = ![t.val / 64, 0, 0]
    ∧ win0_3.index t = ![0, 0] ∧ win0_4.index t = ![0, t.val % 16] ∧ win0_5.index t = ![0, 0] ∧ win0_6.index t = ![0, 0]
    ∧ win0_7.index t = ![t.val / 16 % 4, 0] ∧ win0_8.index t = ![t.val / 16 % 4, 0] ∧ win0_9.index t = ![t.val / 16, t.val % 16] :=
  (by decide +kernel : ∀ t : Fin grid0.N, _)

section
variable (t : Fin 128)
theorem iblk_0 (r : Fin 1024) (e : Fin 2048) (P : S8192x2048.Idx → EReal) (h : V m c main_v44 = P) :
    iblk m c 0 t (ix2 r e) = P (ix2 (⟨t.val / 16 * 1024 + r, by omega⟩ : Fin 8192) e) := by
  subst h
  blk_ext [iblk, idx t]
theorem iblk_1 (e : Fin 2048) (P : S2x1x2048.Idx → EReal) (h : V m c main_arg1 = P) :
    iblk m c 1 t (ix3 0 0 e) = P (ix3 (⟨t.val / 64, by omega⟩ : Fin 2) 0 e) := by
  subst h
  blk_ext [iblk, idx t]
theorem iblk_2 (e : Fin 2048) (P : S2x1x2048.Idx → EReal) (h : V m c main_arg2 = P) :
    iblk m c 2 t (ix3 0 0 e) = P (ix3 (⟨t.val / 64, by omega⟩ : Fin 2) 0 e) := by
  subst h
  blk_ext [iblk, idx t]
theorem iblk_3 (e : Fin 2048) (P : S1x2048.Idx → EReal) (h : V m c main_v45 = P) :
    iblk m c 3 t (ix2 0 e) = P (ix2 0 e) := by
  subst h
  blk_ext [iblk, idx t]
theorem iblk_4 (e : Fin 2048) (x : Fin 512) (P : S2048x8192.Idx → EReal) (h : V m c main_arg4 = P) :
    iblk m c 4 t (ix2 e x) = P (ix2 e (⟨t.val % 16 * 512 + x, by omega⟩ : Fin 8192)) := by
  subst h
  blk_ext [iblk, idx t]
theorem iblk_5 (e : Fin 128) (P : S1x128.Idx → EReal) (h : V m c main_v46 = P) :
    iblk m c 5 t (ix2 0 e) = P (ix2 0 e) := by
  subst h
  blk_ext [iblk, idx t]
theorem iblk_6 (e : Fin 128) (P : S1x128.Idx → EReal) (h : V m c main_v47 = P) :
    iblk m c 6 t (ix2 0 e) = P (ix2 0 e) := by
  subst h
  blk_ext [iblk, idx t]
theorem iblk_7 (r : Fin 1024) (d : Fin 128) (P : S4096x128.Idx → EReal) (h : V m c main_v32 = P) :
    iblk m c 7 t (ix2 r d) = P (ix2 (⟨t.val / 16 % 4 * 1024 + r, by omega⟩ : Fin 4096) d) := by
  subst h
  blk_ext [iblk, idx t]
theorem iblk_8 (r : Fin 1024) (d : Fin 128) (P : S4096x128.Idx → EReal) (h : V m c main_v43 = P) :
    iblk m c 8 t (ix2 r d) = P (ix2 (⟨t.val / 16 % 4 * 1024 + r, by omega⟩ : Fin 4096) d) := by
  subst h
  blk_ext [iblk, idx t]
end

end Cert.InProjIdeal.Inp
-- ==== Proof.InpPoint.lean ====
module

public import proofs.«01_k».proof.Proof.InpBlk
public import Idealize.ShloMosaic.Lib.Pipeline.ReadBack

/-! # The input projection: what each grid point writes -/

@[expose] public section

set_option maxRecDepth 16384
noncomputable section
namespace Cert.InProjIdeal.Inp
open Idealize.ShloMosaic Idealize.ShloMosaic.TcCoe Idealize.SL.Sem
open Cert.InProjIdeal Cert.InProjIdeal.Gen

theorem ldo (B : Vec Ideal S1024x512 .f32) (o : ℕ) (inb : ∀ a, (![0, o] : Fin 2 → ℕ) a + S1024x128.size a ≤ S1024x512.size a)
    (r : Fin 1024) (d : Fin 128) (h : o + d < 512) : View.ld B (Rect.unit ![0, o] S1024x128.size inb) (ix2 r d) = B (ix2 r ⟨o + d, h⟩) := by
  pointwise []
theorem ldw (B : Vec Ideal S2048x512 .bf16) (o : ℕ) (inb : ∀ a, (![0, o] : Fin 2 → ℕ) a + S2048x256.size a ≤ S2048x512.size a)
    (e : Fin 2048) (d : Fin 256) (h : o + d < 512) : View.ld B (Rect.unit ![0, o] S2048x256.size inb) (ix2 e d) = B (ix2 e ⟨o + d, h⟩) := by
  pointwise []

variable (m : (ℓ : Loc nD τ sig) → Buf (Elt Ideal) ℓ) (c : Dev nD)

/-- A row after norm, scale and shift, of the launched arguments. -/
def row (b : Fin 2) (s : Fin 4096) : Fin 2048 → EReal :=
  Inp.modulated (fun e => (m ((c : Thread nD τ).loc main_arg0) : S2x4096x2048.Idx → EReal) (ix3 b s e))
    (fun e => (m ((c : Thread nD τ).loc main_arg3) : S2048.Idx → EReal) (ix1 e))
    (fun e => (m ((c : Thread nD τ).loc main_arg2) : S2x1x2048.Idx → EReal) (ix3 b 0 e))
    (fun e => (m ((c : Thread nD τ).loc main_arg1) : S2x1x2048.Idx → EReal) (ix3 b 0 e))
/-- Its projection. -/
def projd (b : Fin 2) (s : Fin 4096) : Fin 8192 → EReal :=
  Inp.proj (row m c b s) (fun e C => (m ((c : Thread nD τ).loc main_arg4) : S2048x8192.Idx → EReal) (ix2 e C))
/-- The result's entry. -/
def entry (b : Fin 2) (s : Fin 4096) (C : Fin 8192) : EReal :=
  Inp.out (projd m c b s) (fun d => (m ((c : Thread nD τ).loc main_arg5) : S128.Idx → EReal) (ix1 d))
    (fun d => (m ((c : Thread nD τ).loc main_arg6) : S128.Idx → EReal) (ix1 d))
    (fun a f => Host.cos ang (ix3 s a f)) (fun a f => Host.sin ang (ix3 s a f)) C

/-- The batch and the position that a grid point's row stands for. -/
abbrev bt (t : Fin 128) : Fin 2 := ⟨t.val / 64, by omega⟩
abbrev st (t : Fin 128) (r : Fin 1024) : Fin 4096 := ⟨t.val / 16 % 4 * 1024 + r, by omega⟩

theorem x_at (t : Fin 128) (r : Fin 1024) (e : Fin 2048) :
    iblk m c 0 t (ix2 r e) = (m ((c : Thread nD τ).loc main_arg0) : S2x4096x2048.Idx → EReal) (ix3 (bt t) (st t r) e) := by
  rw [iblk_0 m c t r e _ (V_x m c), ← xf_at (m ((c : Thread nD τ).loc main_arg0))]
  exact congrArg _ (congrArg₂ ix2 (Fin.ext (by dsimp only; omega)) rfl)
theorem nw_at (t : Fin 128) (e : Fin 2048) : iblk m c 3 t (ix2 0 e) = (m ((c : Thread nD τ).loc main_arg3) : S2048.Idx → EReal) (ix1 e) := by
  rw [iblk_3 m c t e _ (V_nw m c)]
  generalize (m ((c : Thread nD τ).loc main_arg3) : S2048.Idx → EReal) = B
  pointwise []
theorem qw_at (t : Fin 128) (e : Fin 128) : iblk m c 5 t (ix2 0 e) = (m ((c : Thread nD τ).loc main_arg5) : S128.Idx → EReal) (ix1 e) := by
  rw [iblk_5 m c t e _ (V_qw m c)]
  generalize (m ((c : Thread nD τ).loc main_arg5) : S128.Idx → EReal) = B
  pointwise []
theorem kw_at (t : Fin 128) (e : Fin 128) : iblk m c 6 t (ix2 0 e) = (m ((c : Thread nD τ).loc main_arg6) : S128.Idx → EReal) (ix1 e) := by
  rw [iblk_6 m c t e _ (V_kw m c)]
  generalize (m ((c : Thread nD τ).loc main_arg6) : S128.Idx → EReal) = B
  pointwise []

/-- The rows the first point of a run computes. -/
theorem rows_first (t : Fin 128) (r : Fin 1024) (e : Fin 2048) :
    k0_pay54 (iblk m c 0 t) (iblk m c 3 t) (iblk m c 2 t) (iblk m c 1 t) (ix2 r e) = row m c (bt t) (st t r) e := by
  rw [pay54_at]
  unfold row
  simp only [x_at, nw_at, iblk_1 m c t _ _ rfl, iblk_2 m c t _ _ rfl]
  rfl

/-- The scratch after a point holds its rows. -/
def Held (t : Fin cfg0.N) : Prop := ∀ (r : Fin 1024) (e : Fin 2048), (outsAt0 m c t.val t.isLt).2 (ix2 r e) = row m c (bt t) (st t r) e

theorem held_first (t : Fin cfg0.N) (h : t.val % 16 = 0) : Held m c t := by
  intro r e
  rw [outsAt0_A m c t h (by omega) (by omega) (by omega) (by omega) (by omega) (by omega)]
  frame_out
  exact rows_first m c t r e

theorem same (t : Fin 128) (h : ¬t.val % 16 = 0) (r : Fin 1024) (e : Fin 2048) :
    row m c (bt ⟨t.val - 1, by omega⟩) (st ⟨t.val - 1, by omega⟩ r) e = row m c (bt t) (st t r) e := by
  exact congrArg₂ (fun b s => row m c b s e) (Fin.ext (by dsimp only; omega)) (Fin.ext (by dsimp only; omega))

theorem held_next (t : Fin cfg0.N) (h : ¬t.val % 16 = 0) (hp : Held m c ⟨t.val - 1, by omega⟩) : Held m c t := by
  intro r e
  refine Eq.trans ?_ ((hp r e).trans (same m c t h r e))
  by_cases h1 : t.val % 16 = 1
  · rw [outsAt0_B m c t h (by omega) (by omega) (by omega) (by omega) (by omega) (by omega)]
    rfl
  by_cases h2 : t.val % 16 ≤ 5
  · rw [outsAt0_C m c t h (by omega) (by omega) (by omega) (by omega) (by omega) (by omega)]
    rfl
  by_cases h3 : t.val % 16 = 6
  · rw [outsAt0_D m c t h (by omega) (by omega) (by omega) (by omega) h3 (by omega)]
    rfl
  by_cases h4 : t.val % 16 = 7
  · rw [outsAt0_E m c t h (by omega) (by omega) (by omega) (by omega) (by omega) h4]
    rfl
  · rw [outsAt0_F m c t h (by omega) (by omega) (by omega) (by omega) (by omega) (by omega)]
    rfl

theorem held (t : Fin cfg0.N) : Held m c t := by
  obtain ⟨t, ht⟩ := t
  induction t with
  | zero => exact held_first m c _ rfl
  | succ n ih =>
    by_cases h : (n + 1) % 16 = 0
    · exact held_first m c _ h
    · exact held_next m c ⟨n + 1, ht⟩ h (ih (by omega))

/-- What the scratch holds when a point after the first of its run reads it. -/
theorem before (t : Fin cfg0.N) (h : ¬t.val % 16 = 0) (r : Fin 1024) (e : Fin 2048) (hb : t.val - 1 < cfg0.N) :
    (outsAt0 m c (t.val - 1) hb).2 (ix2 r e) = row m c (bt t) (st t r) e :=
  (held m c ⟨t.val - 1, hb⟩ r e).trans (same m c t h r e)

/-- The scratch as such a point reads it. -/
abbrev kept (t : Fin cfg0.N) : Vec Ideal S1024x2048 .bf16 :=
  View.read (Elt Ideal) (View.whole cc0_scratch0) ((Memref.isWhole_whole (cc0_scratch0 : Ref sig .tc)).unread (outsAt0 m c (t.val - 1) (lt_of_le_of_lt (Nat.sub_le _ _) t.isLt)).2)
theorem kept_at (t : Fin cfg0.N) (h : ¬t.val % 16 = 0) (r : Fin 1024) (e : Fin 2048) : kept m c t (ix2 r e) = row m c (bt t) (st t r) e :=
  (congrFun (read_unread_whole _ _ _) _).trans (before m c t h r e _)

/-- A tile's entries. -/
theorem acc_at (t : Fin 128) (H : Vec Ideal S1024x2048 .bf16) (hH : ∀ r e, H (ix2 r e) = row m c (bt t) (st t r) e) (r : Fin 1024) (x : Fin 512) :
    k0_pay58 H (k0_pay55 (iblk m c 4 t)) (ix2 r x) = projd m c (bt t) (st t r) ⟨t.val % 16 * 512 + x, by omega⟩ := by
  rw [pay55_at, pay58_at]
  unfold projd Inp.proj
  simp only [hH, iblk_4 m c t _ _ _ rfl]
  rfl

/-- The tables' rows at a grid point. -/
theorem cos_at (t : Fin 128) (r : Fin 1024) (d : Fin 128) :
    iblk m c 7 t (ix2 r d) = Host.cos ang (ix3 (st t r) (⟨d / 64, by omega⟩ : Fin 2) (⟨d % 32, by omega⟩ : Fin 32)) :=
  (iblk_7 m c t r d _ (V_cos m c)).trans (cosT_at _ _ d)
theorem sin_at (t : Fin 128) (r : Fin 1024) (d : Fin 128) :
    iblk m c 8 t (ix2 r d) = if (d : ℕ) % 64 < 32 then -Host.sin ang (ix3 (st t r) (⟨d / 64, by omega⟩ : Fin 2) (⟨d % 32, by omega⟩ : Fin 32))
      else Host.sin ang (ix3 (st t r) (⟨d / 64, by omega⟩ : Fin 2) (⟨d % 32, by omega⟩ : Fin 32)) :=
  (iblk_8 m c t r d _ (V_sin m c)).trans (sinT_at _ _ d)

section
variable (t : Fin 128) (A : Vec Ideal S1024x512 .f32) (hA : ∀ (r : Fin 1024) (x : Fin 512), A (ix2 r x) = projd m c (bt t) (st t r) ⟨t.val % 16 * 512 + x, by omega⟩)
  (o : ℕ) (inb : ∀ a, (![0, o] : Fin 2 → ℕ) a + S1024x128.size a ≤ S1024x512.size a) (ho : o % 128 = 0) (ho' : o + 127 < 512)
include hA ho

/-- A query head's stored columns. -/
theorem q_at (h : 2 ≤ t.val % 16 ∧ t.val % 16 ≤ 5) (y : S1024x128.Idx) (r : Fin 1024) (x : Fin 512) (hr : (r : ℕ) = y 0) (hx : (x : ℕ) = o + y 1) :
    headQ (iblk m c 5 t) (View.ld A (Rect.unit ![0, o] S1024x128.size inb)) (iblk m c 7 t) (iblk m c 8 t) y
      = entry m c (bt t) (st t r) ⟨t.val % 16 * 512 + x, by omega⟩ := by
  obtain ⟨d, hd, hy⟩ : ∃ d : Fin 128, (d : ℕ) = y 1 ∧ y = ix2 (r : Fin 1024) d := ⟨y 1, rfl, by
    funext a
    fin_cases a
    · exact (Fin.ext hr).symm
    · rfl⟩
  have hx' : (x : ℕ) = o + d := by omega
  clear hd hr
  subst hy
  rw [headQ_at, Inp.turned_eq _ _ _ (fun a f => Host.cos ang (ix3 (st t r) a f)) (fun a f => Host.sin ang (ix3 (st t r) a f)) d (cos_at m c t r d) (sin_at m c t r d)]
  unfold entry
  rw [Inp.out_q _ _ _ _ _ _ (t.val % 16 * 512 + o) d (by omega) (by dsimp only; omega) (by omega) (by omega) (by omega)]
  simp only [qw_at]
  have e : (fun f : Fin 128 => View.ld A (Rect.unit ![0, o] S1024x128.size inb) (ix2 r f))
      = fun f : Fin 128 => projd m c (bt t) (st t r) ⟨t.val % 16 * 512 + o + f, by omega⟩ :=
    funext fun f => (ldo A o inb r f (by omega)).trans ((hA r _).trans (congrArg _ (Fin.ext (by dsimp only; omega))))
  rw [e]

/-- A key head's stored columns. -/
theorem k_at (h : t.val % 16 = 6) (y : S1024x128.Idx) (r : Fin 1024) (x : Fin 512) (hr : (r : ℕ) = y 0) (hx : (x : ℕ) = o + y 1) :
    headK (iblk m c 6 t) (View.ld A (Rect.unit ![0, o] S1024x128.size inb)) (iblk m c 7 t) (iblk m c 8 t) y
      = entry m c (bt t) (st t r) ⟨t.val % 16 * 512 + x, by omega⟩ := by
  obtain ⟨d, hd, hy⟩ : ∃ d : Fin 128, (d : ℕ) = y 1 ∧ y = ix2 (r : Fin 1024) d := ⟨y 1, rfl, by
    funext a
    fin_cases a
    · exact (Fin.ext hr).symm
    · rfl⟩
  have hx' : (x : ℕ) = o + d := by omega
  clear hd hr
  subst hy
  rw [headK_at, Inp.turned_eq _ _ _ (fun a f => Host.cos ang (ix3 (st t r) a f)) (fun a f => Host.sin ang (ix3 (st t r) a f)) d (cos_at m c t r d) (sin_at m c t r d)]
  unfold entry
  rw [Inp.out_k _ _ _ _ _ _ (t.val % 16 * 512 + o) d (by omega) (by dsimp only; omega) (by omega) (by omega) (by omega)]
  simp only [kw_at]
  have e : (fun f : Fin 128 => View.ld A (Rect.unit ![0, o] S1024x128.size inb) (ix2 r f))
      = fun f : Fin 128 => projd m c (bt t) (st t r) ⟨t.val % 16 * 512 + o + f, by omega⟩ :=
    funext fun f => (ldo A o inb r f (by omega)).trans ((hA r _).trans (congrArg _ (Fin.ext (by dsimp only; omega))))
  rw [e]
end

theorem g_0 (H : Vec Ideal S1024x2048 .bf16) (W : Vec Ideal S2048x256 .bf16) : k0_pay57 H W = k0_pay56 H W := rfl

/-- A gate's stored columns. -/
theorem g_at (t : Fin 128) (H : Vec Ideal S1024x2048 .bf16) (hH : ∀ (r : Fin 1024) (e : Fin 2048), H (ix2 r e) = row m c (bt t) (st t r) e)
    (o : ℕ) (inb : ∀ a, (![0, o] : Fin 2 → ℕ) a + S2048x256.size a ≤ S2048x512.size a) (ho : o % 256 = 0) (h : 8 ≤ t.val % 16)
    (y : S1024x256.Idx) (r : Fin 1024) (x : Fin 512) (hr : (r : ℕ) = y 0) (hx : (x : ℕ) = o + y 1) :
    k0_pay56 H (View.ld (k0_pay55 (iblk m c 4 t)) (Rect.unit (s := S2048x512) ![0, o] S2048x256.size inb)) y
      = entry m c (bt t) (st t r) ⟨t.val % 16 * 512 + x, by omega⟩ := by
  obtain ⟨d, hd, hy⟩ : ∃ d : Fin 256, (d : ℕ) = y 1 ∧ y = ix2 (r : Fin 1024) d := ⟨y 1, rfl, by
    funext a
    fin_cases a
    · exact (Fin.ext hr).symm
    · rfl⟩
  have hx' : (x : ℕ) = o + d := by omega
  clear hd hr
  subst hy
  rw [pay56_at, pay55_at]
  unfold entry
  rw [Inp.out_g _ _ _ _ _ _ (by dsimp only; omega)]
  refine congrArg Ideal.logistic ?_
  unfold projd Inp.proj
  refine Finset.sum_congr rfl fun e _ => ?_
  rw [hH, ldw _ _ _ _ _ (by omega), iblk_4 m c t _ _ _ rfl]
  exact congrArg (fun z => row m c (bt t) (st t r) e * (m ((c : Thread nD τ).loc main_arg4) : S2048x8192.Idx → EReal) (ix2 e z)) (Fin.ext (by dsimp only; omega))

/-- What a grid point writes. -/
theorem point (t : Fin cfg0.N) (y : S1024x512.Idx) (r : Fin 1024) (x : Fin 512) (hr : (r : ℕ) = y 0) (hx : (x : ℕ) = y 1) :
    (outsAt0 m c t.val t.isLt).1 y = entry m c (bt t) (st t r) ⟨t.val % 16 * 512 + x, by omega⟩ := by
  have hy : y = ix2 r x := by
    funext a
    fin_cases a
    · exact (Fin.ext hr).symm
    · exact (Fin.ext hx).symm
  by_cases h0 : t.val % 16 = 0
  · rw [outsAt0_A m c t h0 (by omega) (by omega) (by omega) (by omega) (by omega) (by omega)]
    frame_out
    subst hy
    rw [pay59_at]
    unfold entry
    rw [Inp.out_u _ _ _ _ _ _ (by dsimp only; omega)]
    exact acc_at m c t _ (rows_first m c t) r x
  by_cases h1 : t.val % 16 = 1
  · rw [outsAt0_B m c t h0 (by omega) (by omega) (by omega) (by omega) (by omega) (by omega)]
    frame_out
    subst hy
    rw [pay59_at]
    unfold entry
    rw [Inp.out_u _ _ _ _ _ _ (by dsimp only; omega)]
    exact acc_at m c t (kept m c t) (kept_at m c t h0) r x
  by_cases h2 : t.val % 16 ≤ 5
  · rw [outsAt0_C m c t h0 (by omega) (by omega) (by omega) (by omega) (by omega) (by omega)]
    frame_out
    have hA := acc_at m c t (kept m c t) (kept_at m c t h0)
    canon_tiles y hh
    case piece0 =>
      rw [View.readCov_fill _ _ _ _ _ (by decide), q_3]
      exact q_at m c t _ hA 384 _ rfl ⟨by omega, h2⟩ y r x (by omega) (by omega)
    case piece1 =>
      rw [View.readCov_fill _ _ _ _ _ (by decide), q_2]
      exact q_at m c t _ hA 256 _ rfl ⟨by omega, h2⟩ y r x (by omega) (by omega)
    case piece2 =>
      rw [View.readCov_fill _ _ _ _ _ (by decide), q_1]
      exact q_at m c t _ hA 128 _ rfl ⟨by omega, h2⟩ y r x (by omega) (by omega)
    case piece3 =>
      rw [View.readCov_fill _ _ _ _ _ (by decide), q_0]
      exact q_at m c t _ hA 0 _ rfl ⟨by omega, h2⟩ y r x (by omega) (by omega)
  by_cases h3 : t.val % 16 = 6
  · rw [outsAt0_D m c t h0 (by omega) (by omega) (by omega) (by omega) h3 (by omega)]
    frame_out
    have hA := acc_at m c t (kept m c t) (kept_at m c t h0)
    canon_tiles y hh
    case piece0 =>
      rw [View.readCov_fill _ _ _ _ _ (by decide), k_3]
      exact k_at m c t _ hA 384 _ rfl h3 y r x (by omega) (by omega)
    case piece1 =>
      rw [View.readCov_fill _ _ _ _ _ (by decide), k_2]
      exact k_at m c t _ hA 256 _ rfl h3 y r x (by omega) (by omega)
    case piece2 =>
      rw [View.readCov_fill _ _ _ _ _ (by decide), k_1]
      exact k_at m c t _ hA 128 _ rfl h3 y r x (by omega) (by omega)
    case piece3 =>
      rw [View.readCov_fill _ _ _ _ _ (by decide), k_0]
      exact k_at m c t _ hA 0 _ rfl h3 y r x (by omega) (by omega)
  by_cases h4 : t.val % 16 = 7
  · rw [outsAt0_E m c t h0 (by omega) (by omega) (by omega) (by omega) (by omega) h4]
    frame_out
    subst hy
    rw [pay2_at]
    unfold entry
    rw [Inp.out_v _ _ _ _ _ _ (by dsimp only; omega) (by dsimp only; omega)]
    exact acc_at m c t (kept m c t) (kept_at m c t h0) r x
  · rw [outsAt0_F m c t h0 (by omega) (by omega) (by omega) (by omega) (by omega) (by omega)]
    frame_out
    canon_tiles y hh
    case piece0 =>
      rw [View.readCov_fill _ _ _ _ _ (by decide)]
      exact (congrFun (g_0 _ _) y).trans (g_at m c t _ (kept_at m c t h0) 256 _ rfl (by omega) y r x (by omega) (by omega))
    case piece1 =>
      rw [View.readCov_fill _ _ _ _ _ (by decide)]
      exact g_at m c t _ (kept_at m c t h0) 0 _ rfl (by omega) y r x (by omega) (by omega)

/-- The batch and the position of a row. -/
abbrev bR (R : Fin 8192) : Fin 2 := ⟨R / 4096, by omega⟩
abbrev sR (R : Fin 8192) : Fin 4096 := ⟨R % 4096, by omega⟩

/-- The same for the row and the column that a block's index stands for. -/
theorem point_at (t : Fin 128) (y : S1024x512.Idx) (R C : Fin 8192) (hR : (R : ℕ) = t.val / 16 * 1024 + y 0) (hC : (C : ℕ) = t.val % 16 * 512 + y 1) :
    (outsAt0 m c t.val t.isLt).1 y = entry m c (bR R) (sR R) C := by
  obtain ⟨r, hr⟩ : ∃ r : Fin 1024, (r : ℕ) = y 0 := ⟨y 0, rfl⟩
  obtain ⟨x, hx⟩ : ∃ x : Fin 512, (x : ℕ) = y 1 := ⟨y 1, rfl⟩
  refine (point m c t y r x hr hx).trans ?_
  have e1 : bt t = bR R := Fin.ext (by dsimp only; omega)
  have e2 : st t r = sR R := Fin.ext (by dsimp only; omega)
  have e3 : (⟨t.val % 16 * 512 + x, by omega⟩ : Fin 8192) = C := Fin.ext (by dsimp only; omega)
  rw [e1, e2, e3]

/-- The array after the run. -/
theorem final : (dats m 0 c).arrAt 9 cfg0.N = fun i => entry m c (bR (i 0)) (sR (i 0)) (i 1) := by
  refine (dats m 0 c).arrAt_eq_of_covers 9 _ (by decide +kernel) fun t hf y => ?_
  blk_simp
  rw [after0_9]
  refine point_at m c t _ _ _ ?_ ?_
  all_goals (blk_simp [idx t] <;> try omega)

end Cert.InProjIdeal.Inp
-- ==== Proof.InpRef.lean ====
module

public import proofs.«01_k».proof.Proof.InpSpec
public import proofs.«01_k».proof.Proof.Gen.InProjRefIdeal.Run

/-! # The input projection: the reference, entry by entry -/

@[expose] public section

set_option maxRecDepth 16384
noncomputable section
namespace Cert.InProjRefIdeal.Inp
open Idealize.ShloMosaic Idealize.ShloMosaic.TcCoe Idealize.SL.Sem
open Cert.InProjRefIdeal Cert.InProjRefIdeal.Gen

/-- The rows after norm, scale and shift. -/
def hid (a0 : FVec Ideal S2x4096x2048 .f32) (a1 a2 : FVec Ideal S2x1x2048 .f32) (a3 : FVec Ideal S2048 .f32) : FVec Ideal S2x4096x2048 .f32 :=
  addf (mulf (mulf (mulf a0 (broadcastInDim S2x4096x2048 ![0, 1, 2] bcast_S2x4096x1_S2x4096x2048_0_1_2 (Host.rsqrt (addf (Host.divf
    (broadcastInDim S2x4096x1 ![0, 1] bcast_S2x4096_S2x4096x1_0_1 (Host.reduceAdd (mulf a0 a0) (constant S_ .f32 0x00000000#32) reducesTo_S2x4096x2048_S2x4096_d2 h_S_))
    (broadcastInDim S2x4096x1 ![] bcast_S_S2x4096x1 (constant S_ .f32 0x45000000#32))) (broadcastInDim S2x4096x1 ![] bcast_S_S2x4096x1 (constant S_ .f32 0x358637BD#32))))))
    (broadcastInDim S2x4096x2048 ![0, 1, 2] bcast_S1x1x2048_S2x4096x2048_0_1_2 (broadcastInDim S1x1x2048 ![2] bcast_S2048_S1x1x2048_2 a3)))
    (broadcastInDim S2x4096x2048 ![0, 1, 2] bcast_S2x1x2048_S2x4096x2048_0_1_2 (addf (broadcastInDim S2x1x2048 ![] bcast_S_S2x1x2048 (constant S_ .f32 0x3F800000#32)) a2)))
    (broadcastInDim S2x4096x2048 ![0, 1, 2] bcast_S2x1x2048_S2x4096x2048_0_1_2 a1)

theorem hid_at (a0 : FVec Ideal S2x4096x2048 .f32) (a1 a2 : FVec Ideal S2x1x2048 .f32) (a3 : FVec Ideal S2048 .f32) (b : Fin 2) (s : Fin 4096) (e : Fin 2048) :
    hid a0 a1 a2 a3 (ix3 b s e) = Inp.modulated (fun f => a0 (ix3 b s f)) (fun f => a3 (ix1 f)) (fun f => a2 (ix3 b 0 f)) (fun f => a1 (ix3 b 0 f)) e := by
  unfold Inp.modulated
  pointwise [hid]

/-- The projection. -/
def prj (h : FVec Ideal S2x4096x2048 .f32) (w : FVec Ideal S2048x8192 .f32) : FVec Ideal S2x4096x8192 .f32 :=
  Host.dotGeneral dot_S2x4096x2048_S2048x8192_S2x4096x8192_2_0_01_1_n_n none h w
theorem prj_at (h : FVec Ideal S2x4096x2048 .f32) (w : FVec Ideal S2048x8192 .f32) (b : Fin 2) (s : Fin 4096) (C : Fin 8192) :
    prj h w (ix3 b s C) = Inp.proj (fun e => h (ix3 b s e)) (fun e C => w (ix2 e C)) C := by
  unfold Inp.proj
  pointwise [prj]

/-- The query heads after their norm. -/
def qN (X : FVec Ideal S2x4096x16x128 .f32) (w : FVec Ideal S128 .f32) : FVec Ideal S2x4096x16x128 .f32 :=
  mulf (mulf X (broadcastInDim S2x4096x16x128 ![0, 1, 2, 3] bcast_S2x4096x16x1_S2x4096x16x128_0_1_2_3 (Host.rsqrt (addf (Host.divf
    (broadcastInDim S2x4096x16x1 ![0, 1, 2] bcast_S2x4096x16_S2x4096x16x1_0_1_2 (Host.reduceAdd (mulf X X) (constant S_ .f32 0x00000000#32) reducesTo_S2x4096x16x128_S2x4096x16_d3 h_S_))
    (broadcastInDim S2x4096x16x1 ![] bcast_S_S2x4096x16x1 (constant S_ .f32 0x43000000#32))) (broadcastInDim S2x4096x16x1 ![] bcast_S_S2x4096x16x1 (constant S_ .f32 0x358637BD#32))))))
    (broadcastInDim S2x4096x16x128 ![0, 1, 2, 3] bcast_S1x1x1x128_S2x4096x16x128_0_1_2_3 (broadcastInDim S1x1x1x128 ![3] bcast_S128_S1x1x1x128_3 w))
theorem qN_at (X : FVec Ideal S2x4096x16x128 .f32) (w : FVec Ideal S128 .f32) (b : Fin 2) (s : Fin 4096) (h : Fin 16) (d : Fin 128) :
    qN X w (ix4 b s h d) = Inp.headNorm (fun f => X (ix4 b s h f)) (fun f => w (ix1 f)) d := by
  unfold Inp.headNorm
  pointwise [qN]

def qX (p : FVec Ideal S2x4096x8192 .f32) : FVec Ideal S2x4096x16x128 .f32 :=
  shapeCast S2x4096x16x128 (extractStridedSlice S2x4096x2048 ![0, 0, 1024] p slices_S2x4096x8192_S2x4096x2048_0_0_1024) shapeCasts_S2x4096x2048_S2x4096x16x128
theorem qX_at (p : FVec Ideal S2x4096x8192 .f32) (b : Fin 2) (s : Fin 4096) (h : Fin 16) (d : Fin 128) :
    qX p (ix4 b s h d) = p (ix3 b s ⟨1024 + (h * 128 + d), by omega⟩) := by
  pointwise [qX]

section
variable (n : FVec Ideal S2x4096x16x128 .f32) (co si : FVec Ideal S4096x2x32 .f32)
/-- One half of each axis's columns. -/
def qa : FVec Ideal S2x4096x16x2x32 .f32 :=
  shapeCast S2x4096x16x2x32 (extractStridedSlice S2x4096x16x2x1x32 ![0, 0, 0, 0, 0, 0] (shapeCast S2x4096x16x2x2x32 n shapeCasts_S2x4096x16x128_S2x4096x16x2x2x32)
    slices_S2x4096x16x2x2x32_S2x4096x16x2x1x32_0_0_0_0_0_0) shapeCasts_S2x4096x16x2x1x32_S2x4096x16x2x32
def qb : FVec Ideal S2x4096x16x2x32 .f32 :=
  shapeCast S2x4096x16x2x32 (extractStridedSlice S2x4096x16x2x1x32 ![0, 0, 0, 0, 1, 0] (shapeCast S2x4096x16x2x2x32 n shapeCasts_S2x4096x16x128_S2x4096x16x2x2x32)
    slices_S2x4096x16x2x2x32_S2x4096x16x2x1x32_0_0_0_0_1_0) shapeCasts_S2x4096x16x2x1x32_S2x4096x16x2x32
variable (b : Fin 2) (s : Fin 4096) (h : Fin 16) (a : Fin 2) (f : Fin 32)
theorem qa_at : qa n (ix5 b s h a f) = n (ix4 b s h ⟨a * 64 + f, by omega⟩) := by
  pointwise [qa]
theorem qb_at : qb n (ix5 b s h a f) = n (ix4 b s h ⟨a * 64 + 32 + f, by omega⟩) := by
  pointwise [qb]
/-- A table over positions, for every batch and head. -/
def qt (A : FVec Ideal S4096x2x32 .f32) : FVec Ideal S2x4096x16x2x32 .f32 :=
  broadcastInDim S2x4096x16x2x32 ![0, 1, 2, 3, 4] bcast_S1x4096x1x2x32_S2x4096x16x2x32_0_1_2_3_4 (broadcastInDim S1x4096x1x2x32 ![1, 3, 4] bcast_S4096x2x32_S1x4096x1x2x32_1_3_4 A)
theorem qt_at (A : FVec Ideal S4096x2x32 .f32) : qt A (ix5 b s h a f) = A (ix3 s a f) := by
  pointwise [qt]
def qJ (L R : FVec Ideal S2x4096x16x2x32 .f32) : FVec Ideal S2x4096x2048 .f32 :=
  shapeCast S2x4096x2048 (shapeCast S2x4096x16x128 (concatenate S2x4096x16x2x2x32 4
    [⟨S2x4096x16x2x1x32, broadcastInDim S2x4096x16x2x1x32 ![0, 1, 2, 3, 5] bcast_S2x4096x16x2x32_S2x4096x16x2x1x32_0_1_2_3_5 L⟩,
     ⟨S2x4096x16x2x1x32, broadcastInDim S2x4096x16x2x1x32 ![0, 1, 2, 3, 5] bcast_S2x4096x16x2x32_S2x4096x16x2x1x32_0_1_2_3_5 R⟩]
    concatenates_S2x4096x16x2x1x32_S2x4096x16x2x1x32_S2x4096x16x2x2x32_d4) shapeCasts_S2x4096x16x2x2x32_S2x4096x16x128) shapeCasts_S2x4096x16x128_S2x4096x2048
theorem qJ_at (L R : FVec Ideal S2x4096x16x2x32 .f32) (d : Fin 128) :
    qJ L R (ix3 b s ⟨h * 128 + d, by omega⟩) = if (d : ℕ) % 64 < 32 then L (ix5 b s h ⟨d / 64, by omega⟩ ⟨d % 32, by omega⟩)
      else R (ix5 b s h ⟨d / 64, by omega⟩ ⟨d % 32, by omega⟩) := by
  pointwise [qJ]
  by_cases hd : (d : ℕ) % 64 < 32
  · rw [dif_pos (by omega), if_pos hd]
    exact congrArg₂ (fun (a : Fin 2) (f : Fin 32) => L (ix5 b s h a f)) (Fin.ext (by dsimp only; omega)) (Fin.ext (by dsimp only; omega))
  · rw [dif_neg (by omega), if_neg hd]
    exact congrArg₂ (fun (a : Fin 2) (f : Fin 32) => R (ix5 b s h a f)) (Fin.ext (by dsimp only; omega)) (Fin.ext (by dsimp only; omega))
/-- The heads turned, side by side. -/
def qR : FVec Ideal S2x4096x2048 .f32 :=
  qJ (subf (mulf (qa n) (qt co)) (mulf (qb n) (qt si))) (addf (mulf (qb n) (qt co)) (mulf (qa n) (qt si)))
theorem qR_at (d : Fin 128) : qR n co si (ix3 b s ⟨h * 128 + d, by omega⟩)
    = Inp.rotated (fun d => n (ix4 b s h d)) (fun a f => co (ix3 s a f)) (fun a f => si (ix3 s a f)) d := by
  have ea := qa_at n b s h ⟨d / 64, by omega⟩ ⟨d % 32, by omega⟩
  have eb := qb_at n b s h ⟨d / 64, by omega⟩ ⟨d % 32, by omega⟩
  have ec := qt_at b s h ⟨d / 64, by omega⟩ ⟨d % 32, by omega⟩ co
  have es := qt_at b s h ⟨d / 64, by omega⟩ ⟨d % 32, by omega⟩ si
  unfold qR Inp.rotated
  rw [qJ_at]
  generalize qa n = qA at *
  generalize qb n = qB at *
  generalize qt co = qC at *
  generalize qt si = qS at *
  by_cases hd : (d : ℕ) % 64 < 32
  · rw [if_pos hd, if_pos hd]
    refine (show _ = qA _ * qC _ - qB _ * qS _ from rfl).trans ?_
    rw [ea, eb, ec, es]
    exact congrArg₂ (fun u v : Fin 128 => n (ix4 b s h u) * _ - n (ix4 b s h v) * _) (Fin.ext (by dsimp only; omega)) (Fin.ext (by dsimp only; omega))
  · rw [if_neg hd, if_neg hd]
    refine (show _ = qB _ * qC _ + qA _ * qS _ from rfl).trans ?_
    rw [ea, eb, ec, es]
    exact congrArg₂ (fun u v : Fin 128 => n (ix4 b s h u) * _ + n (ix4 b s h v) * _) (Fin.ext (by dsimp only; omega)) (Fin.ext (by dsimp only; omega))
end

/-- The key heads after their norm. -/
def kN (X : FVec Ideal S2x4096x4x128 .f32) (w : FVec Ideal S128 .f32) : FVec Ideal S2x4096x4x128 .f32 :=
  mulf (mulf X (broadcastInDim S2x4096x4x128 ![0, 1, 2, 3] bcast_S2x4096x4x1_S2x4096x4x128_0_1_2_3 (Host.rsqrt (addf (Host.divf
    (broadcastInDim S2x4096x4x1 ![0, 1, 2] bcast_S2x4096x4_S2x4096x4x1_0_1_2 (Host.reduceAdd (mulf X X) (constant S_ .f32 0x00000000#32) reducesTo_S2x4096x4x128_S2x4096x4_d3 h_S_))
    (broadcastInDim S2x4096x4x1 ![] bcast_S_S2x4096x4x1 (constant S_ .f32 0x43000000#32))) (broadcastInDim S2x4096x4x1 ![] bcast_S_S2x4096x4x1 (constant S_ .f32 0x358637BD#32))))))
    (broadcastInDim S2x4096x4x128 ![0, 1, 2, 3] bcast_S1x1x1x128_S2x4096x4x128_0_1_2_3 (broadcastInDim S1x1x1x128 ![3] bcast_S128_S1x1x1x128_3 w))
theorem kN_at (X : FVec Ideal S2x4096x4x128 .f32) (w : FVec Ideal S128 .f32) (b : Fin 2) (s : Fin 4096) (h : Fin 4) (d : Fin 128) :
    kN X w (ix4 b s h d) = Inp.headNorm (fun f => X (ix4 b s h f)) (fun f => w (ix1 f)) d := by
  unfold Inp.headNorm
  pointwise [kN]

def kX (p : FVec Ideal S2x4096x8192 .f32) : FVec Ideal S2x4096x4x128 .f32 :=
  shapeCast S2x4096x4x128 (extractStridedSlice S2x4096x512 ![0, 0, 3072] p slices_S2x4096x8192_S2x4096x512_0_0_3072) shapeCasts_S2x4096x512_S2x4096x4x128
theorem kX_at (p : FVec Ideal S2x4096x8192 .f32) (b : Fin 2) (s : Fin 4096) (h : Fin 4) (d : Fin 128) :
    kX p (ix4 b s h d) = p (ix3 b s ⟨3072 + (h * 128 + d), by omega⟩) := by
  pointwise [kX]

section
variable (n : FVec Ideal S2x4096x4x128 .f32) (co si : FVec Ideal S4096x2x32 .f32)
/-- One half of each axis's columns. -/
def ka : FVec Ideal S2x4096x4x2x32 .f32 :=
  shapeCast S2x4096x4x2x32 (extractStridedSlice S2x4096x4x2x1x32 ![0, 0, 0, 0, 0, 0] (shapeCast S2x4096x4x2x2x32 n shapeCasts_S2x4096x4x128_S2x4096x4x2x2x32)
    slices_S2x4096x4x2x2x32_S2x4096x4x2x1x32_0_0_0_0_0_0) shapeCasts_S2x4096x4x2x1x32_S2x4096x4x2x32
def kb : FVec Ideal S2x4096x4x2x32 .f32 :=
  shapeCast S2x4096x4x2x32 (extractStridedSlice S2x4096x4x2x1x32 ![0, 0, 0, 0, 1, 0] (shapeCast S2x4096x4x2x2x32 n shapeCasts_S2x4096x4x128_S2x4096x4x2x2x32)
    slices_S2x4096x4x2x2x32_S2x4096x4x2x1x32_0_0_0_0_1_0) shapeCasts_S2x4096x4x2x1x32_S2x4096x4x2x32
variable (b : Fin 2) (s : Fin 4096) (h : Fin 4) (a : Fin 2) (f : Fin 32)
theorem ka_at : ka n (ix5 b s h a f) = n (ix4 b s h ⟨a * 64 + f, by omega⟩) := by
  pointwise [ka]
theorem kb_at : kb n (ix5 b s h a f) = n (ix4 b s h ⟨a * 64 + 32 + f, by omega⟩) := by
  pointwise [kb]
/-- A table over positions, for every batch and head. -/
def kt (A : FVec Ideal S4096x2x32 .f32) : FVec Ideal S2x4096x4x2x32 .f32 :=
  broadcastInDim S2x4096x4x2x32 ![0, 1, 2, 3, 4] bcast_S1x4096x1x2x32_S2x4096x4x2x32_0_1_2_3_4 (broadcastInDim S1x4096x1x2x32 ![1, 3, 4] bcast_S4096x2x32_S1x4096x1x2x32_1_3_4 A)
theorem kt_at (A : FVec Ideal S4096x2x32 .f32) : kt A (ix5 b s h a f) = A (ix3 s a f) := by
  pointwise [kt]
def kJ (L R : FVec Ideal S2x4096x4x2x32 .f32) : FVec Ideal S2x4096x512 .f32 :=
  shapeCast S2x4096x512 (shapeCast S2x4096x4x128 (concatenate S2x4096x4x2x2x32 4
    [⟨S2x4096x4x2x1x32, broadcastInDim S2x4096x4x2x1x32 ![0, 1, 2, 3, 5] bcast_S2x4096x4x2x32_S2x4096x4x2x1x32_0_1_2_3_5 L⟩,
     ⟨S2x4096x4x2x1x32, broadcastInDim S2x4096x4x2x1x32 ![0, 1, 2, 3, 5] bcast_S2x4096x4x2x32_S2x4096x4x2x1x32_0_1_2_3_5 R⟩]
    concatenates_S2x4096x4x2x1x32_S2x4096x4x2x1x32_S2x4096x4x2x2x32_d4) shapeCasts_S2x4096x4x2x2x32_S2x4096x4x128) shapeCasts_S2x4096x4x128_S2x4096x512
theorem kJ_at (L R : FVec Ideal S2x4096x4x2x32 .f32) (d : Fin 128) :
    kJ L R (ix3 b s ⟨h * 128 + d, by omega⟩) = if (d : ℕ) % 64 < 32 then L (ix5 b s h ⟨d / 64, by omega⟩ ⟨d % 32, by omega⟩)
      else R (ix5 b s h ⟨d / 64, by omega⟩ ⟨d % 32, by omega⟩) := by
  pointwise [kJ]
  by_cases hd : (d : ℕ) % 64 < 32
  · rw [dif_pos (by omega), if_pos hd]
    exact congrArg₂ (fun (a : Fin 2) (f : Fin 32) => L (ix5 b s h a f)) (Fin.ext (by dsimp only; omega)) (Fin.ext (by dsimp only; omega))
  · rw [dif_neg (by omega), if_neg hd]
    exact congrArg₂ (fun (a : Fin 2) (f : Fin 32) => R (ix5 b s h a f)) (Fin.ext (by dsimp only; omega)) (Fin.ext (by dsimp only; omega))
/-- The heads turned, side by side. -/
def kR : FVec Ideal S2x4096x512 .f32 :=
  kJ (subf (mulf (ka n) (kt co)) (mulf (kb n) (kt si))) (addf (mulf (kb n) (kt co)) (mulf (ka n) (kt si)))
theorem kR_at (d : Fin 128) : kR n co si (ix3 b s ⟨h * 128 + d, by omega⟩)
    = Inp.rotated (fun d => n (ix4 b s h d)) (fun a f => co (ix3 s a f)) (fun a f => si (ix3 s a f)) d := by
  have ea := ka_at n b s h ⟨d / 64, by omega⟩ ⟨d % 32, by omega⟩
  have eb := kb_at n b s h ⟨d / 64, by omega⟩ ⟨d % 32, by omega⟩
  have ec := kt_at b s h ⟨d / 64, by omega⟩ ⟨d % 32, by omega⟩ co
  have es := kt_at b s h ⟨d / 64, by omega⟩ ⟨d % 32, by omega⟩ si
  unfold kR Inp.rotated
  rw [kJ_at]
  generalize ka n = qA at *
  generalize kb n = qB at *
  generalize kt co = qC at *
  generalize kt si = qS at *
  by_cases hd : (d : ℕ) % 64 < 32
  · rw [if_pos hd, if_pos hd]
    refine (show _ = qA _ * qC _ - qB _ * qS _ from rfl).trans ?_
    rw [ea, eb, ec, es]
    exact congrArg₂ (fun u v : Fin 128 => n (ix4 b s h u) * _ - n (ix4 b s h v) * _) (Fin.ext (by dsimp only; omega)) (Fin.ext (by dsimp only; omega))
  · rw [if_neg hd, if_neg hd]
    refine (show _ = qB _ * qC _ + qA _ * qS _ from rfl).trans ?_
    rw [ea, eb, ec, es]
    exact congrArg₂ (fun u v : Fin 128 => n (ix4 b s h u) * _ + n (ix4 b s h v) * _) (Fin.ext (by dsimp only; omega)) (Fin.ext (by dsimp only; omega))
end

/-- The positions' angles: axis by axis, frequency by frequency. -/
def ang : FVec Ideal S4096x2x32 .f32 :=
  mulf (broadcastInDim S4096x2x32 ![0, 1, 2] bcast_S4096x2x1_S4096x2x32_0_1_2 (broadcastInDim S4096x2x1 ![0, 1] bcast_S4096x2_S4096x2x1_0_1
      (sitofp .f32 (concatenate S4096x2 1
        [⟨S4096x1, broadcastInDim S4096x1 ![0] bcast_S4096_S4096x1_0 (shapeCast S4096 (broadcastInDim S64x64 ![0] bcast_S64_S64x64_0 (iotaInDim S64 32 0)) shapeCasts_S64x64_S4096)⟩,
         ⟨S4096x1, broadcastInDim S4096x1 ![0] bcast_S4096_S4096x1_0 (shapeCast S4096 (broadcastInDim S64x64 ![0, 1] bcast_S1x64_S64x64_0_1
            (shapeCast S1x64 (iotaInDim S64 32 0) shapeCasts_S64_S1x64)) shapeCasts_S64x64_S4096)⟩] concatenates_S4096x1_S4096x1_S4096x2_d1))))
    (broadcastInDim S4096x2x32 ![0, 1, 2] bcast_S1x1x32_S4096x2x32_0_1_2 (broadcastInDim S1x1x32 ![2] bcast_S32_S1x1x32_2
      (Host.powf (broadcastInDim S32 ![] bcast_S_S32 (constant S_ .f32 0x461C4000#32))
        (Host.divf (Host.negf (sitofp .f32 (iotaInDim S32 32 0))) (broadcastInDim S32 ![] bcast_S_S32 (constant S_ .f32 0x42000000#32))))))

/-- The logistic function of a whole array. -/
def gate (a : FVec Ideal S2x4096x2048 .f32) : FVec Ideal S2x4096x2048 .f32 :=
  Host.divf (broadcastInDim S2x4096x2048 ![] bcast_S_S2x4096x2048 (constant S_ .f32 0x3F800000#32))
    (addf (broadcastInDim S2x4096x2048 ![] bcast_S_S2x4096x2048 (constant S_ .f32 0x3F800000#32)) (Host.exp (Host.negf a)))
theorem gate_at (a : FVec Ideal S2x4096x2048 .f32) (b : Fin 2) (s : Fin 4096) (C : Fin 2048) : gate a (ix3 b s C) = Ideal.logistic (a (ix3 b s C)) := by
  pointwise [gate]
  rfl

/-- The columns side by side. -/
def cat (u : FVec Ideal S2x4096x1024 .f32) (q : FVec Ideal S2x4096x2048 .f32) (k v : FVec Ideal S2x4096x512 .f32) (gf ga : FVec Ideal S2x4096x2048 .f32) :
    FVec Ideal S8192x8192 .bf16 :=
  truncf .bf16 (shapeCast S8192x8192 (concatenate S2x4096x8192 2 [⟨S2x4096x1024, u⟩, ⟨S2x4096x2048, q⟩, ⟨S2x4096x512, k⟩, ⟨S2x4096x512, v⟩,
    ⟨S2x4096x2048, gf⟩, ⟨S2x4096x2048, ga⟩]
    concatenates_S2x4096x1024_S2x4096x2048_S2x4096x512_S2x4096x512_S2x4096x2048_S2x4096x2048_S2x4096x8192_d2) shapeCasts_S2x4096x8192_S8192x8192) bitsLt_bf16_f32

section
variable (u : FVec Ideal S2x4096x1024 .f32) (q : FVec Ideal S2x4096x2048 .f32) (k v : FVec Ideal S2x4096x512 .f32) (gf ga : FVec Ideal S2x4096x2048 .f32)
  (b : Fin 2) (s : Fin 4096)
theorem cat_u (C : Fin 8192) (x : Fin 1024) (h : (C : ℕ) = x) : cat u q k v gf ga (ix2 (⟨b * 4096 + s, by omega⟩ : Fin 8192) C) = u (ix3 b s x) := by
  pointwise [cat]
  rw [dif_pos (by omega)]
  exact congrArg (fun z => u (ix3 b s z)) (Fin.ext (by dsimp only; omega))
theorem cat_q (C : Fin 8192) (x : Fin 2048) (h : (C : ℕ) = 1024 + x) : cat u q k v gf ga (ix2 (⟨b * 4096 + s, by omega⟩ : Fin 8192) C) = q (ix3 b s x) := by
  pointwise [cat]
  rw [dif_neg (by omega), dif_pos (by omega)]
  exact congrArg (fun z => q (ix3 b s z)) (Fin.ext (by dsimp only; omega))
theorem cat_k (C : Fin 8192) (x : Fin 512) (h : (C : ℕ) = 3072 + x) : cat u q k v gf ga (ix2 (⟨b * 4096 + s, by omega⟩ : Fin 8192) C) = k (ix3 b s x) := by
  pointwise [cat]
  rw [dif_neg (by omega), dif_neg (by omega), dif_pos (by omega)]
  exact congrArg (fun z => k (ix3 b s z)) (Fin.ext (by dsimp only; omega))
theorem cat_v (C : Fin 8192) (x : Fin 512) (h : (C : ℕ) = 3584 + x) : cat u q k v gf ga (ix2 (⟨b * 4096 + s, by omega⟩ : Fin 8192) C) = v (ix3 b s x) := by
  pointwise [cat]
  rw [dif_neg (by omega), dif_neg (by omega), dif_neg (by omega), dif_pos (by omega)]
  exact congrArg (fun z => v (ix3 b s z)) (Fin.ext (by dsimp only; omega))
theorem cat_f (C : Fin 8192) (x : Fin 2048) (h : (C : ℕ) = 4096 + x) : cat u q k v gf ga (ix2 (⟨b * 4096 + s, by omega⟩ : Fin 8192) C) = gf (ix3 b s x) := by
  pointwise [cat]
  rw [dif_neg (by omega), dif_neg (by omega), dif_neg (by omega), dif_neg (by omega), dif_pos (by omega)]
  exact congrArg (fun z => gf (ix3 b s z)) (Fin.ext (by dsimp only; omega))
theorem cat_a (C : Fin 8192) (x : Fin 2048) (h : (C : ℕ) = 6144 + x) : cat u q k v gf ga (ix2 (⟨b * 4096 + s, by omega⟩ : Fin 8192) C) = ga (ix3 b s x) := by
  pointwise [cat]
  rw [dif_neg (by omega), dif_neg (by omega), dif_neg (by omega), dif_neg (by omega), dif_neg (by omega)]
  exact congrArg (fun z => ga (ix3 b s z)) (Fin.ext (by dsimp only; omega))
end

section
variable (p : FVec Ideal S2x4096x8192 .f32) (qw kw : FVec Ideal S128 .f32) (co si : FVec Ideal S4096x2x32 .f32) (b : Fin 2) (s : Fin 4096)
/-- A block of the projection's columns. -/
def cu : FVec Ideal S2x4096x1024 .f32 := extractStridedSlice S2x4096x1024 ![0, 0, 0] p slices_S2x4096x8192_S2x4096x1024_0_0_0
def cv : FVec Ideal S2x4096x512 .f32 := extractStridedSlice S2x4096x512 ![0, 0, 3584] p slices_S2x4096x8192_S2x4096x512_0_0_3584
def cf : FVec Ideal S2x4096x2048 .f32 := extractStridedSlice S2x4096x2048 ![0, 0, 4096] p slices_S2x4096x8192_S2x4096x2048_0_0_4096
def ca : FVec Ideal S2x4096x2048 .f32 := extractStridedSlice S2x4096x2048 ![0, 0, 6144] p slices_S2x4096x8192_S2x4096x2048_0_0_6144
theorem cu_at (x : Fin 1024) : cu p (ix3 b s x) = p (ix3 b s ⟨x, by omega⟩) := by pointwise [cu]
theorem cv_at (x : Fin 512) : cv p (ix3 b s x) = p (ix3 b s ⟨3584 + x, by omega⟩) := by pointwise [cv]
theorem cf_at (x : Fin 2048) : cf p (ix3 b s x) = p (ix3 b s ⟨4096 + x, by omega⟩) := by pointwise [cf]
theorem ca_at (x : Fin 2048) : ca p (ix3 b s x) = p (ix3 b s ⟨6144 + x, by omega⟩) := by pointwise [ca]
def scl (q : FVec Ideal S2x4096x2048 .f32) : FVec Ideal S2x4096x2048 .f32 :=
  mulf q (broadcastInDim S2x4096x2048 ![] bcast_S_S2x4096x2048 (constant S_ .f32 0x3E0293EE#32))
theorem scl_at (q : FVec Ideal S2x4096x2048 .f32) (x : Fin 2048) : scl q (ix3 b s x) = q (ix3 b s x) * Ideal.ofBits FTy.f32 0x3E0293EE#32 := by
  pointwise [scl]

/-- The reference's result from its projection. -/
def fin : FVec Ideal S8192x8192 .bf16 :=
  cat (cu p) (scl (qR (qN (qX p) qw) co si)) (kR (kN (kX p) kw) co si) (cv p) (gate (cf p)) (gate (ca p))

theorem fin_at (C : Fin 8192) : fin p qw kw co si (ix2 (⟨b * 4096 + s, by omega⟩ : Fin 8192) C)
    = Inp.out (fun C => p (ix3 b s C)) (fun d => qw (ix1 d)) (fun d => kw (ix1 d)) (fun a f => co (ix3 s a f)) (fun a f => si (ix3 s a f)) C := by
  unfold fin
  by_cases h1 : (C : ℕ) < 1024
  · rw [Inp.out_u _ _ _ _ _ _ h1, cat_u _ _ _ _ _ _ b s C ⟨C, h1⟩ rfl, cu_at]
  by_cases h2 : (C : ℕ) < 3072
  · rw [Inp.out_q _ _ _ _ _ _ (C / 128 * 128) ⟨C % 128, by omega⟩ (by omega) (by dsimp only; omega) (by omega) (by omega) (by omega),
      cat_q _ _ _ _ _ _ b s C ⟨((⟨(C - 1024) / 128, by omega⟩ : Fin 16) : ℕ) * 128 + (⟨C % 128, by omega⟩ : Fin 128), by dsimp only; omega⟩ (by dsimp only; omega),
      scl_at, qR_at]
    have e : (fun d => qN (qX p) qw (ix4 b s (⟨(C - 1024) / 128, by omega⟩ : Fin 16) d))
        = Inp.headNorm (fun f => p (ix3 b s ⟨C / 128 * 128 + f, by omega⟩)) (fun d => qw (ix1 d)) := by
      funext d
      rw [qN_at]
      refine congrArg (fun z => Inp.headNorm z _ d) (funext fun f => (qX_at p b s _ f).trans ?_)
      exact congrArg (fun z => p (ix3 b s z)) (Fin.ext (by dsimp only; omega))
    rw [e]
  by_cases h3 : (C : ℕ) < 3584
  · rw [Inp.out_k _ _ _ _ _ _ (C / 128 * 128) ⟨C % 128, by omega⟩ (by omega) (by dsimp only; omega) (by omega) (by omega) (by omega),
      cat_k _ _ _ _ _ _ b s C ⟨((⟨(C - 3072) / 128, by omega⟩ : Fin 4) : ℕ) * 128 + (⟨C % 128, by omega⟩ : Fin 128), by dsimp only; omega⟩ (by dsimp only; omega),
      kR_at]
    have e : (fun d => kN (kX p) kw (ix4 b s (⟨(C - 3072) / 128, by omega⟩ : Fin 4) d))
        = Inp.headNorm (fun f => p (ix3 b s ⟨C / 128 * 128 + f, by omega⟩)) (fun d => kw (ix1 d)) := by
      funext d
      rw [kN_at]
      refine congrArg (fun z => Inp.headNorm z _ d) (funext fun f => (kX_at p b s _ f).trans ?_)
      exact congrArg (fun z => p (ix3 b s z)) (Fin.ext (by dsimp only; omega))
    rw [e]
  by_cases h4 : (C : ℕ) < 4096
  · rw [Inp.out_v _ _ _ _ _ _ (by omega) h4, cat_v _ _ _ _ _ _ b s C ⟨C - 3584, by omega⟩ (by dsimp only; omega), cv_at]
    exact congrArg (fun z => p (ix3 b s z)) (Fin.ext (by dsimp only; omega))
  rw [Inp.out_g _ _ _ _ _ _ (by omega)]
  by_cases h5 : (C : ℕ) < 6144
  · rw [cat_f _ _ _ _ _ _ b s C ⟨C - 4096, by omega⟩ (by dsimp only; omega), gate_at, cf_at]
    exact congrArg (fun z => Ideal.logistic (p (ix3 b s z))) (Fin.ext (by dsimp only; omega))
  · rw [cat_a _ _ _ _ _ _ b s C ⟨C - 6144, by omega⟩ (by dsimp only; omega), gate_at, ca_at]
    exact congrArg (fun z => Ideal.logistic (p (ix3 b s z))) (Fin.ext (by dsimp only; omega))
end

/-- The reference's result from its argument arrays. -/
def ref (a0 : FVec Ideal S2x4096x2048 .f32) (a1 a2 : FVec Ideal S2x1x2048 .f32) (a3 : FVec Ideal S2048 .f32) (a4 : FVec Ideal S2048x8192 .f32)
    (a5 a6 : FVec Ideal S128 .f32) : FVec Ideal S8192x8192 .bf16 :=
  fin (prj (hid a0 a1 a2 a3) a4) a5 a6 (Host.cos ang) (Host.sin ang)

theorem res_eq (m : (ℓ : Loc nD τ sig) → Buf (Elt Ideal) ℓ) (c : Dev nD) : Cert.InProjRefIdeal.Value.res_main_v138 m c
    = ref (m ((c.tc : Thread nD τ).loc main_arg0)) (m ((c.tc : Thread nD τ).loc main_arg1)) (m ((c.tc : Thread nD τ).loc main_arg2))
        (m ((c.tc : Thread nD τ).loc main_arg3)) (m ((c.tc : Thread nD τ).loc main_arg4)) (m ((c.tc : Thread nD τ).loc main_arg5))
        (m ((c.tc : Thread nD τ).loc main_arg6)) := by
  unfold Cert.InProjRefIdeal.Value.res_main_v138
  rfl

end Cert.InProjRefIdeal.Inp
-- ==== Proof.InpClaims.lean ====
module

public import proofs.«01_k».proof.Defs
public import proofs.«01_k».proof.Proof.Gen.InProj.Frame
public import proofs.«01_k».proof.Proof.InpPoint
public import proofs.«01_k».proof.Proof.InpRef
public import Idealize.ShloMosaic.Lib.Quiescent

/-! # The claims about the input projection -/

@[expose] public section

set_option maxRecDepth 16384
noncomputable section
open Idealize.ShloMosaic Idealize.ShloMosaic.TcCoe Idealize.SL.Sem

namespace Cert.Proof.InpClaims

theorem frame_p : Cert.quiescent_InProj := fun m ρ _ => Cert.InProj.Gen.frame m ρ
theorem frame_pi : Cert.quiescent_InProjIdeal := fun m ρ _ => Cert.InProjIdeal.Gen.frame m ρ
theorem frame_ri : Cert.quiescent_InProjRefIdeal := fun m ρ _ =>
  (θ_run Cert.InProjRefIdeal.defs _ _).mono (fun r h => ⟨fun c => (h c).2,
      Idealize.ShloMosaic.sem_eq_zero_of_no_sems (by decide) r.2⟩)
    (Cert.InProjRefIdeal.Value.run (F := Ideal) m ρ)

/-- Both programs take their angles from the same operations. -/
theorem ang_eq : Cert.InProjRefIdeal.Inp.ang = Cert.InProjIdeal.Inp.ang := rfl

/-- The kernel's array and the reference's hold the same rows' projections, normed, turned and gated. -/
theorem algebraic : Cert.algebraic_InProjIdeal_InProjRefIdeal := by
  intro m ρ m' ρ' hpre hagree
  refine ⟨_, Cert.InProjIdeal.Value.run_blocks m ρ, ?_⟩
  refine (θ_run Cert.InProjRefIdeal.defs _ _).mono (fun _ h c => ⟨((h c).1.trans (Cert.InProjRefIdeal.Inp.res_eq m' c)).trans ?_, (h c).2⟩)
    (Cert.InProjRefIdeal.Value.run (F := Ideal) m' ρ')
  obtain ⟨e0, e1, e2, e3, e4, e5, e6⟩ := hagree c
  rw [e0, e1, e2, e3, e4, e5, e6, Cert.InProjIdeal.Inp.final m c]
  funext i
  obtain ⟨R, hR⟩ : ∃ R : Fin 8192, R = i 0 := ⟨_, rfl⟩
  obtain ⟨C, hC⟩ : ∃ C : Fin 8192, C = i 1 := ⟨_, rfl⟩
  have hi : i = ix2 (⟨(Cert.InProjIdeal.Inp.bR R : ℕ) * 4096 + Cert.InProjIdeal.Inp.sR R, by dsimp only; omega⟩ : Fin 8192) C := by
    funext a
    fin_cases a
    · exact hR.symm.trans (Fin.ext (show (R : ℕ) = (R : ℕ) / 4096 * 4096 + (R : ℕ) % 4096 by omega))
    · exact hC.symm
  refine Eq.trans (congrArg _ hi) ((Cert.InProjRefIdeal.Inp.fin_at _ _ _ _ _ _ _ C).trans ?_)
  rw [ang_eq]
  show _ = Cert.InProjIdeal.Inp.entry m c (Cert.InProjIdeal.Inp.bR (i 0)) (Cert.InProjIdeal.Inp.sR (i 0)) (i 1)
  rw [← hR, ← hC]
  unfold Cert.InProjIdeal.Inp.entry
  refine congrArg (fun p => Inp.out p _ _ _ _ C) (funext fun D => (Cert.InProjRefIdeal.Inp.prj_at _ _ _ _ D).trans ?_)
  unfold Cert.InProjIdeal.Inp.projd
  refine congrArg (fun h => Inp.proj h _ D) (funext fun e => ?_)
  exact Cert.InProjRefIdeal.Inp.hid_at _ _ _ _ _ _ e

end Cert.Proof.InpClaims
-- ==== Proof.MrgBlk.lean ====
module

public import proofs.«01_k».proof.Proof.Gen.MergeIdeal.Value
public import Idealize.ShloMosaic.Lib.Pipeline.ValueKit

/-! # The merge of the two branches: what the kernel's array holds -/

@[expose] public section

set_option maxRecDepth 16384
noncomputable section

namespace Mrg
open Idealize.ShloMosaic

/-- The gate's value: the logistic function of an entry. -/
def sg (x : EReal) : EReal := Ideal.div (Ideal.ofBits .f32 0x3F800000#32) (Ideal.ofBits .f32 0x3F800000#32 + Ideal.exp (-x))

/-- The merged branches' entry: each branch's product with its weights, times its gate. -/
def out (yf : (⟨2, ![8192, 1024]⟩ : Shape).Idx → EReal) (ya gf ga : (⟨2, ![8192, 2048]⟩ : Shape).Idx → EReal)
    (wf : (⟨2, ![1024, 2048]⟩ : Shape).Idx → EReal) (wa : (⟨2, ![2048, 2048]⟩ : Shape).Idx → EReal) (R : Fin 8192) (C : Fin 2048) : EReal :=
  sg (gf (ix2 R C)) * (∑ e : Fin 1024, yf (ix2 R e) * wf (ix2 e C)) + sg (ga (ix2 R C)) * (∑ e : Fin 2048, ya (ix2 R e) * wa (ix2 e C))

end Mrg

namespace Cert.MergeIdeal.Mrg
open Idealize.ShloMosaic Idealize.ShloMosaic.TcCoe Idealize.SL.Sem
open Cert.MergeIdeal Cert.MergeIdeal.Gen

/-- Which block of each array a grid point reads or writes. -/
theorem idx : ∀ t : Fin cfg0.N,
    win0_0.index t = ![t.val / 4, 0] ∧ win0_1.index t = ![t.val / 4, 0] ∧ win0_2.index t = ![0, t.val % 4]
    ∧ win0_3.index t = ![0, t.val % 4] ∧ win0_4.index t = ![t.val / 4, 8 + t.val % 4] ∧ win0_5.index t = ![t.val / 4, 12 + t.val % 4]
    ∧ win0_6.index t = ![t.val / 4, t.val % 4] :=
  (by decide +kernel : ∀ t : Fin grid0.N, _)

/-- The two gates beside the columns that the merge does not read. -/
def proj (g2 g3 : FVec Ideal S8192x2048 .f32) : FVec Ideal S8192x8192 .bf16 :=
  truncf .bf16 (concatenate S8192x8192 1 [⟨S8192x4096, broadcastInDim S8192x4096 ![] bcast_S_S8192x4096 (constant S_ .f32 0x00000000#32)⟩,
    ⟨S8192x2048, g2⟩, ⟨S8192x2048, g3⟩] concatenates_S8192x4096_S8192x2048_S8192x2048_S8192x8192_d1) bitsLt_bf16_f32

/-- The logistic function of a whole array. -/
def gate (a : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf a)))

theorem gate_at (a : FVec Ideal S8192x2048 .f32) (R : Fin 8192) (C : Fin 2048) : gate a (ix2 R C) = Mrg.sg (a (ix2 R C)) := by
  unfold Mrg.sg
  pointwise [gate]
theorem proj_f (g2 g3 : FVec Ideal S8192x2048 .f32) (R : Fin 8192) (C : Fin 2048) :
    proj g2 g3 (ix2 R (⟨4096 + C, by omega⟩ : Fin 8192)) = g2 (ix2 R C) := by
  pointwise [proj]
theorem proj_a (g2 g3 : FVec Ideal S8192x2048 .f32) (R : Fin 8192) (C : Fin 2048) :
    proj g2 g3 (ix2 R (⟨6144 + C, by omega⟩ : Fin 8192)) = g3 (ix2 R C) := by
  pointwise [proj]
  rw [dif_neg (by omega), dif_neg (by omega)]
  exact congrArg _ (congrArg (ix2 R) (Fin.ext (by dsimp only; omega)))

variable (m : (ℓ : Loc nD τ sig) → Buf (Elt Ideal) ℓ) (c : Dev nD)

theorem V_proj : V m c main_v14 = proj (gate (m ((c : Thread nD τ).loc main_arg2))) (gate (m ((c : Thread nD τ).loc main_arg3))) := by
  unfold V
  after_results
  rfl
theorem V_yf : V m c main_v15 = (m ((c : Thread nD τ).loc main_arg0) : S8192x1024.Idx → EReal) := by
  unfold V
  after_results
  rfl
theorem V_ya : V m c main_v16 = (m ((c : Thread nD τ).loc main_arg1) : S8192x2048.Idx → EReal) := by
  unfold V
  after_results
  rfl
theorem V_wf : V m c main_v17 = (m ((c : Thread nD τ).loc main_arg4) : S1024x2048.Idx → EReal) := by
  unfold V
  after_results
  rfl
theorem V_wa : V m c main_v18 = (m ((c : Thread nD τ).loc main_arg5) : S2048x2048.Idx → EReal) := by
  unfold V
  after_results
  rfl

section
variable (t : Fin 32)
theorem iblk_0 (r e : Fin 1024) (P : S8192x1024.Idx → EReal) (h : V m c main_v15 = P) :
    iblk m c 0 t (ix2 r e) = P (ix2 (⟨t.val / 4 * 1024 + r, by omega⟩ : Fin 8192) e) := by
  subst h
  blk_ext [iblk, idx t]
theorem iblk_1 (r : Fin 1024) (e : Fin 2048) (P : S8192x2048.Idx → EReal) (h : V m c main_v16 = P) :
    iblk m c 1 t (ix2 r e) = P (ix2 (⟨t.val / 4 * 1024 + r, by omega⟩ : Fin 8192) e) := by
  subst h
  blk_ext [iblk, idx t]
theorem iblk_2 (e : Fin 1024) (x : Fin 512) (P : S1024x2048.Idx → EReal) (h : V m c main_v17 = P) :
    iblk m c 2 t (ix2 e x) = P (ix2 e (⟨t.val % 4 * 512 + x, by omega⟩ : Fin 2048)) := by
  subst h
  blk_ext [iblk, idx t]
theorem iblk_3 (e : Fin 2048) (x : Fin 512) (P : S2048x2048.Idx → EReal) (h : V m c main_v18 = P) :
    iblk m c 3 t (ix2 e x) = P (ix2 e (⟨t.val % 4 * 512 + x, by omega⟩ : Fin 2048)) := by
  subst h
  blk_ext [iblk, idx t]
theorem iblk_4 (r : Fin 1024) (x : Fin 512) (P : FVec Ideal S8192x8192 .bf16) (h : V m c main_v14 = P) :
    iblk m c 4 t (ix2 r x) = P (ix2 (⟨t.val / 4 * 1024 + r, by omega⟩ : Fin 8192) (⟨4096 + (t.val % 4 * 512 + x), by omega⟩ : Fin 8192)) := by
  subst h
  blk_ext [iblk, idx t]
theorem iblk_5 (r : Fin 1024) (x : Fin 512) (P : FVec Ideal S8192x8192 .bf16) (h : V m c main_v14 = P) :
    iblk m c 5 t (ix2 r x) = P (ix2 (⟨t.val / 4 * 1024 + r, by omega⟩ : Fin 8192) (⟨6144 + (t.val % 4 * 512 + x), by omega⟩ : Fin 8192)) := by
  subst h
  blk_ext [iblk, idx t]
end

/-- The body's result, entry by entry. -/
theorem pay_at (v0 : Vec Ideal S1024x1024 .bf16) (v2 : Vec Ideal S1024x512 .bf16) (v5 : Vec Ideal S1024x2048 .bf16)
    (v7 : Vec Ideal S2048x512 .bf16) (v10 v14 : Vec Ideal S1024x512 .bf16) (r : Fin 1024) (x : Fin 512) :
    k0_pay1 v0 v2 v5 v7 v10 v14 (ix2 r x) = ((v10 (ix2 r x) : EReal) * (∑ e : Fin 1024, (v0 (ix2 r e) : EReal) * v2 (ix2 e x))
      + (v14 (ix2 r x) : EReal) * (∑ e : Fin 2048, (v5 (ix2 r e) : EReal) * v7 (ix2 e x)) : EReal) := by
  pointwise [k0_pay1]

/-- The merged branches of the launched arguments. -/
abbrev merged (R : Fin 8192) (C : Fin 2048) : EReal :=
  Mrg.out (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) R C

/-- What a grid point writes. -/
theorem point (t : Fin 32) (r : Fin 1024) (x : Fin 512) :
    out0_6 (iblk m c 0 t) (iblk m c 1 t) (iblk m c 2 t) (iblk m c 3 t) (iblk m c 4 t) (iblk m c 5 t) (ix2 r x)
      = merged m c (⟨t.val / 4 * 1024 + r, by omega⟩ : Fin 8192) (⟨t.val % 4 * 512 + x, by omega⟩ : Fin 2048) := by
  unfold out0_6
  frame_out
  rw [pay_at]
  unfold merged Mrg.out
  simp only [iblk_0 m c t _ _ _ (V_yf m c), iblk_1 m c t _ _ _ (V_ya m c), iblk_2 m c t _ _ _ (V_wf m c), iblk_3 m c t _ _ _ (V_wa m c),
    iblk_4 m c t _ _ _ (V_proj m c), iblk_5 m c t _ _ _ (V_proj m c)]
  have hf := proj_f (gate (m ((c : Thread nD τ).loc main_arg2))) (gate (m ((c : Thread nD τ).loc main_arg3)))
    (⟨t.val / 4 * 1024 + r, by omega⟩ : Fin 8192) (⟨t.val % 4 * 512 + x, by omega⟩ : Fin 2048)
  have ha := proj_a (gate (m ((c : Thread nD τ).loc main_arg2))) (gate (m ((c : Thread nD τ).loc main_arg3)))
    (⟨t.val / 4 * 1024 + r, by omega⟩ : Fin 8192) (⟨t.val % 4 * 512 + x, by omega⟩ : Fin 2048)
  rw [gate_at] at hf ha
  rw [← hf, ← ha]

/-- The same at a block's own index, for the row and the column that it stands for. -/
theorem point_at (t : Fin 32) (y : S1024x512.Idx) (R : Fin 8192) (C : Fin 2048) (hR : (R : ℕ) = t.val / 4 * 1024 + y 0)
    (hC : (C : ℕ) = t.val % 4 * 512 + y 1) :
    out0_6 (iblk m c 0 t) (iblk m c 1 t) (iblk m c 2 t) (iblk m c 3 t) (iblk m c 4 t) (iblk m c 5 t) y = merged m c R C := by
  have hy : y = ix2 (y 0 : Fin 1024) (y 1 : Fin 512) := by funext a; fin_cases a <;> rfl
  have eR : (⟨t.val / 4 * 1024 + (y 0 : Fin 1024), by omega⟩ : Fin 8192) = R := Fin.ext hR.symm
  have eC : (⟨t.val % 4 * 512 + (y 1 : Fin 512), by omega⟩ : Fin 2048) = C := Fin.ext hC.symm
  rw [hy, ← eR, ← eC]
  exact point m c t _ _

/-- The array after the run. -/
theorem final : (dats m 0 c).arrAt 6 cfg0.N = fun i => merged m c (i 0) (i 1) := by
  refine (dats m 0 c).arrAt_eq_of_covers 6 _ (by decide +kernel) fun t hf y => ?_
  blk_simp
  rw [after0_6]
  refine point_at m c t _ _ _ ?_ ?_
  all_goals (blk_simp [idx t] <;> try omega)

end Cert.MergeIdeal.Mrg
-- ==== Proof.MrgRef.lean ====
module

public import proofs.«01_k».proof.Proof.MrgBlk
public import proofs.«01_k».proof.Proof.Gen.MergeRefIdeal.Run

/-! # The merge of the two branches: the reference, entry by entry -/

@[expose] public section

set_option maxRecDepth 16384
noncomputable section
namespace Cert.MergeRefIdeal.Mrg
open Idealize.ShloMosaic Idealize.ShloMosaic.TcCoe Idealize.SL.Sem
open Cert.MergeRefIdeal Cert.MergeRefIdeal.Gen

/-- The logistic function of a whole array. -/
def gate (a : FVec Ideal S8192x2048 .f32) : FVec Ideal S8192x2048 .f32 :=
  Host.divf (broadcastInDim S8192x2048 ![] bcast_S_S8192x2048 (constant S_ .f32 0x3F800000#32))
    (addf (broadcastInDim S8192x2048 ![] bcast_S_S8192x2048 (constant S_ .f32 0x3F800000#32)) (Host.exp (Host.negf a)))

/-- The reference's result from its argument arrays. -/
def ref (yf : FVec Ideal S8192x1024 .f32) (ya gf ga : FVec Ideal S8192x2048 .f32) (wf : FVec Ideal S1024x2048 .f32)
    (wa : FVec Ideal S2048x2048 .f32) : FVec Ideal S8192x2048 .bf16 :=
  truncf .bf16 (addf (mulf (gate gf) (Host.dotGeneral dot_S8192x1024_S1024x2048_S8192x2048_1_0_0_1_n_n none yf wf : FVec Ideal S8192x2048 .f32))
    (mulf (gate ga) (Host.dotGeneral dot_S8192x2048_S2048x2048_S8192x2048_1_0_0_1_n_n none ya wa : FVec Ideal S8192x2048 .f32))) bitsLt_bf16_f32

theorem gate_at (a : FVec Ideal S8192x2048 .f32) (R : Fin 8192) (C : Fin 2048) : gate a (ix2 R C) = Mrg.sg (a (ix2 R C)) := by
  unfold Mrg.sg
  pointwise [gate]

theorem ref_at (yf : FVec Ideal S8192x1024 .f32) (ya gf ga : FVec Ideal S8192x2048 .f32) (wf : FVec Ideal S1024x2048 .f32)
    (wa : FVec Ideal S2048x2048 .f32) (R : Fin 8192) (C : Fin 2048) : ref yf ya gf ga wf wa (ix2 R C) = Mrg.out yf ya gf ga wf wa R C := by
  unfold Mrg.out
  rw [← gate_at, ← gate_at]
  pointwise [ref]

end Cert.MergeRefIdeal.Mrg
-- ==== Proof.MrgClaims.lean ====
module

public import proofs.«01_k».proof.Defs
public import proofs.«01_k».proof.Proof.Gen.Merge.Frame
public import proofs.«01_k».proof.Proof.MrgRef
public import Idealize.ShloMosaic.Lib.Quiescent

/-! # The claims about the merge -/

@[expose] public section

noncomputable section
open Idealize.ShloMosaic Idealize.ShloMosaic.TcCoe Idealize.SL.Sem

namespace Cert.Proof.MrgClaims

theorem frame_p : Cert.quiescent_Merge := fun m ρ _ => Cert.Merge.Gen.frame m ρ
theorem frame_pi : Cert.quiescent_MergeIdeal := fun m ρ _ => Cert.MergeIdeal.Gen.frame m ρ
theorem frame_ri : Cert.quiescent_MergeRefIdeal := fun m ρ _ =>
  (θ_run Cert.MergeRefIdeal.defs _ _).mono (fun r h => ⟨fun c => (h c).2,
      Idealize.ShloMosaic.sem_eq_zero_of_no_sems (by decide) r.2⟩)
    (Cert.MergeRefIdeal.Value.run (F := Ideal) m ρ)

/-- The kernel's array and the reference's hold the same gated sum of the two products. -/
theorem algebraic : Cert.algebraic_MergeIdeal_MergeRefIdeal := by
  intro m ρ m' ρ' hpre hagree
  refine ⟨_, Cert.MergeIdeal.Value.run_blocks m ρ, ?_⟩
  refine (θ_run Cert.MergeRefIdeal.defs _ _).mono (fun _ h c => ⟨(h c).1.trans ?_, (h c).2⟩)
    (Cert.MergeRefIdeal.Value.run (F := Ideal) m' ρ')
  obtain ⟨e0, e1, e2, e3, e4, e5⟩ := hagree c
  rw [e0, e1, e2, e3, e4, e5, Cert.MergeIdeal.Mrg.final m c]
  funext i
  have hi : i = ix2 (i 0) (i 1) := by funext a; fin_cases a <;> rfl
  rw [hi]
  exact Cert.MergeRefIdeal.Mrg.ref_at _ _ _ _ _ _ _ _

end Cert.Proof.MrgClaims
-- ==== Proof.CmbTrip.lean ====
module

public import proofs.«01_k».proof.Proof.Gen.CombineIdeal.Value
public import Idealize.ShloMosaic.Lib.Pipeline.ValueKit
public import Idealize.ShloMosaic.Lib.Pipeline.ReadBack

/-! # The combine: what the loop over the tokens leaves in the scratch -/

@[expose] public section

set_option maxRecDepth 16384
noncomputable section

namespace Cert.CombineIdeal.Cmb
open Idealize.ShloMosaic Idealize.ShloMosaic.TcCoe Idealize.SL.Sem
open Cert.CombineIdeal Cert.CombineIdeal.Gen

variable (c : Dev nD) (i : grid0.Coords)
  (a1 : Memref sig .tc .vmem S2048x128 .f32) (h1 : a1.IsWhole) (a2 : Memref sig .tc .vmem S2048x128 .f32) (h2 : a2.IsWhole) (a3 : Memref sig .tc .vmem S2048x128 .f32) (h3 : a3.IsWhole)
  (a4 : Memref sig .tc .vmem S2048x128 .f32) (h4 : a4.IsWhole) (a5 : Memref sig .tc .vmem S2048x128 .f32) (h5 : a5.IsWhole) (a6 : Memref sig .tc .vmem S2048x128 .f32) (h6 : a6.IsWhole)
  (a7 : Memref sig .tc .vmem S2048x128 .f32) (h7 : a7.IsWhole) (a8 : Memref sig .tc .vmem S2048x128 .f32) (h8 : a8.IsWhole) (a9 : Memref sig .tc .smem S8x128 .f32) (h9 : a9.IsWhole)
  (a10 : Memref sig .tc .vmem S128x2048 .bf16) (h10 : a10.IsWhole) (a11 : Memref sig .tc .vmem S128x2048 .f32) (h11 : a11.IsWhole) (a12 : Memref sig .tc .vmem S1x1x2048 .f32) (h12 : a12.IsWhole)
  (a13 : Memref sig .tc .vmem S2048x512 .bf16) (h13 : a13.IsWhole) (a14 : Memref sig .tc .vmem S2048x512 .bf16) (h14 : a14.IsWhole) (a15 : Memref sig .tc .vmem S512x2048 .bf16) (h15 : a15.IsWhole)
  (a16 : Memref sig .tc .vmem S128x2048 .f32) (h16 : a16.IsWhole) (a17 : Memref sig .tc .vmem S2048x128 .f32) (h17 : a17.IsWhole)
  (x1 x2 x3 x4 x5 x6 x7 x8 : Vec Ideal S2048x128 .f32) (w : Vec Ideal S8x128 .f32)

/-- The token that a row of the arrays belongs to: sixteen rows each. -/
def tok (y : S2048x128.Idx) : Fin 128 := ⟨(y 0).val / 16, Nat.div_lt_of_lt_mul (y 0).isLt⟩

/-- One entry of the weighted sum of the eight arrays. -/
def acc (y : S2048x128.Idx) : EReal :=
  w (ix2 (0 : Fin 8) (tok y)) * x1 y + w (ix2 (1 : Fin 8) (tok y)) * x2 y + w (ix2 (2 : Fin 8) (tok y)) * x3 y
    + w (ix2 (3 : Fin 8) (tok y)) * x4 y + w (ix2 (4 : Fin 8) (tok y)) * x5 y + w (ix2 (5 : Fin 8) (tok y)) * x6 y
    + w (ix2 (6 : Fin 8) (tok y)) * x7 y + w (ix2 (7 : Fin 8) (tok y)) * x8 y

section
variable (w0 w1 w2 w3 w4 w5 w6 w7 : EReal) (v1 v2 v3 v4 v5 v6 v7 v8 : Vec Ideal S16x128 .f32) (x : S16x128.Idx)
theorem chain0 : k0_pay4 (F := Ideal) (k0_pay2 w0 v1 w1 v2 w2 v3 w3 v4) (k0_pay3 w4 v5) w5 v6 w6 v7 w7 v8 x
    = (w0 * v1 x + w1 * v2 x + w2 * v3 x + w3 * v4 x + w4 * v5 x + w5 * v6 x + w6 * v7 x + w7 * v8 x : EReal) := by
  pointwise [k0_pay4, k0_pay2, k0_pay3]
theorem chain1 : k0_pay9 (F := Ideal) (k0_pay7 (k0_pay5 w0 v1) w1 (k0_pay6 v2) w2 v3 w3 v4 w4 v5 w5 v6 w6 v7) w7 (k0_pay8 v8) x
    = (w0 * v1 x + w1 * v2 x + w2 * v3 x + w3 * v4 x + w4 * v5 x + w5 * v6 x + w6 * v7 x + w7 * v8 x : EReal) := by
  pointwise [k0_pay9, k0_pay7, k0_pay5, k0_pay6, k0_pay8]
theorem chain2 : k0_pay11 (F := Ideal) (k0_pay10 w0 v1 w1 v2 w2 v3 w3 v4) w4 v5 w5 v6 w6 v7 w7 v8 x
    = (w0 * v1 x + w1 * v2 x + w2 * v3 x + w3 * v4 x + w4 * v5 x + w5 * v6 x + w6 * v7 x + w7 * v8 x : EReal) := by
  pointwise [k0_pay11, k0_pay10]
theorem chain3 : k0_pay15 (F := Ideal) (k0_pay13 (k0_pay12 w0 v1) w1 v2 w2 v3 w3 v4 w4 v5 w5 v6 w6 v7) w7 v8 x
    = (w0 * v1 x + w1 * v2 x + w2 * v3 x + w3 * v4 x + w4 * v5 x + w5 * v6 x + w6 * v7 x + w7 * v8 x : EReal) := by
  pointwise [k0_pay15, k0_pay13, k0_pay12]
end

/-- A slab of sixteen rows of one token. -/
theorem slab_at (T : Fin 128) (o : Fin 2 → ℕ) (inb : ∀ a, o a + S16x128.size a ≤ S2048x128.size a) (ho : o = ![16 * T.val, 0])
    (w0 w1 w2 w3 w4 w5 w6 w7 : EReal) (e0 : w0 = w (ix2 (0 : Fin 8) T)) (e1 : w1 = w (ix2 (1 : Fin 8) T)) (e2 : w2 = w (ix2 (2 : Fin 8) T)) (e3 : w3 = w (ix2 (3 : Fin 8) T)) (e4 : w4 = w (ix2 (4 : Fin 8) T)) (e5 : w5 = w (ix2 (5 : Fin 8) T)) (e6 : w6 = w (ix2 (6 : Fin 8) T)) (e7 : w7 = w (ix2 (7 : Fin 8) T)) (x : S16x128.Idx) :
    (w0 * View.ld x1 (Rect.unit o S16x128.size inb) x + w1 * View.ld x2 (Rect.unit o S16x128.size inb) x + w2 * View.ld x3 (Rect.unit o S16x128.size inb) x + w3 * View.ld x4 (Rect.unit o S16x128.size inb) x + w4 * View.ld x5 (Rect.unit o S16x128.size inb) x + w5 * View.ld x6 (Rect.unit o S16x128.size inb) x + w6 * View.ld x7 (Rect.unit o S16x128.size inb) x + w7 * View.ld x8 (Rect.unit o S16x128.size inb) x : EReal)
      = acc x1 x2 x3 x4 x5 x6 x7 x8 w (Rect.emb (s := S2048x128) (Rect.unit (s := S2048x128) o S16x128.size inb) x) := by
  subst ho
  have hx : (x 0).val < 16 := (x 0).isLt
  have hT : tok (Rect.emb (s := S2048x128) (Rect.unit (s := S2048x128) ![16 * T.val, 0] S16x128.size inb) x) = T :=
    Fin.ext (show (16 * T.val + 1 * (x 0).val) / 16 = T.val by omega)
  unfold acc
  rw [hT, e0, e1, e2, e3, e4, e5, e6, e7]
  rfl

/-- One weight read from its table. -/
theorem weight_at (n : Fin 8) (T : Fin 128) (o : Fin 2 → ℕ) (inb : ∀ a, o a + S1x1.size a ≤ S8x128.size a) (ho : o = ![n.val, T.val]) (z : S1x1.Idx) :
    View.ld w (Rect.unit o S1x1.size inb) z = w (ix2 n T) := by
  subst ho
  refine congrArg w (funext fun a => Fin.ext ?_)
  have h0 : (z 0).val < 1 := (z 0).isLt
  have h1 : (z 1).val < 1 := (z 1).isLt
  match a with
  | ⟨0, _⟩ => exact (show n.val + 1 * (z 0).val = n.val by omega)
  | ⟨1, _⟩ => exact (show T.val + 1 * (z 1).val = T.val by omega)

/-- The stores of one trip. -/
abbrev trip (k : Fin k0_t1_loop.trips) : List (View.Piece (Elt Ideal) S2048x128 .f32) :=
  tripL_k0_t1 Variants.none c none i a1 h1 a2 h2 a3 h3 a4 h4 a5 h5 a6 h6 a7 h7 a8 h8 a9 h9 a10 h10 a11 h11 a12 h12 a13 h13 a14 h14 a15 h15 a16 h16 a17 h17 (h1.unread x1) (h2.unread x2) (h3.unread x3) (h4.unread x4) (h5.unread x5) (h6.unread x6) (h7.unread x7) (h8.unread x8) (h9.unread w) k

theorem trip_pieces (k : Fin k0_t1_loop.trips) :
    View.PiecesOf (acc x1 x2 x3 x4 x5 x6 x7 x8 w) (trip c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w k) := by
  have hk : k.val < 32 := Nat.lt_of_lt_of_le k.isLt k0_t1_abs.2.1
  unfold trip tripL_k0_t1 trip_k0_t1
  dsimp only
  sl_unfold_words
  refine ⟨?_, ?_, ?_, ?_, trivial⟩
  · intro x
    refine (chain3 _ _ _ _ _ _ _ _ _ _ _ _ _ _ _ _ x).trans ?_
    simp only [View.readAt_eq_ld, h1.read_unread, h2.read_unread, h3.read_unread, h4.read_unread, h5.read_unread, h6.read_unread, h7.read_unread,
      h8.read_unread, h9.read_unread]
    exact slab_at x1 x2 x3 x4 x5 x6 x7 x8 w (⟨4 * k.val + 3, by omega⟩ : Fin 128) _ _ ((k0_off2_eq k 3).trans (congrArg (fun z => ![z, 0]) (show 64 * k.val + 16 * 3 = 16 * (4 * k.val + 3) by omega))) _ _ _ _ _ _ _ _
      (weight_at w 0 (⟨4 * k.val + 3, by omega⟩ : Fin 128) _ _ (k0_off1_eq k 3) _) (weight_at w 1 (⟨4 * k.val + 3, by omega⟩ : Fin 128) _ _ (k0_off3_eq k 3) _) (weight_at w 2 (⟨4 * k.val + 3, by omega⟩ : Fin 128) _ _ (k0_off4_eq k 3) _) (weight_at w 3 (⟨4 * k.val + 3, by omega⟩ : Fin 128) _ _ (k0_off5_eq k 3) _) (weight_at w 4 (⟨4 * k.val + 3, by omega⟩ : Fin 128) _ _ (k0_off6_eq k 3) _) (weight_at w 5 (⟨4 * k.val + 3, by omega⟩ : Fin 128) _ _ (k0_off7_eq k 3) _) (weight_at w 6 (⟨4 * k.val + 3, by omega⟩ : Fin 128) _ _ (k0_off8_eq k 3) _) (weight_at w 7 (⟨4 * k.val + 3, by omega⟩ : Fin 128) _ _ (k0_off9_eq k 3) _) x
  · intro x
    refine (chain2 _ _ _ _ _ _ _ _ _ _ _ _ _ _ _ _ x).trans ?_
    simp only [View.readAt_eq_ld, h1.read_unread, h2.read_unread, h3.read_unread, h4.read_unread, h5.read_unread, h6.read_unread, h7.read_unread,
      h8.read_unread, h9.read_unread]
    exact slab_at x1 x2 x3 x4 x5 x6 x7 x8 w (⟨4 * k.val + 2, by omega⟩ : Fin 128) _ _ ((k0_off2_eq k 2).trans (congrArg (fun z => ![z, 0]) (show 64 * k.val + 16 * 2 = 16 * (4 * k.val + 2) by omega))) _ _ _ _ _ _ _ _
      (weight_at w 0 (⟨4 * k.val + 2, by omega⟩ : Fin 128) _ _ (k0_off1_eq k 2) _) (weight_at w 1 (⟨4 * k.val + 2, by omega⟩ : Fin 128) _ _ (k0_off3_eq k 2) _) (weight_at w 2 (⟨4 * k.val + 2, by omega⟩ : Fin 128) _ _ (k0_off4_eq k 2) _) (weight_at w 3 (⟨4 * k.val + 2, by omega⟩ : Fin 128) _ _ (k0_off5_eq k 2) _) (weight_at w 4 (⟨4 * k.val + 2, by omega⟩ : Fin 128) _ _ (k0_off6_eq k 2) _) (weight_at w 5 (⟨4 * k.val + 2, by omega⟩ : Fin 128) _ _ (k0_off7_eq k 2) _) (weight_at w 6 (⟨4 * k.val + 2, by omega⟩ : Fin 128) _ _ (k0_off8_eq k 2) _) (weight_at w 7 (⟨4 * k.val + 2, by omega⟩ : Fin 128) _ _ (k0_off9_eq k 2) _) x
  · intro x
    refine (chain1 _ _ _ _ _ _ _ _ _ _ _ _ _ _ _ _ x).trans ?_
    simp only [View.readAt_eq_ld, h1.read_unread, h2.read_unread, h3.read_unread, h4.read_unread, h5.read_unread, h6.read_unread, h7.read_unread,
      h8.read_unread, h9.read_unread]
    exact slab_at x1 x2 x3 x4 x5 x6 x7 x8 w (⟨4 * k.val + 1, by omega⟩ : Fin 128) _ _ ((k0_off2_eq k 1).trans (congrArg (fun z => ![z, 0]) (show 64 * k.val + 16 * 1 = 16 * (4 * k.val + 1) by omega))) _ _ _ _ _ _ _ _
      (weight_at w 0 (⟨4 * k.val + 1, by omega⟩ : Fin 128) _ _ (k0_off1_eq k 1) _) (weight_at w 1 (⟨4 * k.val + 1, by omega⟩ : Fin 128) _ _ (k0_off3_eq k 1) _) (weight_at w 2 (⟨4 * k.val + 1, by omega⟩ : Fin 128) _ _ (k0_off4_eq k 1) _) (weight_at w 3 (⟨4 * k.val + 1, by omega⟩ : Fin 128) _ _ (k0_off5_eq k 1) _) (weight_at w 4 (⟨4 * k.val + 1, by omega⟩ : Fin 128) _ _ (k0_off6_eq k 1) _) (weight_at w 5 (⟨4 * k.val + 1, by omega⟩ : Fin 128) _ _ (k0_off7_eq k 1) _) (weight_at w 6 (⟨4 * k.val + 1, by omega⟩ : Fin 128) _ _ (k0_off8_eq k 1) _) (weight_at w 7 (⟨4 * k.val + 1, by omega⟩ : Fin 128) _ _ (k0_off9_eq k 1) _) x
  · intro x
    refine (chain0 _ _ _ _ _ _ _ _ _ _ _ _ _ _ _ _ x).trans ?_
    simp only [View.readAt_eq_ld, h1.read_unread, h2.read_unread, h3.read_unread, h4.read_unread, h5.read_unread, h6.read_unread, h7.read_unread,
      h8.read_unread, h9.read_unread]
    exact slab_at x1 x2 x3 x4 x5 x6 x7 x8 w (⟨4 * k.val + 0, by omega⟩ : Fin 128) _ _ ((k0_off2_eq k 0).trans (congrArg (fun z => ![z, 0]) (show 64 * k.val + 16 * 0 = 16 * (4 * k.val + 0) by omega))) _ _ _ _ _ _ _ _
      (weight_at w 0 (⟨4 * k.val + 0, by omega⟩ : Fin 128) _ _ (k0_off1_eq k 0) _) (weight_at w 1 (⟨4 * k.val + 0, by omega⟩ : Fin 128) _ _ (k0_off3_eq k 0) _) (weight_at w 2 (⟨4 * k.val + 0, by omega⟩ : Fin 128) _ _ (k0_off4_eq k 0) _) (weight_at w 3 (⟨4 * k.val + 0, by omega⟩ : Fin 128) _ _ (k0_off5_eq k 0) _) (weight_at w 4 (⟨4 * k.val + 0, by omega⟩ : Fin 128) _ _ (k0_off6_eq k 0) _) (weight_at w 5 (⟨4 * k.val + 0, by omega⟩ : Fin 128) _ _ (k0_off7_eq k 0) _) (weight_at w 6 (⟨4 * k.val + 0, by omega⟩ : Fin 128) _ _ (k0_off8_eq k 0) _) (weight_at w 7 (⟨4 * k.val + 0, by omega⟩ : Fin 128) _ _ (k0_off9_eq k 0) _) x

theorem slab_mem (T : ℕ) (o : Fin 2 → ℕ) (inb : ∀ a, o a + S16x128.size a ≤ S2048x128.size a) (ho : o = ![T, 0]) (y : S2048x128.Idx)
    (h : T ≤ (y 0).val ∧ (y 0).val < T + 16) : y ∈ (Rect.unit (s := S2048x128) o S16x128.size inb).set := by
  subst ho
  refine Rect.mem_set_unit.mpr fun a => ?_
  match a with
  | ⟨0, _⟩ => exact h
  | ⟨1, _⟩ => exact ⟨Nat.zero_le _, Nat.lt_of_lt_of_eq (y 1).isLt (Nat.zero_add 128).symm⟩

theorem trip_cover (k : Fin k0_t1_loop.trips) (y : S2048x128.Idx) (hy : 64 * k.val ≤ (y 0).val ∧ (y 0).val < 64 * k.val + 64) :
    ∃ p ∈ trip c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w k, y ∈ p.1.set := by
  unfold trip tripL_k0_t1 trip_k0_t1
  dsimp only
  sl_unfold_words
  by_cases c0 : (y 0).val < 64 * k.val + 16 * 1
  · exact ⟨_, .tail _ (.tail _ (.tail _ (.head _))), slab_mem _ _ (k0_off2_inb k 0) (k0_off2_eq k 0) y ⟨by dsimp only [Fin.val_zero]; omega, by dsimp only [Fin.val_zero]; omega⟩⟩
  by_cases c1 : (y 0).val < 64 * k.val + 16 * 2
  · exact ⟨_, .tail _ (.tail _ (.head _)), slab_mem (64 * k.val + 16 * 1) _ (k0_off2_inb k 1) (k0_off2_eq k 1) y ⟨by omega, by omega⟩⟩
  by_cases c2 : (y 0).val < 64 * k.val + 16 * 3
  · exact ⟨_, .tail _ (.head _), slab_mem (64 * k.val + 16 * 2) _ (k0_off2_inb k 2) (k0_off2_eq k 2) y ⟨by omega, by omega⟩⟩
  · exact ⟨_, .head _, slab_mem (64 * k.val + 16 * 3) _ (k0_off2_inb k 3) (k0_off2_eq k 3) y ⟨by omega, by omega⟩⟩

/-- The stores of the first trips. -/
abbrev stores (n : ℕ) : List (View.Piece (Elt Ideal) S2048x128 .f32) :=
  pb_k0_t1 Variants.none c none i a1 h1 a2 h2 a3 h3 a4 h4 a5 h5 a6 h6 a7 h7 a8 h8 a9 h9 a10 h10 a11 h11 a12 h12 a13 h13 a14 h14 a15 h15 a16 h16 a17 h17 (h1.unread x1) (h2.unread x2) (h3.unread x3) (h4.unread x4) (h5.unread x5) (h6.unread x6) (h7.unread x7) (h8.unread x8) (h9.unread w) n

theorem trips_eq : k0_t1_loop.trips = 32 := by decide +kernel

theorem stores_spec (n : ℕ) (hn : n ≤ 32) :
    (∀ p ∈ stores c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w n, ∀ x : p.1.shape.Idx, p.2 x = acc x1 x2 x3 x4 x5 x6 x7 x8 w (p.1.emb x))
    ∧ ∀ y : S2048x128.Idx, (y 0).val < 64 * n → ∃ p ∈ stores c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w n, y ∈ p.1.set := by
  induction n with
  | zero => exact ⟨fun p hp => absurd hp List.not_mem_nil, fun y hy => absurd hy (by omega)⟩
  | succ n ih =>
    obtain ⟨h1', h2'⟩ := ih (by omega)
    have hk : n < k0_t1_loop.trips := by rw [trips_eq]; omega
    have e := pb_k0_t1_succ Variants.none c none i a1 h1 a2 h2 a3 h3 a4 h4 a5 h5 a6 h6 a7 h7 a8 h8 a9 h9 a10 h10 a11 h11 a12 h12 a13 h13 a14 h14 a15 h15 a16 h16 a17 h17 (h1.unread x1) (h2.unread x2) (h3.unread x3) (h4.unread x4) (h5.unread x5) (h6.unread x6) (h7.unread x7) (h8.unread x8) (h9.unread w) ⟨n, hk⟩
    unfold stores
    rw [show n + 1 = (⟨n, hk⟩ : Fin k0_t1_loop.trips).val + 1 from rfl, e]
    refine ⟨fun p hp => ?_, fun y hy => ?_⟩
    · rcases List.mem_append.mp hp with hp | hp
      · exact (trip_pieces c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w ⟨n, hk⟩).mem p hp
      · exact h1' p hp
    · by_cases hlt : (y 0).val < 64 * n
      · obtain ⟨p, hp, hm⟩ := h2' y hlt
        exact ⟨p, List.mem_append_right _ hp, hm⟩
      · obtain ⟨p, hp, hm⟩ := trip_cover c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w ⟨n, hk⟩ y ⟨by dsimp only; omega, by dsimp only at hy ⊢; omega⟩
        exact ⟨p, List.mem_append_left _ hp, hm⟩

/-- What the scratch array holds after all the trips. -/
theorem scratch_at (n : ℕ) (hn : n = 32) (y : S2048x128.Idx) :
    View.canon (stores c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w n) y = acc x1 x2 x3 x4 x5 x6 x7 x8 w y := by
  subst hn
  obtain ⟨h1', h2'⟩ := stores_spec c i a1 h1 a2 h2 a3 h3 a4 h4 a5 h5 a6 h6 a7 h7 a8 h8 a9 h9 a10 h10 a11 h11 a12 h12 a13 h13 a14 h14 a15 h15 a16 h16 a17 h17 x1 x2 x3 x4 x5 x6 x7 x8 w 32 (Nat.le_refl 32)
  exact View.canon_apply_of_pieces _ _ h1' y (h2' y (y 0).isLt)

end Cert.CombineIdeal.Cmb
-- ==== Proof.CmbBlk.lean ====
module

public import proofs.«01_k».proof.Proof.CmbTrip

/-! # The combine: what the kernel's array holds -/

@[expose] public section

set_option maxRecDepth 16384
noncomputable section

namespace Cmb
open Idealize.ShloMosaic

/-- The shared expert's entry. -/
def shared (h : (⟨2, ![8192, 2048]⟩ : Shape).Idx → EReal) (wg wu : (⟨2, ![2048, 512]⟩ : Shape).Idx → EReal)
    (wd : (⟨2, ![512, 2048]⟩ : Shape).Idx → EReal) (R : Fin 8192) (C : Fin 2048) : EReal :=
  ∑ f : Fin 512, (((∑ e : Fin 2048, h (ix2 R e) * wg (ix2 e f)) * Ideal.logistic (∑ e : Fin 2048, h (ix2 R e) * wg (ix2 e f)))
    * (∑ e : Fin 2048, h (ix2 R e) * wu (ix2 e f))) * wd (ix2 f C)

/-- The routed experts' entry: the eight outputs under their weights. -/
def routed (y : (⟨3, ![8, 8192, 2048]⟩ : Shape).Idx → EReal) (w : (⟨2, ![8192, 8]⟩ : Shape).Idx → EReal) (R : Fin 8192) (C : Fin 2048) : EReal :=
  w (ix2 R (0 : Fin 8)) * y (ix3 (0 : Fin 8) R C) + w (ix2 R (1 : Fin 8)) * y (ix3 (1 : Fin 8) R C) + w (ix2 R (2 : Fin 8)) * y (ix3 (2 : Fin 8) R C) + w (ix2 R (3 : Fin 8)) * y (ix3 (3 : Fin 8) R C) + w (ix2 R (4 : Fin 8)) * y (ix3 (4 : Fin 8) R C) + w (ix2 R (5 : Fin 8)) * y (ix3 (5 : Fin 8) R C) + w (ix2 R (6 : Fin 8)) * y (ix3 (6 : Fin 8) R C) + w (ix2 R (7 : Fin 8)) * y (ix3 (7 : Fin 8) R C)

/-- The layer's result: the residual plus the gated sum of the routed and the shared experts. -/
def out (y : (⟨3, ![8, 8192, 2048]⟩ : Shape).Idx → EReal) (w : (⟨2, ![8192, 8]⟩ : Shape).Idx → EReal)
    (h : (⟨2, ![8192, 2048]⟩ : Shape).Idx → EReal) (x : (⟨3, ![2, 4096, 2048]⟩ : Shape).Idx → EReal)
    (g : (⟨3, ![2, 1, 2048]⟩ : Shape).Idx → EReal) (wg wu : (⟨2, ![2048, 512]⟩ : Shape).Idx → EReal)
    (wd : (⟨2, ![512, 2048]⟩ : Shape).Idx → EReal) (R : Fin 8192) (C : Fin 2048) : EReal :=
  x (ix3 (⟨R.val / 4096, by omega⟩ : Fin 2) (⟨R.val % 4096, by omega⟩ : Fin 4096) C)
    + g (ix3 (⟨R.val / 4096, by omega⟩ : Fin 2) (0 : Fin 1) C) * (routed y w R C + shared h wg wu wd R C)

end Cmb

namespace Cert.CombineIdeal.Cmb
open Idealize.ShloMosaic Idealize.ShloMosaic.TcCoe Idealize.SL.Sem
open Cert.CombineIdeal Cert.CombineIdeal.Gen

/-- Sixteen column blocks side by side. -/
def cat (f0 f1 f2 f3 f4 f5 f6 f7 f8 f9 f10 f11 f12 f13 f14 f15 : FVec Ideal S128x128 .f32) : FVec Ideal S128x2048 .f32 :=
  concatenate S128x2048 1 [⟨S128x128, f0⟩, ⟨S128x128, f1⟩, ⟨S128x128, f2⟩, ⟨S128x128, f3⟩, ⟨S128x128, f4⟩, ⟨S128x128, f5⟩, ⟨S128x128, f6⟩, ⟨S128x128, f7⟩, ⟨S128x128, f8⟩, ⟨S128x128, f9⟩, ⟨S128x128, f10⟩, ⟨S128x128, f11⟩, ⟨S128x128, f12⟩, ⟨S128x128, f13⟩, ⟨S128x128, f14⟩, ⟨S128x128, f15⟩]
    concatenates_S128x128_S128x128_S128x128_S128x128_S128x128_S128x128_S128x128_S128x128_S128x128_S128x128_S128x128_S128x128_S128x128_S128x128_S128x128_S128x128_S128x2048_d1

/-- A strided read of an array. -/
abbrev rd (G : FVec Ideal S2048x128 .f32) (B : LoadRect S2048x128) (j : B.shape.Idx) : EReal := G (B.idx j)

/-- Sixteen strided reads of the scratch array side by side. -/
def lay (G : FVec Ideal S2048x128 .f32) : FVec Ideal S128x2048 .f32 :=
  cat (rd G { off := ![0, 0], size := ![128, 128], stride := ![16, 1], inb := inb_S2048x128_S128x128_0_0_s_16_1 })
    (rd G { off := ![1, 0], size := ![128, 128], stride := ![16, 1], inb := inb_S2048x128_S128x128_1_0_s_16_1 })
    (rd G { off := ![2, 0], size := ![128, 128], stride := ![16, 1], inb := inb_S2048x128_S128x128_2_0_s_16_1 })
    (rd G { off := ![3, 0], size := ![128, 128], stride := ![16, 1], inb := inb_S2048x128_S128x128_3_0_s_16_1 })
    (rd G { off := ![4, 0], size := ![128, 128], stride := ![16, 1], inb := inb_S2048x128_S128x128_4_0_s_16_1 })
    (rd G { off := ![5, 0], size := ![128, 128], stride := ![16, 1], inb := inb_S2048x128_S128x128_5_0_s_16_1 })
    (rd G { off := ![6, 0], size := ![128, 128], stride := ![16, 1], inb := inb_S2048x128_S128x128_6_0_s_16_1 })
    (rd G { off := ![7, 0], size := ![128, 128], stride := ![16, 1], inb := inb_S2048x128_S128x128_7_0_s_16_1 })
    (rd G { off := ![8, 0], size := ![128, 128], stride := ![16, 1], inb := inb_S2048x128_S128x128_8_0_s_16_1 })
    (rd G { off := ![9, 0], size := ![128, 128], stride := ![16, 1], inb := inb_S2048x128_S128x128_9_0_s_16_1 })
    (rd G { off := ![10, 0], size := ![128, 128], stride := ![16, 1], inb := inb_S2048x128_S128x128_10_0_s_16_1 })
    (rd G { off := ![11, 0], size := ![128, 128], stride := ![16, 1], inb := inb_S2048x128_S128x128_11_0_s_16_1 })
    (rd G { off := ![12, 0], size := ![128, 128], stride := ![16, 1], inb := inb_S2048x128_S128x128_12_0_s_16_1 })
    (rd G { off := ![13, 0], size := ![128, 128], stride := ![16, 1], inb := inb_S2048x128_S128x128_13_0_s_16_1 })
    (rd G { off := ![14, 0], size := ![128, 128], stride := ![16, 1], inb := inb_S2048x128_S128x128_14_0_s_16_1 })
    (rd G { off := ![15, 0], size := ![128, 128], stride := ![16, 1], inb := inb_S2048x128_S128x128_15_0_s_16_1 })

theorem stride_at (L : List (View.Piece (Elt Ideal) S2048x128 .f32)) (G : FVec Ideal S2048x128 .f32) (h : ∀ y, View.canon L y = G y)
    (B : LoadRect S2048x128) : (View.whole cc0_scratch0).readCov L B = rd G B := by
  refine (View.readCov_eq_canon' _ L B).trans (funext fun j => h _)

theorem lay_stores (L : List (View.Piece (Elt Ideal) S2048x128 .f32)) (G : FVec Ideal S2048x128 .f32) (h : ∀ y, View.canon L y = G y) :
    cat ((View.whole cc0_scratch0).readCov L { off := ![0, 0], size := ![128, 128], stride := ![16, 1], inb := inb_S2048x128_S128x128_0_0_s_16_1 })
    ((View.whole cc0_scratch0).readCov L { off := ![1, 0], size := ![128, 128], stride := ![16, 1], inb := inb_S2048x128_S128x128_1_0_s_16_1 })
    ((View.whole cc0_scratch0).readCov L { off := ![2, 0], size := ![128, 128], stride := ![16, 1], inb := inb_S2048x128_S128x128_2_0_s_16_1 })
    ((View.whole cc0_scratch0).readCov L { off := ![3, 0], size := ![128, 128], stride := ![16, 1], inb := inb_S2048x128_S128x128_3_0_s_16_1 })
    ((View.whole cc0_scratch0).readCov L { off := ![4, 0], size := ![128, 128], stride := ![16, 1], inb := inb_S2048x128_S128x128_4_0_s_16_1 })
    ((View.whole cc0_scratch0).readCov L { off := ![5, 0], size := ![128, 128], stride := ![16, 1], inb := inb_S2048x128_S128x128_5_0_s_16_1 })
    ((View.whole cc0_scratch0).readCov L { off := ![6, 0], size := ![128, 128], stride := ![16, 1], inb := inb_S2048x128_S128x128_6_0_s_16_1 })
    ((View.whole cc0_scratch0).readCov L { off := ![7, 0], size := ![128, 128], stride := ![16, 1], inb := inb_S2048x128_S128x128_7_0_s_16_1 })
    ((View.whole cc0_scratch0).readCov L { off := ![8, 0], size := ![128, 128], stride := ![16, 1], inb := inb_S2048x128_S128x128_8_0_s_16_1 })
    ((View.whole cc0_scratch0).readCov L { off := ![9, 0], size := ![128, 128], stride := ![16, 1], inb := inb_S2048x128_S128x128_9_0_s_16_1 })
    ((View.whole cc0_scratch0).readCov L { off := ![10, 0], size := ![128, 128], stride := ![16, 1], inb := inb_S2048x128_S128x128_10_0_s_16_1 })
    ((View.whole cc0_scratch0).readCov L { off := ![11, 0], size := ![128, 128], stride := ![16, 1], inb := inb_S2048x128_S128x128_11_0_s_16_1 })
    ((View.whole cc0_scratch0).readCov L { off := ![12, 0], size := ![128, 128], stride := ![16, 1], inb := inb_S2048x128_S128x128_12_0_s_16_1 })
    ((View.whole cc0_scratch0).readCov L { off := ![13, 0], size := ![128, 128], stride := ![16, 1], inb := inb_S2048x128_S128x128_13_0_s_16_1 })
    ((View.whole cc0_scratch0).readCov L { off := ![14, 0], size := ![128, 128], stride := ![16, 1], inb := inb_S2048x128_S128x128_14_0_s_16_1 })
    ((View.whole cc0_scratch0).readCov L { off := ![15, 0], size := ![128, 128], stride := ![16, 1], inb := inb_S2048x128_S128x128_15_0_s_16_1 }) = lay G :=
  (congr (congr (congr (congr (congr (congr (congr (congr (congr (congr (congr (congr (congr (congr (congr (congrArg cat (stride_at L G h { off := ![0, 0], size := ![128, 128], stride := ![16, 1], inb := inb_S2048x128_S128x128_0_0_s_16_1 }))
    (stride_at L G h { off := ![1, 0], size := ![128, 128], stride := ![16, 1], inb := inb_S2048x128_S128x128_1_0_s_16_1 }))
    (stride_at L G h { off := ![2, 0], size := ![128, 128], stride := ![16, 1], inb := inb_S2048x128_S128x128_2_0_s_16_1 }))
    (stride_at L G h { off := ![3, 0], size := ![128, 128], stride := ![16, 1], inb := inb_S2048x128_S128x128_3_0_s_16_1 }))
    (stride_at L G h { off := ![4, 0], size := ![128, 128], stride := ![16, 1], inb := inb_S2048x128_S128x128_4_0_s_16_1 }))
    (stride_at L G h { off := ![5, 0], size := ![128, 128], stride := ![16, 1], inb := inb_S2048x128_S128x128_5_0_s_16_1 }))
    (stride_at L G h { off := ![6, 0], size := ![128, 128], stride := ![16, 1], inb := inb_S2048x128_S128x128_6_0_s_16_1 }))
    (stride_at L G h { off := ![7, 0], size := ![128, 128], stride := ![16, 1], inb := inb_S2048x128_S128x128_7_0_s_16_1 }))
    (stride_at L G h { off := ![8, 0], size := ![128, 128], stride := ![16, 1], inb := inb_S2048x128_S128x128_8_0_s_16_1 }))
    (stride_at L G h { off := ![9, 0], size := ![128, 128], stride := ![16, 1], inb := inb_S2048x128_S128x128_9_0_s_16_1 }))
    (stride_at L G h { off := ![10, 0], size := ![128, 128], stride := ![16, 1], inb := inb_S2048x128_S128x128_10_0_s_16_1 }))
    (stride_at L G h { off := ![11, 0], size := ![128, 128], stride := ![16, 1], inb := inb_S2048x128_S128x128_11_0_s_16_1 }))
    (stride_at L G h { off := ![12, 0], size := ![128, 128], stride := ![16, 1], inb := inb_S2048x128_S128x128_12_0_s_16_1 }))
    (stride_at L G h { off := ![13, 0], size := ![128, 128], stride := ![16, 1], inb := inb_S2048x128_S128x128_13_0_s_16_1 }))
    (stride_at L G h { off := ![14, 0], size := ![128, 128], stride := ![16, 1], inb := inb_S2048x128_S128x128_14_0_s_16_1 }))
    (stride_at L G h { off := ![15, 0], size := ![128, 128], stride := ![16, 1], inb := inb_S2048x128_S128x128_15_0_s_16_1 }))

theorem box_inb (s : Fin 16) : ∀ a, (![128, 128] : Fin 2 → ℕ) a = 0 ∨ (![s.val, 0] : Fin 2 → ℕ) a + (![16, 1] : Fin 2 → ℕ) a * ((![128, 128] : Fin 2 → ℕ) a - 1) < S2048x128.size a := by
  revert s; decide +kernel

/-- The rows of one place in each token. -/
abbrev box (s : Fin 16) : LoadRect S2048x128 := { off := ![s.val, 0], size := ![128, 128], stride := ![16, 1], inb := box_inb s }

theorem lay_at (G : FVec Ideal S2048x128 .f32) (r : Fin 128) (x : Fin 2048) :
    lay G (ix2 r x) = G (ix2 (⟨16 * r + x / 128, by omega⟩ : Fin 2048) (⟨x % 128, by omega⟩ : Fin 128)) := by
  refine (show lay G (ix2 r x) = concatenate S128x2048 1 (List.ofFn fun s : Fin 16 => (⟨S128x128, rd G (box s)⟩ : (s : Shape) × (s.Idx → EReal)))
    concatenates_S128x128_S128x128_S128x128_S128x128_S128x128_S128x128_S128x128_S128x128_S128x128_S128x128_S128x128_S128x128_S128x128_S128x128_S128x128_S128x128_S128x2048_d1
    (ix2 r x) from rfl).trans ?_
  refine (concatenate_ofFn_apply (t := S128x2048) (s₁ := S128x128) 1 (fun s : Fin 16 => rd G (box s)) _ rfl 128 rfl (ix2 r x) ⟨x.val / 128, by omega⟩ rfl
    (ix2 r (⟨x.val % 128, by omega⟩ : Fin 128)) rfl fun b hb => ?_).trans ?_
  · match b with
    | ⟨0, _⟩ => rfl
    | ⟨1, _⟩ => exact absurd rfl hb
  · refine congrArg G (funext fun a => Fin.ext ?_)
    match a with
    | ⟨0, _⟩ => exact (show x.val / 128 + 16 * r.val = 16 * r.val + x.val / 128 by omega)
    | ⟨1, _⟩ => exact (show 0 + 1 * (x.val % 128) = x.val % 128 by omega)

/-- Which block of each array a grid point reads or writes. -/
theorem idx : ∀ t : Fin cfg0.N,
    win0_0.index t = ![0 * 64 + t.val, 0] ∧ win0_1.index t = ![1 * 64 + t.val, 0]
    ∧ win0_2.index t = ![2 * 64 + t.val, 0] ∧ win0_3.index t = ![3 * 64 + t.val, 0]
    ∧ win0_4.index t = ![4 * 64 + t.val, 0] ∧ win0_5.index t = ![5 * 64 + t.val, 0]
    ∧ win0_6.index t = ![6 * 64 + t.val, 0] ∧ win0_7.index t = ![7 * 64 + t.val, 0]
    ∧ win0_8.index t = ![0, t.val] ∧ win0_9.index t = ![t.val, 0] ∧ win0_10.index t = ![t.val, 0] ∧ win0_11.index t = ![t.val / 32, 0, 0]
    ∧ win0_12.index t = ![0, 0] ∧ win0_13.index t = ![0, 0] ∧ win0_14.index t = ![0, 0] ∧ win0_15.index t = ![t.val, 0] :=
  (by decide +kernel : ∀ t : Fin grid0.N, _)

/-- The experts' outputs in rows of 128 lanes, with the rows that nothing reads. -/
def ytk (y : FVec Ideal S8x8192x2048 .f32) : FVec Ideal S1056768x128 .f32 :=
  concatenate S1056768x128 0 [⟨S1048576x128, shapeCast S1048576x128 y shapeCasts_S8x8192x2048_S1048576x128⟩,
    ⟨S8192x128, broadcastInDim S8192x128 ![] bcast_S_S8192x128 (constant S_ .f32 0x00000000#32)⟩]
    concatenates_S1048576x128_S8192x128_S1056768x128_d0

/-- The weights, one row for each expert chosen. -/
def wT (w : FVec Ideal S8192x8 .f32) : FVec Ideal S8x8192 .f32 := transpose S8x8192 [1, 0] w transposes_S8192x8_S8x8192_1_0

/-- The tokens as rows. -/
def rows (x : FVec Ideal S2x4096x2048 .f32) : FVec Ideal S8192x2048 .f32 := shapeCast S8192x2048 x shapeCasts_S2x4096x2048_S8192x2048

theorem wT_at (w : FVec Ideal S8192x8 .f32) (k : Fin 8) (R : Fin 8192) : wT w (ix2 k R) = w (ix2 R k) := by
  pointwise [wT]

theorem rows_at (x : FVec Ideal S2x4096x2048 .f32) (R : Fin 8192) (C : Fin 2048) :
    rows x (ix2 R C) = x (ix3 (⟨R.val / 4096, by omega⟩ : Fin 2) (⟨R.val % 4096, by omega⟩ : Fin 4096) C) := by
  pointwise [rows]

theorem ytk_at (y : FVec Ideal S8x8192x2048 .f32) (k : Fin 8) (t : Fin 64) (r : Fin 2048) (l : Fin 128) :
    ytk y (ix2 (⟨(k.val * 64 + t.val) * 2048 + r, by omega⟩ : Fin 1056768) l)
      = y (ix3 k (⟨t.val * 128 + r.val / 16, by omega⟩ : Fin 8192) (⟨r.val % 16 * 128 + l, by omega⟩ : Fin 2048)) := by
  pointwise [ytk]
  rw [dif_pos (by omega)]
  exact congrArg₂ (fun a b => y (ix3 k a b)) (Fin.ext (by dsimp only; omega)) (Fin.ext (by dsimp only; omega))

/-- The last lines of the body. -/
theorem pay1_at (v14 v32 : FVec Ideal S128x2048 .f32) (v33 : Vec Ideal S128x2048 .f32) (v35 : Vec Ideal S1x1x2048 .f32) (r : Fin 128) (x : Fin 2048) :
    k0_pay1 v14 v32 v33 v35 (ix2 r x)
      = ((v33 (ix2 r x) : EReal) + (v35 (ix3 (0 : Fin 1) (0 : Fin 1) x) : EReal) * ((v32 (ix2 r x) : EReal) + v14 (ix2 r x)) : EReal) := by
  pointwise [k0_pay1]

/-- The shared expert's lines. -/
theorem pay14_at (h : Vec Ideal S128x2048 .bf16) (wg wu : Vec Ideal S2048x512 .bf16) (wd : Vec Ideal S512x2048 .bf16) (r : Fin 128) (x : Fin 2048) :
    k0_pay14 h wg wu wd (ix2 r x)
      = (∑ f : Fin 512, (((∑ e : Fin 2048, (h (ix2 r e) : EReal) * wg (ix2 e f)) * Ideal.logistic (∑ e : Fin 2048, (h (ix2 r e) : EReal) * wg (ix2 e f)))
        * (∑ e : Fin 2048, (h (ix2 r e) : EReal) * wu (ix2 e f))) * (wd (ix2 f x) : EReal) : EReal) := by
  pointwise [k0_pay14]

variable (m : (ℓ : Loc nD τ sig) → Buf (Elt Ideal) ℓ) (c : Dev nD)

theorem V_y : V m c main_v2 = ytk (m ((c : Thread nD τ).loc main_arg0)) := by
  unfold V
  after_results
  rfl
theorem V_w : V m c main_v3 = wT (m ((c : Thread nD τ).loc main_arg1)) := by
  unfold V
  after_results
  rfl
theorem V_h : V m c main_v4 = (m ((c : Thread nD τ).loc main_arg2) : S8192x2048.Idx → EReal) := by
  unfold V
  after_results
  rfl
theorem V_x : V m c main_v5 = rows (m ((c : Thread nD τ).loc main_arg3)) := by
  unfold V
  after_results
  rfl
theorem V_g : V m c main_v6 = (m ((c : Thread nD τ).loc main_arg5) : S2048x512.Idx → EReal) := by
  unfold V
  after_results
  rfl
theorem V_u : V m c main_v7 = (m ((c : Thread nD τ).loc main_arg6) : S2048x512.Idx → EReal) := by
  unfold V
  after_results
  rfl
theorem V_d : V m c main_v8 = (m ((c : Thread nD τ).loc main_arg7) : S512x2048.Idx → EReal) := by
  unfold V
  after_results
  rfl
theorem V_m : V m c main_arg4 = (m ((c : Thread nD τ).loc main_arg4) : S2x1x2048.Idx → EReal) := by
  unfold V
  after_results

section
variable (t : Fin 64)
theorem iblk_0 (r : Fin 2048) (l : Fin 128) (P : S1056768x128.Idx → EReal) (h : V m c main_v2 = P) :
    iblk m c 0 t (ix2 r l) = P (ix2 (⟨(0 * 64 + t.val) * 2048 + r, by omega⟩ : Fin 1056768) l) := by
  subst h
  blk_ext [iblk, idx t]
theorem iblk_1 (r : Fin 2048) (l : Fin 128) (P : S1056768x128.Idx → EReal) (h : V m c main_v2 = P) :
    iblk m c 1 t (ix2 r l) = P (ix2 (⟨(1 * 64 + t.val) * 2048 + r, by omega⟩ : Fin 1056768) l) := by
  subst h
  blk_ext [iblk, idx t]
theorem iblk_2 (r : Fin 2048) (l : Fin 128) (P : S1056768x128.Idx → EReal) (h : V m c main_v2 = P) :
    iblk m c 2 t (ix2 r l) = P (ix2 (⟨(2 * 64 + t.val) * 2048 + r, by omega⟩ : Fin 1056768) l) := by
  subst h
  blk_ext [iblk, idx t]
theorem iblk_3 (r : Fin 2048) (l : Fin 128) (P : S1056768x128.Idx → EReal) (h : V m c main_v2 = P) :
    iblk m c 3 t (ix2 r l) = P (ix2 (⟨(3 * 64 + t.val) * 2048 + r, by omega⟩ : Fin 1056768) l) := by
  subst h
  blk_ext [iblk, idx t]
theorem iblk_4 (r : Fin 2048) (l : Fin 128) (P : S1056768x128.Idx → EReal) (h : V m c main_v2 = P) :
    iblk m c 4 t (ix2 r l) = P (ix2 (⟨(4 * 64 + t.val) * 2048 + r, by omega⟩ : Fin 1056768) l) := by
  subst h
  blk_ext [iblk, idx t]
theorem iblk_5 (r : Fin 2048) (l : Fin 128) (P : S1056768x128.Idx → EReal) (h : V m c main_v2 = P) :
    iblk m c 5 t (ix2 r l) = P (ix2 (⟨(5 * 64 + t.val) * 2048 + r, by omega⟩ : Fin 1056768) l) := by
  subst h
  blk_ext [iblk, idx t]
theorem iblk_6 (r : Fin 2048) (l : Fin 128) (P : S1056768x128.Idx → EReal) (h : V m c main_v2 = P) :
    iblk m c 6 t (ix2 r l) = P (ix2 (⟨(6 * 64 + t.val) * 2048 + r, by omega⟩ : Fin 1056768) l) := by
  subst h
  blk_ext [iblk, idx t]
theorem iblk_7 (r : Fin 2048) (l : Fin 128) (P : S1056768x128.Idx → EReal) (h : V m c main_v2 = P) :
    iblk m c 7 t (ix2 r l) = P (ix2 (⟨(7 * 64 + t.val) * 2048 + r, by omega⟩ : Fin 1056768) l) := by
  subst h
  blk_ext [iblk, idx t]
theorem iblk_8 (k : Fin 8) (r : Fin 128) (P : S8x8192.Idx → EReal) (h : V m c main_v3 = P) :
    iblk m c 8 t (ix2 k r) = P (ix2 k (⟨t.val * 128 + r, by omega⟩ : Fin 8192)) := by
  subst h
  blk_ext [iblk, idx t]
theorem iblk_9 (r : Fin 128) (e : Fin 2048) (P : S8192x2048.Idx → EReal) (h : V m c main_v4 = P) :
    iblk m c 9 t (ix2 r e) = P (ix2 (⟨t.val * 128 + r, by omega⟩ : Fin 8192) e) := by
  subst h
  blk_ext [iblk, idx t]
theorem iblk_10 (r : Fin 128) (e : Fin 2048) (P : S8192x2048.Idx → EReal) (h : V m c main_v5 = P) :
    iblk m c 10 t (ix2 r e) = P (ix2 (⟨t.val * 128 + r, by omega⟩ : Fin 8192) e) := by
  subst h
  blk_ext [iblk, idx t]
theorem iblk_11 (a b : Fin 1) (e : Fin 2048) (P : S2x1x2048.Idx → EReal) (h : V m c main_arg4 = P) :
    iblk m c 11 t (ix3 a b e) = P (ix3 (⟨t.val / 32, by omega⟩ : Fin 2) (0 : Fin 1) e) := by
  subst h
  blk_ext [iblk, idx t]
theorem iblk_12 (e : Fin 2048) (f : Fin 512) (P : S2048x512.Idx → EReal) (h : V m c main_v6 = P) :
    iblk m c 12 t (ix2 e f) = P (ix2 e f) := by
  subst h
  blk_ext [iblk, idx t]
theorem iblk_13 (e : Fin 2048) (f : Fin 512) (P : S2048x512.Idx → EReal) (h : V m c main_v7 = P) :
    iblk m c 13 t (ix2 e f) = P (ix2 e f) := by
  subst h
  blk_ext [iblk, idx t]
theorem iblk_14 (f : Fin 512) (e : Fin 2048) (P : S512x2048.Idx → EReal) (h : V m c main_v8 = P) :
    iblk m c 14 t (ix2 f e) = P (ix2 f e) := by
  subst h
  blk_ext [iblk, idx t]

theorem prod_0 (r : Fin 128) (x : Fin 2048) :
    iblk m c 0 t (ix2 (⟨16 * r + x / 128, by omega⟩ : Fin 2048) (⟨x % 128, by omega⟩ : Fin 128))
      = (m ((c : Thread nD τ).loc main_arg0)) (ix3 (0 : Fin 8) (⟨t.val * 128 + r, by omega⟩ : Fin 8192) x) := by
  refine (iblk_0 m c t _ _ _ (V_y m c)).trans ?_
  refine (ytk_at _ 0 t _ _).trans ?_
  refine congrArg₂ (fun a b => (m ((c : Thread nD τ).loc main_arg0)) (ix3 (0 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem prod_1 (r : Fin 128) (x : Fin 2048) :
    iblk m c 1 t (ix2 (⟨16 * r + x / 128, by omega⟩ : Fin 2048) (⟨x % 128, by omega⟩ : Fin 128))
      = (m ((c : Thread nD τ).loc main_arg0)) (ix3 (1 : Fin 8) (⟨t.val * 128 + r, by omega⟩ : Fin 8192) x) := by
  refine (iblk_1 m c t _ _ _ (V_y m c)).trans ?_
  refine (ytk_at _ 1 t _ _).trans ?_
  refine congrArg₂ (fun a b => (m ((c : Thread nD τ).loc main_arg0)) (ix3 (1 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem prod_2 (r : Fin 128) (x : Fin 2048) :
    iblk m c 2 t (ix2 (⟨16 * r + x / 128, by omega⟩ : Fin 2048) (⟨x % 128, by omega⟩ : Fin 128))
      = (m ((c : Thread nD τ).loc main_arg0)) (ix3 (2 : Fin 8) (⟨t.val * 128 + r, by omega⟩ : Fin 8192) x) := by
  refine (iblk_2 m c t _ _ _ (V_y m c)).trans ?_
  refine (ytk_at _ 2 t _ _).trans ?_
  refine congrArg₂ (fun a b => (m ((c : Thread nD τ).loc main_arg0)) (ix3 (2 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem prod_3 (r : Fin 128) (x : Fin 2048) :
    iblk m c 3 t (ix2 (⟨16 * r + x / 128, by omega⟩ : Fin 2048) (⟨x % 128, by omega⟩ : Fin 128))
      = (m ((c : Thread nD τ).loc main_arg0)) (ix3 (3 : Fin 8) (⟨t.val * 128 + r, by omega⟩ : Fin 8192) x) := by
  refine (iblk_3 m c t _ _ _ (V_y m c)).trans ?_
  refine (ytk_at _ 3 t _ _).trans ?_
  refine congrArg₂ (fun a b => (m ((c : Thread nD τ).loc main_arg0)) (ix3 (3 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem prod_4 (r : Fin 128) (x : Fin 2048) :
    iblk m c 4 t (ix2 (⟨16 * r + x / 128, by omega⟩ : Fin 2048) (⟨x % 128, by omega⟩ : Fin 128))
      = (m ((c : Thread nD τ).loc main_arg0)) (ix3 (4 : Fin 8) (⟨t.val * 128 + r, by omega⟩ : Fin 8192) x) := by
  refine (iblk_4 m c t _ _ _ (V_y m c)).trans ?_
  refine (ytk_at _ 4 t _ _).trans ?_
  refine congrArg₂ (fun a b => (m ((c : Thread nD τ).loc main_arg0)) (ix3 (4 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem prod_5 (r : Fin 128) (x : Fin 2048) :
    iblk m c 5 t (ix2 (⟨16 * r + x / 128, by omega⟩ : Fin 2048) (⟨x % 128, by omega⟩ : Fin 128))
      = (m ((c : Thread nD τ).loc main_arg0)) (ix3 (5 : Fin 8) (⟨t.val * 128 + r, by omega⟩ : Fin 8192) x) := by
  refine (iblk_5 m c t _ _ _ (V_y m c)).trans ?_
  refine (ytk_at _ 5 t _ _).trans ?_
  refine congrArg₂ (fun a b => (m ((c : Thread nD τ).loc main_arg0)) (ix3 (5 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem prod_6 (r : Fin 128) (x : Fin 2048) :
    iblk m c 6 t (ix2 (⟨16 * r + x / 128, by omega⟩ : Fin 2048) (⟨x % 128, by omega⟩ : Fin 128))
      = (m ((c : Thread nD τ).loc main_arg0)) (ix3 (6 : Fin 8) (⟨t.val * 128 + r, by omega⟩ : Fin 8192) x) := by
  refine (iblk_6 m c t _ _ _ (V_y m c)).trans ?_
  refine (ytk_at _ 6 t _ _).trans ?_
  refine congrArg₂ (fun a b => (m ((c : Thread nD τ).loc main_arg0)) (ix3 (6 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem prod_7 (r : Fin 128) (x : Fin 2048) :
    iblk m c 7 t (ix2 (⟨16 * r + x / 128, by omega⟩ : Fin 2048) (⟨x % 128, by omega⟩ : Fin 128))
      = (m ((c : Thread nD τ).loc main_arg0)) (ix3 (7 : Fin 8) (⟨t.val * 128 + r, by omega⟩ : Fin 8192) x) := by
  refine (iblk_7 m c t _ _ _ (V_y m c)).trans ?_
  refine (ytk_at _ 7 t _ _).trans ?_
  refine congrArg₂ (fun a b => (m ((c : Thread nD τ).loc main_arg0)) (ix3 (7 : Fin 8) a b)) (Fin.ext ?_) (Fin.ext ?_)
  · exact (show t.val * 128 + (16 * r.val + x.val / 128) / 16 = t.val * 128 + r.val by omega)
  · exact (show (16 * r.val + x.val / 128) % 16 * 128 + x.val % 128 = x.val by omega)

theorem weight_blk (k : Fin 8) (r : Fin 128) :
    iblk m c 8 t (ix2 k r) = (m ((c : Thread nD τ).loc main_arg1)) (ix2 (⟨t.val * 128 + r, by omega⟩ : Fin 8192) k) :=
  (iblk_8 m c t _ _ _ (V_w m c)).trans (wT_at _ _ _)
end

/-- The layer's result of the launched arguments. -/
abbrev combined (R : Fin 8192) (C : Fin 2048) : EReal :=
  Cmb.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) R C

theorem routed_point (t : Fin 64) (r : Fin 128) (x : Fin 2048) :
    acc (iblk m c 0 t) (iblk m c 1 t) (iblk m c 2 t) (iblk m c 3 t) (iblk m c 4 t) (iblk m c 5 t) (iblk m c 6 t) (iblk m c 7 t) (iblk m c 8 t) (ix2 (⟨16 * r + x / 128, by omega⟩ : Fin 2048) (⟨x % 128, by omega⟩ : Fin 128))
      = Cmb.routed (m ((c : Thread nD τ).loc main_arg0)) (m ((c : Thread nD τ).loc main_arg1)) (⟨t.val * 128 + r, by omega⟩ : Fin 8192) x := by
  have ht : tok (ix2 (⟨16 * r + x / 128, by omega⟩ : Fin 2048) (⟨x % 128, by omega⟩ : Fin 128)) = r :=
    Fin.ext (show (16 * r.val + x.val / 128) / 16 = r.val by omega)
  unfold acc Cmb.routed
  rw [ht]
  simp only [weight_blk m c t, prod_0 m c t, prod_1 m c t, prod_2 m c t, prod_3 m c t, prod_4 m c t, prod_5 m c t, prod_6 m c t, prod_7 m c t]

/-- What a grid point writes. -/
theorem point (t : Fin 64) (r : Fin 128) (x : Fin 2048) :
    outsAt0 m c t (ix2 r x) = combined m c (⟨t.val * 128 + r, by omega⟩ : Fin 8192) x := by
  unfold outsAt0 out0_A_15
  frame_out
  have e := scratch_at c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _)
    (iblk m c 0 t) (iblk m c 1 t) (iblk m c 2 t) (iblk m c 3 t) (iblk m c 4 t) (iblk m c 5 t) (iblk m c 6 t) (iblk m c 7 t) (iblk m c 8 t) _ (trips_eq : Scf.trips (0#32) (Scalar.addi 0#32 32#32) 1#32 = 32)
  refine (congrFun (congrArg (fun z => k0_pay1 (k0_pay14 (iblk m c 9 t) (iblk m c 12 t) (iblk m c 13 t) (iblk m c 14 t)) z (iblk m c 10 t) (iblk m c 11 t))
    (lay_stores _ _ e)) (ix2 r x)).trans ?_
  rw [pay1_at, pay14_at, lay_at, routed_point m c t]
  unfold combined Cmb.out Cmb.shared
  simp only [iblk_9 m c t _ _ _ (V_h m c), iblk_10 m c t _ _ _ (V_x m c), iblk_11 m c t _ _ _ _ (V_m m c), iblk_12 m c t _ _ _ (V_g m c),
    iblk_13 m c t _ _ _ (V_u m c), iblk_14 m c t _ _ _ (V_d m c), rows_at]
  have e2 : (⟨t.val / 32, by omega⟩ : Fin 2) = ⟨(t.val * 128 + r.val) / 4096, by omega⟩ := Fin.ext (show t.val / 32 = (t.val * 128 + r.val) / 4096 by omega)
  rw [e2]

/-- The same at a block's own index, for the row and the column that it stands for. -/
theorem point_at (t : Fin 64) (y : S128x2048.Idx) (R : Fin 8192) (C : Fin 2048) (hR : (R : ℕ) = t.val * 128 + y 0)
    (hC : (C : ℕ) = y 1) : outsAt0 m c t y = combined m c R C := by
  have hy : y = ix2 (y 0 : Fin 128) (y 1 : Fin 2048) := by funext a; fin_cases a <;> rfl
  have eR : (⟨t.val * 128 + (y 0 : Fin 128), by omega⟩ : Fin 8192) = R := Fin.ext hR.symm
  have eC : (y 1 : Fin 2048) = C := Fin.ext hC.symm
  rw [hy, ← eR, ← eC]
  exact point m c t _ _

/-- The array after the run. -/
theorem final : (dats m 0 c).arrAt 15 cfg0.N = fun i => combined m c (i 0) (i 1) := by
  refine (dats m 0 c).arrAt_eq_of_covers 15 _ (by decide +kernel) fun t hf y => ?_
  blk_simp
  rw [after0_15]
  refine point_at m c t _ _ _ ?_ ?_
  all_goals (blk_simp [idx t] <;> try omega)

end Cert.CombineIdeal.Cmb
-- ==== Proof.CmbRef.lean ====
module

public import proofs.«01_k».proof.Proof.CmbBlk
public import proofs.«01_k».proof.Proof.Gen.CombineRefIdeal.Run

/-! # The combine: the reference, entry by entry -/

@[expose] public section

set_option maxRecDepth 16384
noncomputable section
namespace Cert.CombineRefIdeal.Cmb
open Idealize.ShloMosaic Idealize.ShloMosaic.TcCoe Idealize.SL.Sem
open Cert.CombineRefIdeal Cert.CombineRefIdeal.Gen

/-- The logistic function of a whole array. -/
def gate (a : FVec Ideal S8192x512 .f32) : FVec Ideal S8192x512 .f32 :=
  Host.divf (broadcastInDim S8192x512 ![] bcast_S_S8192x512 (constant S_ .f32 0x3F800000#32))
    (addf (broadcastInDim S8192x512 ![] bcast_S_S8192x512 (constant S_ .f32 0x3F800000#32)) (Host.exp (Host.negf a)))

/-- A product of the tokens with a projection of the shared expert. -/
def proj (h : FVec Ideal S8192x2048 .f32) (w : FVec Ideal S2048x512 .f32) : FVec Ideal S8192x512 .f32 :=
  Host.dotGeneral dot_S8192x2048_S2048x512_S8192x512_1_0_0_1_n_n none h w

/-- The shared expert. -/
def sharedArr (h : FVec Ideal S8192x2048 .f32) (wg wu : FVec Ideal S2048x512 .f32) (wd : FVec Ideal S512x2048 .f32) : FVec Ideal S8192x2048 .f32 :=
  Host.dotGeneral dot_S8192x512_S512x2048_S8192x2048_1_0_0_1_n_n none (mulf (mulf (proj h wg) (gate (proj h wg))) (proj h wu)) wd

/-- The routed experts' outputs under their weights, before their sum. -/
def weighted (y : FVec Ideal S8x8192x2048 .f32) (w : FVec Ideal S8192x8 .f32) : FVec Ideal S8x8192x2048 .f32 :=
  mulf (broadcastInDim S8x8192x2048 ![0, 1, 2] bcast_S8x8192x1_S8x8192x2048_0_1_2 (broadcastInDim S8x8192x1 ![0, 1] bcast_S8x8192_S8x8192x1_0_1
    (transpose S8x8192 [1, 0] w transposes_S8192x8_S8x8192_1_0))) y

/-- The routed experts' sum. -/
def routedArr (y : FVec Ideal S8x8192x2048 .f32) (w : FVec Ideal S8192x8 .f32) : FVec Ideal S8192x2048 .f32 :=
  Host.reduceAdd (weighted y w) (constant S_ .f32 0x00000000#32) reducesTo_S8x8192x2048_S8192x2048_d0 h_S_

/-- The reference's result from its argument arrays. -/
def ref (y : FVec Ideal S8x8192x2048 .f32) (w : FVec Ideal S8192x8 .f32) (h : FVec Ideal S8192x2048 .f32) (x : FVec Ideal S2x4096x2048 .f32)
    (g : FVec Ideal S2x1x2048 .f32) (wg wu : FVec Ideal S2048x512 .f32) (wd : FVec Ideal S512x2048 .f32) : FVec Ideal S8192x2048 .f32 :=
  shapeCast S8192x2048 (addf x (mulf (broadcastInDim S2x4096x2048 ![0, 1, 2] bcast_S2x1x2048_S2x4096x2048_0_1_2 g)
    (shapeCast S2x4096x2048 (addf (routedArr y w) (sharedArr h wg wu wd)) shapeCasts_S8192x2048_S2x4096x2048))) shapeCasts_S2x4096x2048_S8192x2048

theorem gate_at (a : FVec Ideal S8192x512 .f32) (R : Fin 8192) (C : Fin 512) : gate a (ix2 R C) = Ideal.logistic (a (ix2 R C)) := by
  pointwise [gate]
  rfl

theorem proj_at (h : FVec Ideal S8192x2048 .f32) (w : FVec Ideal S2048x512 .f32) (R : Fin 8192) (f : Fin 512) :
    proj h w (ix2 R f) = ∑ e : Fin 2048, h (ix2 R e) * w (ix2 e f) := by
  pointwise [proj]

theorem shared_at (h : FVec Ideal S8192x2048 .f32) (wg wu : FVec Ideal S2048x512 .f32) (wd : FVec Ideal S512x2048 .f32) (R : Fin 8192) (C : Fin 2048) :
    sharedArr h wg wu wd (ix2 R C) = Cmb.shared h wg wu wd R C := by
  unfold Cmb.shared
  simp only [← proj_at, ← gate_at]
  unfold sharedArr
  generalize proj h wg = p
  generalize proj h wu = q
  generalize gate p = g
  pointwise []

theorem weighted_at (y : FVec Ideal S8x8192x2048 .f32) (w : FVec Ideal S8192x8 .f32) (k : Fin 8) (R : Fin 8192) (C : Fin 2048) :
    weighted y w (ix3 k R C) = w (ix2 R k) * y (ix3 k R C) := by
  pointwise [weighted]

theorem routed_at (y : FVec Ideal S8x8192x2048 .f32) (w : FVec Ideal S8192x8 .f32) (R : Fin 8192) (C : Fin 2048) :
    routedArr y w (ix2 R C) = Cmb.routed y w R C := by
  have e : routedArr y w (ix2 R C) = ∑ k : Fin 8, weighted y w (ix3 k R C) := by
    unfold routedArr
    generalize weighted y w = z
    pointwise []
  rw [e, Fin.sum_univ_eight]
  simp only [weighted_at]
  rfl

theorem ref_at (y : FVec Ideal S8x8192x2048 .f32) (w : FVec Ideal S8192x8 .f32) (h : FVec Ideal S8192x2048 .f32) (x : FVec Ideal S2x4096x2048 .f32)
    (g : FVec Ideal S2x1x2048 .f32) (wg wu : FVec Ideal S2048x512 .f32) (wd : FVec Ideal S512x2048 .f32) (R : Fin 8192) (C : Fin 2048) :
    ref y w h x g wg wu wd (ix2 R C) = Cmb.out y w h x g wg wu wd R C := by
  unfold Cmb.out
  rw [← routed_at, ← shared_at]
  unfold ref
  generalize routedArr y w = a
  generalize sharedArr h wg wu wd = b
  pointwise []

end Cert.CombineRefIdeal.Cmb
-- ==== Proof.CmbClaims.lean ====
module

public import proofs.«01_k».proof.Defs
public import proofs.«01_k».proof.Proof.Gen.Combine.Frame
public import proofs.«01_k».proof.Proof.CmbRef
public import Idealize.ShloMosaic.Lib.Quiescent

/-! # The claims about the combine -/

@[expose] public section

noncomputable section
open Idealize.ShloMosaic Idealize.ShloMosaic.TcCoe Idealize.SL.Sem

namespace Cert.Proof.CmbClaims

theorem frame_p : Cert.quiescent_Combine := fun m ρ _ => Cert.Combine.Gen.frame m ρ
theorem frame_pi : Cert.quiescent_CombineIdeal := fun m ρ _ => Cert.CombineIdeal.Gen.frame m ρ
theorem frame_ri : Cert.quiescent_CombineRefIdeal := fun m ρ _ =>
  (θ_run Cert.CombineRefIdeal.defs _ _).mono (fun r h => ⟨fun c => (h c).2,
      Idealize.ShloMosaic.sem_eq_zero_of_no_sems (by decide) r.2⟩)
    (Cert.CombineRefIdeal.Value.run (F := Ideal) m ρ)

/-- The kernel's array and the reference's hold the same residual and gated sum of the experts. -/
theorem algebraic : Cert.algebraic_CombineIdeal_CombineRefIdeal := by
  intro m ρ m' ρ' hpre hagree
  refine ⟨_, Cert.CombineIdeal.Value.run_blocks m ρ, ?_⟩
  refine (θ_run Cert.CombineRefIdeal.defs _ _).mono (fun _ h c => ⟨(h c).1.trans ?_, (h c).2⟩)
    (Cert.CombineRefIdeal.Value.run (F := Ideal) m' ρ')
  obtain ⟨e0, e1, e2, e3, e4, e5, e6, e7⟩ := hagree c
  rw [e0, e1, e2, e3, e4, e5, e6, e7, Cert.CombineIdeal.Cmb.final m c]
  funext i
  have hi : i = ix2 (i 0) (i 1) := by funext a; fin_cases a <;> rfl
  rw [hi]
  exact Cert.CombineRefIdeal.Cmb.ref_at _ _ _ _ _ _ _ _ _ _

end Cert.Proof.CmbClaims
-- ==== Proof.lean ====
module

public import proofs.«01_k».proof.Proof.Gen.Combine
public import proofs.«01_k».proof.Proof.Gen.CombineIdeal
public import proofs.«01_k».proof.Proof.Gen.CombineRefIdeal
public import proofs.«01_k».proof.Proof.Gen.Combine.Skeleton
public import proofs.«01_k».proof.Proof.Gen.Combine.Launch
public import proofs.«01_k».proof.Proof.Gen.Combine.Points
public import proofs.«01_k».proof.Proof.Gen.Combine.Frame
public import proofs.«01_k».proof.Proof.Gen.CombineIdeal.Skeleton
public import proofs.«01_k».proof.Proof.Gen.CombineIdeal.Launch
public import proofs.«01_k».proof.Proof.Gen.CombineIdeal.Points
public import proofs.«01_k».proof.Proof.Gen.CombineIdeal.Frame
public import proofs.«01_k».proof.Proof.Gen.CombineIdeal.Value
public import proofs.«01_k».proof.Proof.Gen.CombineRefIdeal.Run
public import proofs.«01_k».proof.Proof.Gen.InProj
public import proofs.«01_k».proof.Proof.Gen.InProjIdeal
public import proofs.«01_k».proof.Proof.Gen.InProjRefIdeal
public import proofs.«01_k».proof.Proof.Gen.InProj.Skeleton
public import proofs.«01_k».proof.Proof.Gen.InProj.Launch
public import proofs.«01_k».proof.Proof.Gen.InProj.Points
public import proofs.«01_k».proof.Proof.Gen.InProj.Frame
public import proofs.«01_k».proof.Proof.Gen.InProjIdeal.Skeleton
public import proofs.«01_k».proof.Proof.Gen.InProjIdeal.Launch
public import proofs.«01_k».proof.Proof.Gen.InProjIdeal.Points
public import proofs.«01_k».proof.Proof.Gen.InProjIdeal.Frame
public import proofs.«01_k».proof.Proof.Gen.InProjIdeal.Value
public import proofs.«01_k».proof.Proof.Gen.InProjRefIdeal.Run
public import proofs.«01_k».proof.Proof.Gen.Merge
public import proofs.«01_k».proof.Proof.Gen.MergeIdeal
public import proofs.«01_k».proof.Proof.Gen.MergeRefIdeal
public import proofs.«01_k».proof.Proof.Gen.Merge.Skeleton
public import proofs.«01_k».proof.Proof.Gen.Merge.Launch
public import proofs.«01_k».proof.Proof.Gen.Merge.Points
public import proofs.«01_k».proof.Proof.Gen.Merge.Frame
public import proofs.«01_k».proof.Proof.Gen.MergeIdeal.Skeleton
public import proofs.«01_k».proof.Proof.Gen.MergeIdeal.Launch
public import proofs.«01_k».proof.Proof.Gen.MergeIdeal.Points
public import proofs.«01_k».proof.Proof.Gen.MergeIdeal.Frame
public import proofs.«01_k».proof.Proof.Gen.MergeIdeal.Value
public import proofs.«01_k».proof.Proof.Gen.MergeRefIdeal.Run
public import proofs.«01_k».proof.Defs
public import proofs.«01_k».proof.Proof.Gen.Attn
public import proofs.«01_k».proof.Proof.Gen.AttnIdeal
public import proofs.«01_k».proof.Proof.Gen.AttnRefIdeal
public import proofs.«01_k».proof.Proof.Claims
public import proofs.«01_k».proof.Proof.InpClaims
public import proofs.«01_k».proof.Proof.MrgClaims
public import proofs.«01_k».proof.Proof.CmbClaims

/-! # The certificate's claim -/

@[expose] public section

noncomputable section

namespace Cert.Proof

open Idealize.ShloMosaic Idealize.SL.Sem

/-- The precondition's own side conditions. -/
theorem facts_pre : Cert.Pre_qk_finite.Facts := by
  constructor <;> decide

theorem claim : Cert.Claim :=
  ⟨Cert.Attn.Gen.facts, Cert.AttnIdeal.Gen.facts, Cert.AttnRefIdeal.Gen.facts,
    Cert.InProj.Gen.facts, Cert.InProjIdeal.Gen.facts, Cert.InProjRefIdeal.Gen.facts,
    Cert.Merge.Gen.facts, Cert.MergeIdeal.Gen.facts, Cert.MergeRefIdeal.Gen.facts,
    Cert.Combine.Gen.facts, Cert.CombineIdeal.Gen.facts, Cert.CombineRefIdeal.Gen.facts, facts_pre,
    AttnClaims.frame_p, AttnClaims.frame_pi, fun m ρ _ => AttnClaims.frame_pi m ρ trivial,
    AttnClaims.frame_ri, fun m ρ _ => AttnClaims.frame_ri m ρ trivial,
    InpClaims.frame_p, InpClaims.frame_pi, InpClaims.frame_ri,
    MrgClaims.frame_p, MrgClaims.frame_pi, MrgClaims.frame_ri,
    CmbClaims.frame_p, CmbClaims.frame_pi, CmbClaims.frame_ri,
    trivial, @AttnClaims.algebraic facts_pre,
    trivial, InpClaims.algebraic,
    trivial, MrgClaims.algebraic,
    trivial, CmbClaims.algebraic⟩

end Cert.Proof
